-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumIdeal_finite1 [hPre_finite1 : Cert.Pre_finite1.Facts] (m : (ℓ : Loc Cert.SpectrumIdeal.nD Cert.SpectrumIdeal.τ Cert.SpectrumIdeal.sig) → Buf (Elt Ideal) ℓ) : Prop :=
  ∀ c : Dev Cert.SpectrumIdeal.nD,
    (Cert.Pre_finite1.fn (F := Ideal) (m ((c.tc : Thread Cert.SpectrumIdeal.nD Cert.SpectrumIdeal.τ).loc Cert.SpectrumIdeal.main_arg0)) (m ((c.tc : Thread Cert.SpectrumIdeal.nD Cert.SpectrumIdeal.τ).loc Cert.SpectrumIdeal.main_arg1))) = (fun _ => 1#1)

def Pre_SpectrumReferenceIdeal (m : (ℓ : Loc Cert.SpectrumReferenceIdeal.nD Cert.SpectrumReferenceIdeal.τ Cert.SpectrumReferenceIdeal.sig) → Buf (Elt Ideal) ℓ) : Prop :=
  True

def Pre_SpectrumReferenceIdeal_finite1 [hPre_finite1 : Cert.Pre_finite1.Facts] (m : (ℓ : Loc Cert.SpectrumReferenceIdeal.nD Cert.SpectrumReferenceIdeal.τ Cert.SpectrumReferenceIdeal.sig) → Buf (Elt Ideal) ℓ) : Prop :=
  ∀ c : Dev Cert.SpectrumReferenceIdeal.nD,
    (Cert.Pre_finite1.fn (F := Ideal) (m ((c.tc : Thread Cert.SpectrumReferenceIdeal.nD Cert.SpectrumReferenceIdeal.τ).loc Cert.SpectrumReferenceIdeal.main_arg0)) (m ((c.tc : Thread Cert.SpectrumReferenceIdeal.nD Cert.SpectrumReferenceIdeal.τ).loc Cert.SpectrumReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1))
      ∧ r.2.sem = fun _ => 0)

def quiescent_SpectrumIdeal_pre_finite1 [hSpectrumIdeal : Cert.SpectrumIdeal.Facts] [hPre_finite1 : Cert.Pre_finite1.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal_finite1 m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1))
      ∧ r.2.sem = fun _ => 0)

def quiescent_SpectrumReferenceIdeal [hSpectrumReferenceIdeal : Cert.SpectrumReferenceIdeal.Facts] : Prop :=
  ∀ (m : (ℓ : Loc Cert.SpectrumReferenceIdeal.nD Cert.SpectrumReferenceIdeal.τ Cert.SpectrumReferenceIdeal.sig) → Buf (Elt Ideal) ℓ) (g : Dev Cert.SpectrumReferenceIdeal.nD → PrngReg), Pre_SpectrumReferenceIdeal m →
    θ_run (Cert.SpectrumReferenceIdeal.defs (F := Ideal)) (onTc (τ := Cert.SpectrumReferenceIdeal.τ) (Cert.SpectrumReferenceIdeal.main (F := Ideal))) ⟨m, fun _ => 0, g⟩ (fun r => (∀ c : Dev Cert.SpectrumReferenceIdeal.nD,
      r.2.mem ((c.tc : Thread Cert.SpectrumReferenceIdeal.nD Cert.SpectrumReferenceIdeal.τ).loc Cert.SpectrumReferenceIdeal.main_arg0) = m ((c.tc : Thread Cert.SpectrumReferenceIdeal.nD Cert.SpectrumReferenceIdeal.τ).loc Cert.SpectrumReferenceIdeal.main_arg0)
      ∧ r.2.mem ((c.tc : Thread Cert.SpectrumReferenceIdeal.nD Cert.SpectrumReferenceIdeal.τ).loc Cert.SpectrumReferenceIdeal.main_arg1) = m ((c.tc : Thread Cert.SpectrumReferenceIdeal.nD Cert.SpectrumReferenceIdeal.τ).loc Cert.SpectrumReferenceIdeal.main_arg1))
      ∧ r.2.sem = fun _ => 0)

def quiescent_SpectrumReferenceIdeal_pre_finite1 [hSpectrumReferenceIdeal : Cert.SpectrumReferenceIdeal.Facts] [hPre_finite1 : Cert.Pre_finite1.Facts] : Prop :=
  ∀ (m : (ℓ : Loc Cert.SpectrumReferenceIdeal.nD Cert.SpectrumReferenceIdeal.τ Cert.SpectrumReferenceIdeal.sig) → Buf (Elt Ideal) ℓ) (g : Dev Cert.SpectrumReferenceIdeal.nD → PrngReg), Pre_SpectrumReferenceIdeal_finite1 m →
    θ_run (Cert.SpectrumReferenceIdeal.defs (F := Ideal)) (onTc (τ := Cert.SpectrumReferenceIdeal.τ) (Cert.SpectrumReferenceIdeal.main (F := Ideal))) ⟨m, fun _ => 0, g⟩ (fun r => (∀ c : Dev Cert.SpectrumReferenceIdeal.nD,
      r.2.mem ((c.tc : Thread Cert.SpectrumReferenceIdeal.nD Cert.SpectrumReferenceIdeal.τ).loc Cert.SpectrumReferenceIdeal.main_arg0) = m ((c.tc : Thread Cert.SpectrumReferenceIdeal.nD Cert.SpectrumReferenceIdeal.τ).loc Cert.SpectrumReferenceIdeal.main_arg0)
      ∧ r.2.mem ((c.tc : Thread Cert.SpectrumReferenceIdeal.nD Cert.SpectrumReferenceIdeal.τ).loc Cert.SpectrumReferenceIdeal.main_arg1) = m ((c.tc : Thread Cert.SpectrumReferenceIdeal.nD Cert.SpectrumReferenceIdeal.τ).loc Cert.SpectrumReferenceIdeal.main_arg1))
      ∧ r.2.sem = fun _ => 0)

def preserves_Kernel_KernelIdeal : Prop :=
  IdealRules.named_const.Statement Cert.KernelIdeal.κ "inv_n" .f32 0x34AAAAAB#32 ((1 / 3145728 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Spectrum_SpectrumIdeal : Prop :=
  True

def algebraic_SpectrumIdeal_SpectrumReferenceIdeal_pre_finite1 [hSpectrumIdeal : Cert.SpectrumIdeal.Facts] [hSpectrumReferenceIdeal : Cert.SpectrumReferenceIdeal.Facts] [hPre_finite1 : Cert.Pre_finite1.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumReferenceIdeal.nD Cert.SpectrumReferenceIdeal.τ Cert.SpectrumReferenceIdeal.sig) → Buf (Elt Ideal) ℓ) (g' : Dev Cert.SpectrumReferenceIdeal.nD → PrngReg), Pre_SpectrumIdeal_finite1 m →
    (∀ c : Dev Cert.SpectrumIdeal.nD,
      m' ((c.tc : Thread Cert.SpectrumReferenceIdeal.nD Cert.SpectrumReferenceIdeal.τ).loc Cert.SpectrumReferenceIdeal.main_arg0) = m ((c.tc : Thread Cert.SpectrumIdeal.nD Cert.SpectrumIdeal.τ).loc Cert.SpectrumIdeal.main_arg0)
      ∧ m' ((c.tc : Thread Cert.SpectrumReferenceIdeal.nD Cert.SpectrumReferenceIdeal.τ).loc Cert.SpectrumReferenceIdeal.main_arg1) = m ((c.tc : Thread Cert.SpectrumIdeal.nD Cert.SpectrumIdeal.τ).loc Cert.SpectrumIdeal.main_arg1)) →
    ∃ (v0 : (c : Dev Cert.SpectrumIdeal.nD) → Buf (Elt Ideal) ((c.tc : Thread Cert.SpectrumIdeal.nD Cert.SpectrumIdeal.τ).loc Cert.SpectrumIdeal.main_v0)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v0) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1))
      ∧ θ_run (Cert.SpectrumReferenceIdeal.defs (F := Ideal)) (onTc (τ := Cert.SpectrumReferenceIdeal.τ) (Cert.SpectrumReferenceIdeal.main (F := Ideal))) ⟨m', fun _ => 0, g'⟩ (fun r => ∀ c : Dev Cert.SpectrumReferenceIdeal.nD,
          r.2.mem ((c.tc : Thread Cert.SpectrumReferenceIdeal.nD Cert.SpectrumReferenceIdeal.τ).loc Cert.SpectrumReferenceIdeal.main_v33) = v0 c
          ∧ r.2.mem ((c.tc : Thread Cert.SpectrumReferenceIdeal.nD Cert.SpectrumReferenceIdeal.τ).loc Cert.SpectrumReferenceIdeal.main_arg0) = m' ((c.tc : Thread Cert.SpectrumReferenceIdeal.nD Cert.SpectrumReferenceIdeal.τ).loc Cert.SpectrumReferenceIdeal.main_arg0)
          ∧ r.2.mem ((c.tc : Thread Cert.SpectrumReferenceIdeal.nD Cert.SpectrumReferenceIdeal.τ).loc Cert.SpectrumReferenceIdeal.main_arg1) = m' ((c.tc : Thread Cert.SpectrumReferenceIdeal.nD Cert.SpectrumReferenceIdeal.τ).loc Cert.SpectrumReferenceIdeal.main_arg1))

def Claim : Prop :=
  ∃ (hKernel : Cert.Kernel.Facts) (hKernelIdeal : Cert.KernelIdeal.Facts) (hReferenceIdeal : Cert.ReferenceIdeal.Facts) (hSpectrum : Cert.Spectrum.Facts) (hSpectrumIdeal : Cert.SpectrumIdeal.Facts) (hSpectrumReferenceIdeal : Cert.SpectrumReferenceIdeal.Facts) (hPre_finite : Cert.Pre_finite.Facts) (hPre_finite1 : Cert.Pre_finite1.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Spectrum (hSpectrum := hSpectrum)
    ∧ quiescent_SpectrumIdeal (hSpectrumIdeal := hSpectrumIdeal)
    ∧ quiescent_SpectrumIdeal_pre_finite1 (hSpectrumIdeal := hSpectrumIdeal) (hPre_finite1 := hPre_finite1)
    ∧ quiescent_SpectrumReferenceIdeal (hSpectrumReferenceIdeal := hSpectrumReferenceIdeal)
    ∧ quiescent_SpectrumReferenceIdeal_pre_finite1 (hSpectrumReferenceIdeal := hSpectrumReferenceIdeal) (hPre_finite1 := hPre_finite1)
    ∧ preserves_Kernel_KernelIdeal
    ∧ algebraic_KernelIdeal_ReferenceIdeal_pre_finite (hKernelIdeal := hKernelIdeal) (hReferenceIdeal := hReferenceIdeal) (hPre_finite := hPre_finite)
    ∧ preserves_Spectrum_SpectrumIdeal
    ∧ algebraic_SpectrumIdeal_SpectrumReferenceIdeal_pre_finite1 (hSpectrumIdeal := hSpectrumIdeal) (hSpectrumReferenceIdeal := hSpectrumReferenceIdeal) (hPre_finite1 := hPre_finite1)
-- ==== Pre_finite.lean ====
abbrev S2x4096x12x64 : Shape := ⟨4, ![2, 4096, 12, 64]⟩
abbrev S_ : Shape := ⟨0, ![]⟩

class Facts : Prop where
  bcast_S_S2x4096x12x64 : S_.BroadcastsInDim S2x4096x12x64 (![] : Fin 0 → Fin S2x4096x12x64.rank)
  reducesTo_S2x4096x12x64_S_d0_1_2_3 : S2x4096x12x64.ReducesTo [0, 1, 2, 3] S_
  h_S_ : 0 < S_.numel

variable [Facts]

def fn {F : FTy → Type} [FloatOps F] (main_arg0 : FVec F S2x4096x12x64 .f32) (main_arg1 : FVec F S2x4096x12x64 .f32) (main_arg2 : FVec F S2x4096x12x64 .f32) : IVec S_ 1 :=
  let main_cst : FVec F S_ .f32 := constant S_ .f32 0xFF800000#32
  let main_v0 : FVec F S2x4096x12x64 .f32 := broadcastInDim S2x4096x12x64 ![] bcast_S_S2x4096x12x64 main_cst
  let main_v1 : IVec S2x4096x12x64 1 := cmpf .ogt main_arg0 main_v0
  let main_cst_0 : FVec F S_ .f32 := constant S_ .f32 0x7F800000#32
  let main_v2 : FVec F S2x4096x12x64 .f32 := broadcastInDim S2x4096x12x64 ![] bcast_S_S2x4096x12x64 main_cst_0
  let main_v3 : IVec S2x4096x12x64 1 := cmpf .olt main_arg0 main_v2
  let main_v4 : IVec S2x4096x12x64 1 := andi main_v1 main_v3
  let main_c : IVec S_ 1 := constantI S_ 1 1#1
  let main_v5 : IVec S_ 1 := (fun x v => Host.reduce IntOp.andi x v reducesTo_S2x4096x12x64_S_d0_1_2_3 h_S_) main_v4 main_c
  let main_cst_1 : FVec F S_ .f32 := constant S_ .f32 0xFF800000#32
  let main_v6 : FVec F S2x4096x12x64 .f32 := broadcastInDim S2x4096x12x64 ![] bcast_S_S2x4096x12x64 main_cst_1
  let main_v7 : IVec S2x4096x12x64 1 := cmpf .ogt main_arg1 main_v6
  let main_cst_2 : FVec F S_ .f32 := constant S_ .f32 0x7F800000#32
  let main_v8 : FVec F S2x4096x12x64 .f32 := broadcastInDim S2x4096x12x64 ![] bcast_S_S2x4096x12x64 main_cst_2
  let main_v9 : IVec S2x4096x12x64 1 := cmpf .olt main_arg1 main_v8
  let main_v10 : IVec S2x4096x12x64 1 := andi main_v7 main_v9
  let main_c_3 : IVec S_ 1 := constantI S_ 1 1#1
  let main_v11 : IVec S_ 1 := (fun x v => Host.reduce IntOp.andi x v reducesTo_S2x4096x12x64_S_d0_1_2_3 h_S_) main_v10 main_c_3
  let main_v12 : IVec S_ 1 := andi main_v5 main_v11
  main_v12
-- ==== Pre_finite1.lean ====
abbrev S2x4096x12x64 : Shape := ⟨4, ![2, 4096, 12, 64]⟩
abbrev S_ : Shape := ⟨0, ![]⟩

class Facts : Prop where
  bcast_S_S2x4096x12x64 : S_.BroadcastsInDim S2x4096x12x64 (![] : Fin 0 → Fin S2x4096x12x64.rank)
  reducesTo_S2x4096x12x64_S_d0_1_2_3 : S2x4096x12x64.ReducesTo [0, 1, 2, 3] S_
  h_S_ : 0 < S_.numel

variable [Facts]

def fn {F : FTy → Type} [FloatOps F] (main_arg0 : FVec F S2x4096x12x64 .f32) (main_arg1 : FVec F S2x4096x12x64 .f32) : IVec S_ 1 :=
  let main_cst : FVec F S_ .f32 := constant S_ .f32 0xFF800000#32
  let main_v0 : FVec F S2x4096x12x64 .f32 := broadcastInDim S2x4096x12x64 ![] bcast_S_S2x4096x12x64 main_cst
  let main_v1 : IVec S2x4096x12x64 1 := cmpf .ogt main_arg0 main_v0
  let main_cst_0 : FVec F S_ .f32 := constant S_ .f32 0x7F800000#32
  let main_v2 : FVec F S2x4096x12x64 .f32 := broadcastInDim S2x4096x12x64 ![] bcast_S_S2x4096x12x64 main_cst_0
  let main_v3 : IVec S2x4096x12x64 1 := cmpf .olt main_arg0 main_v2
  let main_v4 : IVec S2x4096x12x64 1 := andi main_v1 main_v3
  let main_c : IVec S_ 1 := constantI S_ 1 1#1
  let main_v5 : IVec S_ 1 := (fun x v => Host.reduce IntOp.andi x v reducesTo_S2x4096x12x64_S_d0_1_2_3 h_S_) main_v4 main_c
  let main_cst_1 : FVec F S_ .f32 := constant S_ .f32 0xFF800000#32
  let main_v6 : FVec F S2x4096x12x64 .f32 := broadcastInDim S2x4096x12x64 ![] bcast_S_S2x4096x12x64 main_cst_1
  let main_v7 : IVec S2x4096x12x64 1 := cmpf .ogt main_arg1 main_v6
  let main_cst_2 : FVec F S_ .f32 := constant S_ .f32 0x7F800000#32
  let main_v8 : FVec F S2x4096x12x64 .f32 := broadcastInDim S2x4096x12x64 ![] bcast_S_S2x4096x12x64 main_cst_2
  let main_v9 : IVec S2x4096x12x64 1 := cmpf .olt main_arg1 main_v8
  let main_v10 : IVec S2x4096x12x64 1 := andi main_v7 main_v9
  let main_c_3 : IVec S_ 1 := constantI S_ 1 1#1
  let main_v11 : IVec S_ 1 := (fun x v => Host.reduce IntOp.andi x v reducesTo_S2x4096x12x64_S_d0_1_2_3 h_S_) main_v10 main_c_3
  let main_v12 : IVec S_ 1 := andi main_v5 main_v11
  main_v12
-- ==== Kernel.lean ====
abbrev S2x4096x12x64 : Shape := ⟨4, ![2, 4096, 12, 64]⟩
abbrev S2x64x64x768 : Shape := ⟨4, ![2, 64, 64, 768]⟩
abbrev S2x64x768x64 : Shape := ⟨4, ![2, 64, 768, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x2x64x64 : Shape := ⟨4, ![2, 2, 64, 64]⟩
abbrev S2x4096x768 : Shape := ⟨3, ![2, 4096, 768]⟩
abbrev S2x520x768 : Shape := ⟨3, ![2, 520, 768]⟩
abbrev S2x1040x768 : Shape := ⟨3, ![2, 1040, 768]⟩
abbrev S1x64x128x64 : Shape := ⟨4, ![1, 64, 128, 64]⟩
abbrev S1x2x64x64 : Shape := ⟨4, ![1, 2, 64, 64]⟩
abbrev S64x1x64 : Shape := ⟨3, ![64, 1, 64]⟩
abbrev S1x64x64x64 : Shape := ⟨4, ![1, 64, 64, 64]⟩
abbrev S64x64x64 : Shape := ⟨3, ![64, 64, 64]⟩
abbrev S4096x64 : Shape := ⟨2, ![4096, 64]⟩
abbrev S64x4096 : Shape := ⟨2, ![64, 4096]⟩
abbrev S1x1x64x64 : Shape := ⟨4, ![1, 1, 64, 64]⟩
abbrev S1x512x768 : Shape := ⟨3, ![1, 512, 768]⟩
abbrev S2 : Shape := ⟨1, ![2]⟩
abbrev S8 : Shape := ⟨1, ![8]⟩
abbrev S2x8 : Shape := ⟨2, ![2, 8]⟩
abbrev S1x128 : Shape := ⟨2, ![1, 128]⟩
abbrev S1x64x64 : Shape := ⟨3, ![1, 64, 64]⟩
abbrev S1 : Shape := ⟨1, ![1]⟩
abbrev S1x1x1 : Shape := ⟨3, ![1, 1, 1]⟩
abbrev S1x1x128 : Shape := ⟨3, ![1, 1, 128]⟩
abbrev S1x1 : Shape := ⟨2, ![1, 1]⟩
abbrev S1x520x768 : Shape := ⟨3, ![1, 520, 768]⟩
abbrev S520x768 : Shape := ⟨2, ![520, 768]⟩
abbrev S512x768 : Shape := ⟨2, ![512, 768]⟩

abbrev nBuf : Space → Nat
  | .hbm => 39
  | .vmem => 18
  | .smem => 2
  | _ => 0

abbrev bufTy : (tb : Table) → Fin (tcTables nBuf tb) → BufTy
  | .hbm, ⟨0, _⟩ => ⟨S2x4096x12x64, .f32⟩
  | .hbm, ⟨1, _⟩ => ⟨S2x4096x12x64, .f32⟩
  | .hbm, ⟨2, _⟩ => ⟨S2x4096x12x64, .f32⟩
  | .hbm, ⟨3, _⟩ => ⟨S2x64x64x768, .f32⟩
  | .hbm, ⟨4, _⟩ => ⟨S2x64x768x64, .f32⟩
  | .hbm, ⟨5, _⟩ => ⟨S2x64x64x768, .f32⟩
  | .hbm, ⟨6, _⟩ => ⟨S2x64x768x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .i32⟩
  | .hbm, ⟨12, _⟩ => ⟨S64x1, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64, .f32⟩
  | .hbm, ⟨18, _⟩ => ⟨S_, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S2x2x64x64, .f32⟩
  | .hbm, ⟨33, _⟩ => ⟨S2x4096x768, .f32⟩
  | .hbm, ⟨34, _⟩ => ⟨S2x520x768, .f32⟩
  | .hbm, ⟨35, _⟩ => ⟨S2x520x768, .f32⟩
  | .hbm, ⟨36, _⟩ => ⟨S2x1040x768, .f32⟩
  | .hbm, ⟨37, _⟩ => ⟨S2x4096x768, .f32⟩
  | .hbm, ⟨38, _⟩ => ⟨S2x4096x12x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .f32⟩
  | .local _ .vmem, ⟨3, _⟩ => ⟨S1x64x128x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x2x64x64, .f32⟩
  | .local _ .vmem, ⟨9, _⟩ => ⟨S1x2x64x64, .f32⟩
  | .local _ .vmem, ⟨10, _⟩ => ⟨S2x2x64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S1x512x768, .f32⟩
  | .local _ .vmem, ⟨16, _⟩ => ⟨S1x512x768, .f32⟩
  | .local _ .vmem, ⟨17, _⟩ => ⟨S2x520x768, .f32⟩
  | .local _ .smem, ⟨0, _⟩ => ⟨S8, .i32⟩
  | .local _ .smem, ⟨1, _⟩ => ⟨S2x8, .f32⟩
  | _, _ => ⟨S2x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_cst_1 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_cst_2 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_v28 : Ref sig .tc := ⟨.hbm, 35, rfl⟩
abbrev main_call0_v29 : Ref sig .tc := ⟨.hbm, 36, rfl⟩
abbrev main_call0_v30 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc1_scratch2 : Ref sig .tc := ⟨.smem, 0, rfl⟩
abbrev cc1_scratch3 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v288 : BitVec 1 := Scalar.cmpi .eq arg1 c0_i32
  let v289 : BitVec 32 := Scalar.extui v288
  let c0_i32_99 : BitVec 32 := 0#32
  let v290 : BitVec 1 := Scalar.cmpi .ne v289 c0_i32_99
  v290

def k0_cond2 (i : grid0.Coords) : BitVec 1 :=
  let arg1 : BitVec 32 := BitVec.ofNat 32 (i 1).val
  let c0_i32_100 : BitVec 32 := 0#32
  let v291 : BitVec 1 := Scalar.cmpi .ne arg1 c0_i32_100
  let v292 : BitVec 32 := Scalar.extui v291
  let c0_i32_101 : BitVec 32 := 0#32
  let v293 : BitVec 1 := Scalar.cmpi .ne v292 c0_i32_101
  v293

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 8], ![false, false]⟩

def k1_off1 (i : grid1.Coords) (v6 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v7 : BitVec 32 := Scalar.addi v0 v6
  let c4096_i32 : BitVec 32 := 4096#32
  let v8 : BitVec 32 := Scalar.remsi v7 c4096_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  let c0_i32_318 : BitVec 32 := 0#32
  ![arg0.toNat, v26.toNat, 0]
def k1_cond2 (i : grid1.Coords) (v6 : BitVec 32) : BitVec 1 :=
  let arg1 : BitVec 32 := BitVec.ofNat 32 (i 1).val
  let c512_i32 : BitVec 32 := 512#32
  let v0 : BitVec 32 := Scalar.muli arg1 c512_i32
  let v7 : BitVec 32 := Scalar.addi v0 v6
  let c4096_i32 : BitVec 32 := 4096#32
  let v8 : BitVec 32 := Scalar.remsi v7 c4096_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  let c3576_i32 : BitVec 32 := 3576#32
  let v27 : BitVec 1 := Scalar.cmpi .sle v26 c3576_i32
  let v28 : BitVec 32 := Scalar.extui v27
  let c0_i32_8 : BitVec 32 := 0#32
  let v29 : BitVec 1 := Scalar.cmpi .ne v28 c0_i32_8
  v29

def k1_off2 (i : grid1.Coords) (v6 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v7 : BitVec 32 := Scalar.addi v0 v6
  let c4096_i32 : BitVec 32 := 4096#32
  let v8 : BitVec 32 := Scalar.remsi v7 c4096_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  let c3576_i32_314 : BitVec 32 := 3576#32
  let v563 : BitVec 32 := Scalar.subi v26 c3576_i32_314
  let c0_i32_319 : BitVec 32 := 0#32
  ![arg0.toNat, v563.toNat, 0]
def k1_cond3 (i : grid1.Coords) (v6 : BitVec 32) : BitVec 1 :=
  let arg1 : BitVec 32 := BitVec.ofNat 32 (i 1).val
  let c512_i32 : BitVec 32 := 512#32
  let v0 : BitVec 32 := Scalar.muli arg1 c512_i32
  let v7 : BitVec 32 := Scalar.addi v0 v6
  let c4096_i32 : BitVec 32 := 4096#32
  let v8 : BitVec 32 := Scalar.remsi v7 c4096_i32
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  let c3576_i32_9 : BitVec 32 := 3576#32
  let v30 : BitVec 1 := Scalar.cmpi .sgt v26 c3576_i32_9
  let v31 : BitVec 32 := Scalar.extui v30
  let c0_i32_10 : BitVec 32 := 0#32
  let v32 : BitVec 1 := Scalar.cmpi .ne v31 c0_i32_10
  v32

def k1_chk1 (i : grid1.Coords) (v6 : BitVec 32) : Prop :=
  (∀ (k1_h2 : k1_cond2 i v6 = 1#1), ∀ a, (k1_off1 i v6) a + S1x520x768.size a ≤ S2x4096x768.size a) ∧
  (∀ (k1_h3 : k1_cond3 i v6 = 1#1), ∀ a, (k1_off2 i v6) a + S1x520x768.size a ≤ S2x1040x768.size a)
theorem k1_off1_inb : ∀ (i : grid1.Coords) (v6 : BitVec 32) (k1_hw1 : k1_chk1 i v6), ∀ (k1_h2 : k1_cond2 i v6 = 1#1), ∀ a, (k1_off1 i v6) a + S1x520x768.size a ≤ S2x4096x768.size a := fun i v6 k1_hw1 k1_h2 => k1_hw1.1 k1_h2
theorem k1_off2_inb : ∀ (i : grid1.Coords) (v6 : BitVec 32) (k1_hw1 : k1_chk1 i v6), ∀ (k1_h3 : k1_cond3 i v6 = 1#1), ∀ a, (k1_off2 i v6) a + S1x520x768.size a ≤ S2x1040x768.size a := fun i v6 k1_hw1 k1_h3 => k1_hw1.2 k1_h3

def k1_off3 (i : grid1.Coords) (v33 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v34 : BitVec 32 := Scalar.addi v0 v33
  let c4096_i32_11 : BitVec 32 := 4096#32
  let v35 : BitVec 32 := Scalar.remsi v34 c4096_i32_11
  let c0_i32_13 : BitVec 32 := 0#32
  let v37 : BitVec 1 := Scalar.cmpi .sgt v35 c0_i32_13
  let v38 : BitVec 32 := Scalar.extui v37
  let c0_i32_14 : BitVec 32 := 0#32
  let v39 : BitVec 1 := Scalar.cmpi .slt v35 c0_i32_14
  let v40 : BitVec 32 := Scalar.extui v39
  let v41 : BitVec 32 := Scalar.subi v38 v40
  let c8_i32_12 : BitVec 32 := 8#32
  let c0_i32_15 : BitVec 32 := 0#32
  let v42 : BitVec 1 := Scalar.cmpi .sgt c8_i32_12 c0_i32_15
  let v43 : BitVec 32 := Scalar.extui v42
  let c0_i32_16 : BitVec 32 := 0#32
  let v44 : BitVec 1 := Scalar.cmpi .slt c8_i32_12 c0_i32_16
  let v45 : BitVec 32 := Scalar.extui v44
  let v46 : BitVec 32 := Scalar.subi v43 v45
  let v47 : BitVec 1 := Scalar.cmpi .ne v41 v46
  let v48 : BitVec 32 := Scalar.remsi v35 c8_i32_12
  let c0_i32_17 : BitVec 32 := 0#32
  let v49 : BitVec 1 := Scalar.cmpi .ne v48 c0_i32_17
  let v50 : BitVec 1 := Scalar.andi v47 v49
  let v36 : BitVec 32 := Scalar.divsi v35 c8_i32_12
  let c1_i32_18 : BitVec 32 := 1#32
  let v51 : BitVec 32 := Scalar.subi v36 c1_i32_18
  let v52 : BitVec 32 := Scalar.select v50 v51 v36
  let c8_i32_19 : BitVec 32 := 8#32
  let v53 : BitVec 32 := Scalar.muli v52 c8_i32_19
  let c0_i32_318 : BitVec 32 := 0#32
  ![arg0.toNat, v53.toNat, 0]
def k1_cond4 (i : grid1.Coords) (v33 : BitVec 32) : BitVec 1 :=
  let arg1 : BitVec 32 := BitVec.ofNat 32 (i 1).val
  let c512_i32 : BitVec 32 := 512#32
  let v0 : BitVec 32 := Scalar.muli arg1 c512_i32
  let v34 : BitVec 32 := Scalar.addi v0 v33
  let c4096_i32_11 : BitVec 32 := 4096#32
  let v35 : BitVec 32 := Scalar.remsi v34 c4096_i32_11
  let c0_i32_13 : BitVec 32 := 0#32
  let v37 : BitVec 1 := Scalar.cmpi .sgt v35 c0_i32_13
  let v38 : BitVec 32 := Scalar.extui v37
  let c0_i32_14 : BitVec 32 := 0#32
  let v39 : BitVec 1 := Scalar.cmpi .slt v35 c0_i32_14
  let v40 : BitVec 32 := Scalar.extui v39
  let v41 : BitVec 32 := Scalar.subi v38 v40
  let c8_i32_12 : BitVec 32 := 8#32
  let c0_i32_15 : BitVec 32 := 0#32
  let v42 : BitVec 1 := Scalar.cmpi .sgt c8_i32_12 c0_i32_15
  let v43 : BitVec 32 := Scalar.extui v42
  let c0_i32_16 : BitVec 32 := 0#32
  let v44 : BitVec 1 := Scalar.cmpi .slt c8_i32_12 c0_i32_16
  let v45 : BitVec 32 := Scalar.extui v44
  let v46 : BitVec 32 := Scalar.subi v43 v45
  let v47 : BitVec 1 := Scalar.cmpi .ne v41 v46
  let v48 : BitVec 32 := Scalar.remsi v35 c8_i32_12
  let c0_i32_17 : BitVec 32 := 0#32
  let v49 : BitVec 1 := Scalar.cmpi .ne v48 c0_i32_17
  let v50 : BitVec 1 := Scalar.andi v47 v49
  let v36 : BitVec 32 := Scalar.divsi v35 c8_i32_12
  let c1_i32_18 : BitVec 32 := 1#32
  let v51 : BitVec 32 := Scalar.subi v36 c1_i32_18
  let v52 : BitVec 32 := Scalar.select v50 v51 v36
  let c8_i32_19 : BitVec 32 := 8#32
  let v53 : BitVec 32 := Scalar.muli v52 c8_i32_19
  let c3576_i32_20 : BitVec 32 := 3576#32
  let v54 : BitVec 1 := Scalar.cmpi .sle v53 c3576_i32_20
  let v55 : BitVec 32 := Scalar.extui v54
  let c0_i32_21 : BitVec 32 := 0#32
  let v56 : BitVec 1 := Scalar.cmpi .ne v55 c0_i32_21
  v56

def k1_off4 (i : grid1.Coords) (v33 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v34 : BitVec 32 := Scalar.addi v0 v33
  let c4096_i32_11 : BitVec 32 := 4096#32
  let v35 : BitVec 32 := Scalar.remsi v34 c4096_i32_11
  let c0_i32_13 : BitVec 32 := 0#32
  let v37 : BitVec 1 := Scalar.cmpi .sgt v35 c0_i32_13
  let v38 : BitVec 32 := Scalar.extui v37
  let c0_i32_14 : BitVec 32 := 0#32
  let v39 : BitVec 1 := Scalar.cmpi .slt v35 c0_i32_14
  let v40 : BitVec 32 := Scalar.extui v39
  let v41 : BitVec 32 := Scalar.subi v38 v40
  let c8_i32_12 : BitVec 32 := 8#32
  let c0_i32_15 : BitVec 32 := 0#32
  let v42 : BitVec 1 := Scalar.cmpi .sgt c8_i32_12 c0_i32_15
  let v43 : BitVec 32 := Scalar.extui v42
  let c0_i32_16 : BitVec 32 := 0#32
  let v44 : BitVec 1 := Scalar.cmpi .slt c8_i32_12 c0_i32_16
  let v45 : BitVec 32 := Scalar.extui v44
  let v46 : BitVec 32 := Scalar.subi v43 v45
  let v47 : BitVec 1 := Scalar.cmpi .ne v41 v46
  let v48 : BitVec 32 := Scalar.remsi v35 c8_i32_12
  let c0_i32_17 : BitVec 32 := 0#32
  let v49 : BitVec 1 := Scalar.cmpi .ne v48 c0_i32_17
  let v50 : BitVec 1 := Scalar.andi v47 v49
  let v36 : BitVec 32 := Scalar.divsi v35 c8_i32_12
  let c1_i32_18 : BitVec 32 := 1#32
  let v51 : BitVec 32 := Scalar.subi v36 c1_i32_18
  let v52 : BitVec 32 := Scalar.select v50 v51 v36
  let c8_i32_19 : BitVec 32 := 8#32
  let v53 : BitVec 32 := Scalar.muli v52 c8_i32_19
  let c3576_i32_314 : BitVec 32 := 3576#32
  let v563 : BitVec 32 := Scalar.subi v53 c3576_i32_314
  let c0_i32_319 : BitVec 32 := 0#32
  ![arg0.toNat, v563.toNat, 0]
def k1_cond5 (i : grid1.Coords) (v33 : BitVec 32) : BitVec 1 :=
  let arg1 : BitVec 32 := BitVec.ofNat 32 (i 1).val
  let c512_i32 : BitVec 32 := 512#32
  let v0 : BitVec 32 := Scalar.muli arg1 c512_i32
  let v34 : BitVec 32 := Scalar.addi v0 v33
  let c4096_i32_11 : BitVec 32 := 4096#32
  let v35 : BitVec 32 := Scalar.remsi v34 c4096_i32_11
  let c0_i32_13 : BitVec 32 := 0#32
  let v37 : BitVec 1 := Scalar.cmpi .sgt v35 c0_i32_13
  let v38 : BitVec 32 := Scalar.extui v37
  let c0_i32_14 : BitVec 32 := 0#32
  let v39 : BitVec 1 := Scalar.cmpi .slt v35 c0_i32_14
  let v40 : BitVec 32 := Scalar.extui v39
  let v41 : BitVec 32 := Scalar.subi v38 v40
  let c8_i32_12 : BitVec 32 := 8#32
  let c0_i32_15 : BitVec 32 := 0#32
  let v42 : BitVec 1 := Scalar.cmpi .sgt c8_i32_12 c0_i32_15
  let v43 : BitVec 32 := Scalar.extui v42
  let c0_i32_16 : BitVec 32 := 0#32
  let v44 : BitVec 1 := Scalar.cmpi .slt c8_i32_12 c0_i32_16
  let v45 : BitVec 32 := Scalar.extui v44
  let v46 : BitVec 32 := Scalar.subi v43 v45
  let v47 : BitVec 1 := Scalar.cmpi .ne v41 v46
  let v48 : BitVec 32 := Scalar.remsi v35 c8_i32_12
  let c0_i32_17 : BitVec 32 := 0#32
  let v49 : BitVec 1 := Scalar.cmpi .ne v48 c0_i32_17
  let v50 : BitVec 1 := Scalar.andi v47 v49
  let v36 : BitVec 32 := Scalar.divsi v35 c8_i32_12
  let c1_i32_18 : BitVec 32 := 1#32
  let v51 : BitVec 32 := Scalar.subi v36 c1_i32_18
  let v52 : BitVec 32 := Scalar.select v50 v51 v36
  let c8_i32_19 : BitVec 32 := 8#32
  let v53 : BitVec 32 := Scalar.muli v52 c8_i32_19
  let c3576_i32_22 : BitVec 32 := 3576#32
  let v57 : BitVec 1 := Scalar.cmpi .sgt v53 c3576_i32_22
  let v58 : BitVec 32 := Scalar.extui v57
  let c0_i32_23 : BitVec 32 := 0#32
  let v59 : BitVec 1 := Scalar.cmpi .ne v58 c0_i32_23
  v59

def k1_chk2 (i : grid1.Coords) (v33 : BitVec 32) : Prop :=
  (∀ (k1_h4 : k1_cond4 i v33 = 1#1), ∀ a, (k1_off3 i v33) a + S1x520x768.size a ≤ S2x4096x768.size a) ∧
  (∀ (k1_h5 : k1_cond5 i v33 = 1#1), ∀ a, (k1_off4 i v33) a + S1x520x768.size a ≤ S2x1040x768.size a)
theorem k1_off3_inb : ∀ (i : grid1.Coords) (v33 : BitVec 32) (k1_hw2 : k1_chk2 i v33), ∀ (k1_h4 : k1_cond4 i v33 = 1#1), ∀ a, (k1_off3 i v33) a + S1x520x768.size a ≤ S2x4096x768.size a := fun i v33 k1_hw2 k1_h4 => k1_hw2.1 k1_h4
theorem k1_off4_inb : ∀ (i : grid1.Coords) (v33 : BitVec 32) (k1_hw2 : k1_chk2 i v33), ∀ (k1_h5 : k1_cond5 i v33 = 1#1), ∀ a, (k1_off4 i v33) a + S1x520x768.size a ≤ S2x1040x768.size a := fun i v33 k1_hw2 k1_h5 => k1_hw2.2 k1_h5

def k1_off5 (i : grid1.Coords) : Fin 3 → Nat :=
  let arg0 : BitVec 32 := BitVec.ofNat 32 (i 0).val
  let c0_i32_28 : BitVec 32 := 0#32
  let c0_i32_29 : BitVec 32 := 0#32
  ![arg0.toNat, 0, 0]
def k1_off6 (i : grid1.Coords) : Fin 2 → Nat :=
  let arg0 : BitVec 32 := BitVec.ofNat 32 (i 0).val
  let v93 : Index := Scalar.indexCast arg0
  let c0_43 : Index := 0#32
  ![v93.toNat, 0]
def k1_off7 (i : grid1.Coords) (v100 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v101 : BitVec 32 := Scalar.addi v0 v100
  let c4096_i32_47 : BitVec 32 := 4096#32
  let v102 : BitVec 32 := Scalar.remsi v101 c4096_i32_47
  let c0_i32_49 : BitVec 32 := 0#32
  let v104 : BitVec 1 := Scalar.cmpi .sgt v102 c0_i32_49
  let v105 : BitVec 32 := Scalar.extui v104
  let c0_i32_50 : BitVec 32 := 0#32
  let v106 : BitVec 1 := Scalar.cmpi .slt v102 c0_i32_50
  let v107 : BitVec 32 := Scalar.extui v106
  let v108 : BitVec 32 := Scalar.subi v105 v107
  let c8_i32_48 : BitVec 32 := 8#32
  let c0_i32_51 : BitVec 32 := 0#32
  let v109 : BitVec 1 := Scalar.cmpi .sgt c8_i32_48 c0_i32_51
  let v110 : BitVec 32 := Scalar.extui v109
  let c0_i32_52 : BitVec 32 := 0#32
  let v111 : BitVec 1 := Scalar.cmpi .slt c8_i32_48 c0_i32_52
  let v112 : BitVec 32 := Scalar.extui v111
  let v113 : BitVec 32 := Scalar.subi v110 v112
  let v114 : BitVec 1 := Scalar.cmpi .ne v108 v113
  let v115 : BitVec 32 := Scalar.remsi v102 c8_i32_48
  let c0_i32_53 : BitVec 32 := 0#32
  let v116 : BitVec 1 := Scalar.cmpi .ne v115 c0_i32_53
  let v117 : BitVec 1 := Scalar.andi v114 v116
  let v103 : BitVec 32 := Scalar.divsi v102 c8_i32_48
  let c1_i32_54 : BitVec 32 := 1#32
  let v118 : BitVec 32 := Scalar.subi v103 c1_i32_54
  let v119 : BitVec 32 := Scalar.select v117 v118 v103
  let c8_i32_55 : BitVec 32 := 8#32
  let v120 : BitVec 32 := Scalar.muli v119 c8_i32_55
  let c0_i32_318 : BitVec 32 := 0#32
  ![arg0.toNat, v120.toNat, 0]
def k1_cond6 (i : grid1.Coords) (v100 : BitVec 32) : BitVec 1 :=
  let arg1 : BitVec 32 := BitVec.ofNat 32 (i 1).val
  let c512_i32 : BitVec 32 := 512#32
  let v0 : BitVec 32 := Scalar.muli arg1 c512_i32
  let v101 : BitVec 32 := Scalar.addi v0 v100
  let c4096_i32_47 : BitVec 32 := 4096#32
  let v102 : BitVec 32 := Scalar.remsi v101 c4096_i32_47
  let c0_i32_49 : BitVec 32 := 0#32
  let v104 : BitVec 1 := Scalar.cmpi .sgt v102 c0_i32_49
  let v105 : BitVec 32 := Scalar.extui v104
  let c0_i32_50 : BitVec 32 := 0#32
  let v106 : BitVec 1 := Scalar.cmpi .slt v102 c0_i32_50
  let v107 : BitVec 32 := Scalar.extui v106
  let v108 : BitVec 32 := Scalar.subi v105 v107
  let c8_i32_48 : BitVec 32 := 8#32
  let c0_i32_51 : BitVec 32 := 0#32
  let v109 : BitVec 1 := Scalar.cmpi .sgt c8_i32_48 c0_i32_51
  let v110 : BitVec 32 := Scalar.extui v109
  let c0_i32_52 : BitVec 32 := 0#32
  let v111 : BitVec 1 := Scalar.cmpi .slt c8_i32_48 c0_i32_52
  let v112 : BitVec 32 := Scalar.extui v111
  let v113 : BitVec 32 := Scalar.subi v110 v112
  let v114 : BitVec 1 := Scalar.cmpi .ne v108 v113
  let v115 : BitVec 32 := Scalar.remsi v102 c8_i32_48
  let c0_i32_53 : BitVec 32 := 0#32
  let v116 : BitVec 1 := Scalar.cmpi .ne v115 c0_i32_53
  let v117 : BitVec 1 := Scalar.andi v114 v116
  let v103 : BitVec 32 := Scalar.divsi v102 c8_i32_48
  let c1_i32_54 : BitVec 32 := 1#32
  let v118 : BitVec 32 := Scalar.subi v103 c1_i32_54
  let v119 : BitVec 32 := Scalar.select v117 v118 v103
  let c8_i32_55 : BitVec 32 := 8#32
  let v120 : BitVec 32 := Scalar.muli v119 c8_i32_55
  let c3576_i32_56 : BitVec 32 := 3576#32
  let v121 : BitVec 1 := Scalar.cmpi .sle v120 c3576_i32_56
  let v122 : BitVec 32 := Scalar.extui v121
  let c0_i32_57 : BitVec 32 := 0#32
  let v123 : BitVec 1 := Scalar.cmpi .ne v122 c0_i32_57
  v123

def k1_off8 (i : grid1.Coords) (v100 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v101 : BitVec 32 := Scalar.addi v0 v100
  let c4096_i32_47 : BitVec 32 := 4096#32
  let v102 : BitVec 32 := Scalar.remsi v101 c4096_i32_47
  let c0_i32_49 : BitVec 32 := 0#32
  let v104 : BitVec 1 := Scalar.cmpi .sgt v102 c0_i32_49
  let v105 : BitVec 32 := Scalar.extui v104
  let c0_i32_50 : BitVec 32 := 0#32
  let v106 : BitVec 1 := Scalar.cmpi .slt v102 c0_i32_50
  let v107 : BitVec 32 := Scalar.extui v106
  let v108 : BitVec 32 := Scalar.subi v105 v107
  let c8_i32_48 : BitVec 32 := 8#32
  let c0_i32_51 : BitVec 32 := 0#32
  let v109 : BitVec 1 := Scalar.cmpi .sgt c8_i32_48 c0_i32_51
  let v110 : BitVec 32 := Scalar.extui v109
  let c0_i32_52 : BitVec 32 := 0#32
  let v111 : BitVec 1 := Scalar.cmpi .slt c8_i32_48 c0_i32_52
  let v112 : BitVec 32 := Scalar.extui v111
  let v113 : BitVec 32 := Scalar.subi v110 v112
  let v114 : BitVec 1 := Scalar.cmpi .ne v108 v113
  let v115 : BitVec 32 := Scalar.remsi v102 c8_i32_48
  let c0_i32_53 : BitVec 32 := 0#32
  let v116 : BitVec 1 := Scalar.cmpi .ne v115 c0_i32_53
  let v117 : BitVec 1 := Scalar.andi v114 v116
  let v103 : BitVec 32 := Scalar.divsi v102 c8_i32_48
  let c1_i32_54 : BitVec 32 := 1#32
  let v118 : BitVec 32 := Scalar.subi v103 c1_i32_54
  let v119 : BitVec 32 := Scalar.select v117 v118 v103
  let c8_i32_55 : BitVec 32 := 8#32
  let v120 : BitVec 32 := Scalar.muli v119 c8_i32_55
  let c3576_i32_314 : BitVec 32 := 3576#32
  let v563 : BitVec 32 := Scalar.subi v120 c3576_i32_314
  let c0_i32_319 : BitVec 32 := 0#32
  ![arg0.toNat, v563.toNat, 0]
def k1_cond7 (i : grid1.Coords) (v100 : BitVec 32) : BitVec 1 :=
  let arg1 : BitVec 32 := BitVec.ofNat 32 (i 1).val
  let c512_i32 : BitVec 32 := 512#32
  let v0 : BitVec 32 := Scalar.muli arg1 c512_i32
  let v101 : BitVec 32 := Scalar.addi v0 v100
  let c4096_i32_47 : BitVec 32 := 4096#32
  let v102 : BitVec 32 := Scalar.remsi v101 c4096_i32_47
  let c0_i32_49 : BitVec 32 := 0#32
  let v104 : BitVec 1 := Scalar.cmpi .sgt v102 c0_i32_49
  let v105 : BitVec 32 := Scalar.extui v104
  let c0_i32_50 : BitVec 32 := 0#32
  let v106 : BitVec 1 := Scalar.cmpi .slt v102 c0_i32_50
  let v107 : BitVec 32 := Scalar.extui v106
  let v108 : BitVec 32 := Scalar.subi v105 v107
  let c8_i32_48 : BitVec 32 := 8#32
  let c0_i32_51 : BitVec 32 := 0#32
  let v109 : BitVec 1 := Scalar.cmpi .sgt c8_i32_48 c0_i32_51
  let v110 : BitVec 32 := Scalar.extui v109
  let c0_i32_52 : BitVec 32 := 0#32
  let v111 : BitVec 1 := Scalar.cmpi .slt c8_i32_48 c0_i32_52
  let v112 : BitVec 32 := Scalar.extui v111
  let v113 : BitVec 32 := Scalar.subi v110 v112
  let v114 : BitVec 1 := Scalar.cmpi .ne v108 v113
  let v115 : BitVec 32 := Scalar.remsi v102 c8_i32_48
  let c0_i32_53 : BitVec 32 := 0#32
  let v116 : BitVec 1 := Scalar.cmpi .ne v115 c0_i32_53
  let v117 : BitVec 1 := Scalar.andi v114 v116
  let v103 : BitVec 32 := Scalar.divsi v102 c8_i32_48
  let c1_i32_54 : BitVec 32 := 1#32
  let v118 : BitVec 32 := Scalar.subi v103 c1_i32_54
  let v119 : BitVec 32 := Scalar.select v117 v118 v103
  let c8_i32_55 : BitVec 32 := 8#32
  let v120 : BitVec 32 := Scalar.muli v119 c8_i32_55
  let c3576_i32_58 : BitVec 32 := 3576#32
  let v124 : BitVec 1 := Scalar.cmpi .sgt v120 c3576_i32_58
  let v125 : BitVec 32 := Scalar.extui v124
  let c0_i32_59 : BitVec 32 := 0#32
  let v126 : BitVec 1 := Scalar.cmpi .ne v125 c0_i32_59
  v126

def k1_chk3 (i : grid1.Coords) (v100 : BitVec 32) : Prop :=
  (∀ (k1_h6 : k1_cond6 i v100 = 1#1), ∀ a, (k1_off7 i v100) a + S1x520x768.size a ≤ S2x4096x768.size a) ∧
  (∀ (k1_h7 : k1_cond7 i v100 = 1#1), ∀ a, (k1_off8 i v100) a + S1x520x768.size a ≤ S2x1040x768.size a)
theorem k1_off7_inb : ∀ (i : grid1.Coords) (v100 : BitVec 32) (k1_hw3 : k1_chk3 i v100), ∀ (k1_h6 : k1_cond6 i v100 = 1#1), ∀ a, (k1_off7 i v100) a + S1x520x768.size a ≤ S2x4096x768.size a := fun i v100 k1_hw3 k1_h6 => k1_hw3.1 k1_h6
theorem k1_off8_inb : ∀ (i : grid1.Coords) (v100 : BitVec 32) (k1_hw3 : k1_chk3 i v100), ∀ (k1_h7 : k1_cond7 i v100 = 1#1), ∀ a, (k1_off8 i v100) a + S1x520x768.size a ≤ S2x1040x768.size a := fun i v100 k1_hw3 k1_h7 => k1_hw3.2 k1_h7

def k1_off9 (i : grid1.Coords) : Fin 3 → Nat :=
  let arg0 : BitVec 32 := BitVec.ofNat 32 (i 0).val
  let c0_i32_64 : BitVec 32 := 0#32
  let c0_i32_65 : BitVec 32 := 0#32
  ![arg0.toNat, 0, 0]
def k1_off10 (i : grid1.Coords) : Fin 2 → Nat :=
  let arg0 : BitVec 32 := BitVec.ofNat 32 (i 0).val
  let v160 : Index := Scalar.indexCast arg0
  let c1_80 : Index := 1#32
  ![v160.toNat, 1]
def k1_off11 (i : grid1.Coords) (v170 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v171 : BitVec 32 := Scalar.addi v0 v170
  let c4096_i32_87 : BitVec 32 := 4096#32
  let v172 : BitVec 32 := Scalar.remsi v171 c4096_i32_87
  let c0_i32_89 : BitVec 32 := 0#32
  let v174 : BitVec 1 := Scalar.cmpi .sgt v172 c0_i32_89
  let v175 : BitVec 32 := Scalar.extui v174
  let c0_i32_90 : BitVec 32 := 0#32
  let v176 : BitVec 1 := Scalar.cmpi .slt v172 c0_i32_90
  let v177 : BitVec 32 := Scalar.extui v176
  let v178 : BitVec 32 := Scalar.subi v175 v177
  let c8_i32_88 : BitVec 32 := 8#32
  let c0_i32_91 : BitVec 32 := 0#32
  let v179 : BitVec 1 := Scalar.cmpi .sgt c8_i32_88 c0_i32_91
  let v180 : BitVec 32 := Scalar.extui v179
  let c0_i32_92 : BitVec 32 := 0#32
  let v181 : BitVec 1 := Scalar.cmpi .slt c8_i32_88 c0_i32_92
  let v182 : BitVec 32 := Scalar.extui v181
  let v183 : BitVec 32 := Scalar.subi v180 v182
  let v184 : BitVec 1 := Scalar.cmpi .ne v178 v183
  let v185 : BitVec 32 := Scalar.remsi v172 c8_i32_88
  let c0_i32_93 : BitVec 32 := 0#32
  let v186 : BitVec 1 := Scalar.cmpi .ne v185 c0_i32_93
  let v187 : BitVec 1 := Scalar.andi v184 v186
  let v173 : BitVec 32 := Scalar.divsi v172 c8_i32_88
  let c1_i32_94 : BitVec 32 := 1#32
  let v188 : BitVec 32 := Scalar.subi v173 c1_i32_94
  let v189 : BitVec 32 := Scalar.select v187 v188 v173
  let c8_i32_95 : BitVec 32 := 8#32
  let v190 : BitVec 32 := Scalar.muli v189 c8_i32_95
  let c0_i32_318 : BitVec 32 := 0#32
  ![arg0.toNat, v190.toNat, 0]
def k1_cond8 (i : grid1.Coords) (v170 : BitVec 32) : BitVec 1 :=
  let arg1 : BitVec 32 := BitVec.ofNat 32 (i 1).val
  let c512_i32 : BitVec 32 := 512#32
  let v0 : BitVec 32 := Scalar.muli arg1 c512_i32
  let v171 : BitVec 32 := Scalar.addi v0 v170
  let c4096_i32_87 : BitVec 32 := 4096#32
  let v172 : BitVec 32 := Scalar.remsi v171 c4096_i32_87
  let c0_i32_89 : BitVec 32 := 0#32
  let v174 : BitVec 1 := Scalar.cmpi .sgt v172 c0_i32_89
  let v175 : BitVec 32 := Scalar.extui v174
  let c0_i32_90 : BitVec 32 := 0#32
  let v176 : BitVec 1 := Scalar.cmpi .slt v172 c0_i32_90
  let v177 : BitVec 32 := Scalar.extui v176
  let v178 : BitVec 32 := Scalar.subi v175 v177
  let c8_i32_88 : BitVec 32 := 8#32
  let c0_i32_91 : BitVec 32 := 0#32
  let v179 : BitVec 1 := Scalar.cmpi .sgt c8_i32_88 c0_i32_91
  let v180 : BitVec 32 := Scalar.extui v179
  let c0_i32_92 : BitVec 32 := 0#32
  let v181 : BitVec 1 := Scalar.cmpi .slt c8_i32_88 c0_i32_92
  let v182 : BitVec 32 := Scalar.extui v181
  let v183 : BitVec 32 := Scalar.subi v180 v182
  let v184 : BitVec 1 := Scalar.cmpi .ne v178 v183
  let v185 : BitVec 32 := Scalar.remsi v172 c8_i32_88
  let c0_i32_93 : BitVec 32 := 0#32
  let v186 : BitVec 1 := Scalar.cmpi .ne v185 c0_i32_93
  let v187 : BitVec 1 := Scalar.andi v184 v186
  let v173 : BitVec 32 := Scalar.divsi v172 c8_i32_88
  let c1_i32_94 : BitVec 32 := 1#32
  let v188 : BitVec 32 := Scalar.subi v173 c1_i32_94
  let v189 : BitVec 32 := Scalar.select v187 v188 v173
  let c8_i32_95 : BitVec 32 := 8#32
  let v190 : BitVec 32 := Scalar.muli v189 c8_i32_95
  let c3576_i32_96 : BitVec 32 := 3576#32
  let v191 : BitVec 1 := Scalar.cmpi .sle v190 c3576_i32_96
  let v192 : BitVec 32 := Scalar.extui v191
  let c0_i32_97 : BitVec 32 := 0#32
  let v193 : BitVec 1 := Scalar.cmpi .ne v192 c0_i32_97
  v193

def k1_off12 (i : grid1.Coords) (v170 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v171 : BitVec 32 := Scalar.addi v0 v170
  let c4096_i32_87 : BitVec 32 := 4096#32
  let v172 : BitVec 32 := Scalar.remsi v171 c4096_i32_87
  let c0_i32_89 : BitVec 32 := 0#32
  let v174 : BitVec 1 := Scalar.cmpi .sgt v172 c0_i32_89
  let v175 : BitVec 32 := Scalar.extui v174
  let c0_i32_90 : BitVec 32 := 0#32
  let v176 : BitVec 1 := Scalar.cmpi .slt v172 c0_i32_90
  let v177 : BitVec 32 := Scalar.extui v176
  let v178 : BitVec 32 := Scalar.subi v175 v177
  let c8_i32_88 : BitVec 32 := 8#32
  let c0_i32_91 : BitVec 32 := 0#32
  let v179 : BitVec 1 := Scalar.cmpi .sgt c8_i32_88 c0_i32_91
  let v180 : BitVec 32 := Scalar.extui v179
  let c0_i32_92 : BitVec 32 := 0#32
  let v181 : BitVec 1 := Scalar.cmpi .slt c8_i32_88 c0_i32_92
  let v182 : BitVec 32 := Scalar.extui v181
  let v183 : BitVec 32 := Scalar.subi v180 v182
  let v184 : BitVec 1 := Scalar.cmpi .ne v178 v183
  let v185 : BitVec 32 := Scalar.remsi v172 c8_i32_88
  let c0_i32_93 : BitVec 32 := 0#32
  let v186 : BitVec 1 := Scalar.cmpi .ne v185 c0_i32_93
  let v187 : BitVec 1 := Scalar.andi v184 v186
  let v173 : BitVec 32 := Scalar.divsi v172 c8_i32_88
  let c1_i32_94 : BitVec 32 := 1#32
  let v188 : BitVec 32 := Scalar.subi v173 c1_i32_94
  let v189 : BitVec 32 := Scalar.select v187 v188 v173
  let c8_i32_95 : BitVec 32 := 8#32
  let v190 : BitVec 32 := Scalar.muli v189 c8_i32_95
  let c3576_i32_314 : BitVec 32 := 3576#32
  let v563 : BitVec 32 := Scalar.subi v190 c3576_i32_314
  let c0_i32_319 : BitVec 32 := 0#32
  ![arg0.toNat, v563.toNat, 0]
def k1_cond9 (i : grid1.Coords) (v170 : BitVec 32) : BitVec 1 :=
  let arg1 : BitVec 32 := BitVec.ofNat 32 (i 1).val
  let c512_i32 : BitVec 32 := 512#32
  let v0 : BitVec 32 := Scalar.muli arg1 c512_i32
  let v171 : BitVec 32 := Scalar.addi v0 v170
  let c4096_i32_87 : BitVec 32 := 4096#32
  let v172 : BitVec 32 := Scalar.remsi v171 c4096_i32_87
  let c0_i32_89 : BitVec 32 := 0#32
  let v174 : BitVec 1 := Scalar.cmpi .sgt v172 c0_i32_89
  let v175 : BitVec 32 := Scalar.extui v174
  let c0_i32_90 : BitVec 32 := 0#32
  let v176 : BitVec 1 := Scalar.cmpi .slt v172 c0_i32_90
  let v177 : BitVec 32 := Scalar.extui v176
  let v178 : BitVec 32 := Scalar.subi v175 v177
  let c8_i32_88 : BitVec 32 := 8#32
  let c0_i32_91 : BitVec 32 := 0#32
  let v179 : BitVec 1 := Scalar.cmpi .sgt c8_i32_88 c0_i32_91
  let v180 : BitVec 32 := Scalar.extui v179
  let c0_i32_92 : BitVec 32 := 0#32
  let v181 : BitVec 1 := Scalar.cmpi .slt c8_i32_88 c0_i32_92
  let v182 : BitVec 32 := Scalar.extui v181
  let v183 : BitVec 32 := Scalar.subi v180 v182
  let v184 : BitVec 1 := Scalar.cmpi .ne v178 v183
  let v185 : BitVec 32 := Scalar.remsi v172 c8_i32_88
  let c0_i32_93 : BitVec 32 := 0#32
  let v186 : BitVec 1 := Scalar.cmpi .ne v185 c0_i32_93
  let v187 : BitVec 1 := Scalar.andi v184 v186
  let v173 : BitVec 32 := Scalar.divsi v172 c8_i32_88
  let c1_i32_94 : BitVec 32 := 1#32
  let v188 : BitVec 32 := Scalar.subi v173 c1_i32_94
  let v189 : BitVec 32 := Scalar.select v187 v188 v173
  let c8_i32_95 : BitVec 32 := 8#32
  let v190 : BitVec 32 := Scalar.muli v189 c8_i32_95
  let c3576_i32_98 : BitVec 32 := 3576#32
  let v194 : BitVec 1 := Scalar.cmpi .sgt v190 c3576_i32_98
  let v195 : BitVec 32 := Scalar.extui v194
  let c0_i32_99 : BitVec 32 := 0#32
  let v196 : BitVec 1 := Scalar.cmpi .ne v195 c0_i32_99
  v196

def k1_chk4 (i : grid1.Coords) (v170 : BitVec 32) : Prop :=
  (∀ (k1_h8 : k1_cond8 i v170 = 1#1), ∀ a, (k1_off11 i v170) a + S1x520x768.size a ≤ S2x4096x768.size a) ∧
  (∀ (k1_h9 : k1_cond9 i v170 = 1#1), ∀ a, (k1_off12 i v170) a + S1x520x768.size a ≤ S2x1040x768.size a)
theorem k1_off11_inb : ∀ (i : grid1.Coords) (v170 : BitVec 32) (k1_hw4 : k1_chk4 i v170), ∀ (k1_h8 : k1_cond8 i v170 = 1#1), ∀ a, (k1_off11 i v170) a + S1x520x768.size a ≤ S2x4096x768.size a := fun i v170 k1_hw4 k1_h8 => k1_hw4.1 k1_h8
theorem k1_off12_inb : ∀ (i : grid1.Coords) (v170 : BitVec 32) (k1_hw4 : k1_chk4 i v170), ∀ (k1_h9 : k1_cond9 i v170 = 1#1), ∀ a, (k1_off12 i v170) a + S1x520x768.size a ≤ S2x1040x768.size a := fun i v170 k1_hw4 k1_h9 => k1_hw4.2 k1_h9

def k1_off13 (i : grid1.Coords) : Fin 3 → Nat :=
  let arg0 : BitVec 32 := BitVec.ofNat 32 (i 0).val
  let c0_i32_104 : BitVec 32 := 0#32
  let c0_i32_105 : BitVec 32 := 0#32
  ![arg0.toNat, 0, 0]
def k1_off14 (i : grid1.Coords) : Fin 2 → Nat :=
  let arg0 : BitVec 32 := BitVec.ofNat 32 (i 0).val
  let v230 : Index := Scalar.indexCast arg0
  let c2_120 : Index := 2#32
  ![v230.toNat, 2]
def k1_off15 (i : grid1.Coords) (v240 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v241 : BitVec 32 := Scalar.addi v0 v240
  let c4096_i32_127 : BitVec 32 := 4096#32
  let v242 : BitVec 32 := Scalar.remsi v241 c4096_i32_127
  let c0_i32_129 : BitVec 32 := 0#32
  let v244 : BitVec 1 := Scalar.cmpi .sgt v242 c0_i32_129
  let v245 : BitVec 32 := Scalar.extui v244
  let c0_i32_130 : BitVec 32 := 0#32
  let v246 : BitVec 1 := Scalar.cmpi .slt v242 c0_i32_130
  let v247 : BitVec 32 := Scalar.extui v246
  let v248 : BitVec 32 := Scalar.subi v245 v247
  let c8_i32_128 : BitVec 32 := 8#32
  let c0_i32_131 : BitVec 32 := 0#32
  let v249 : BitVec 1 := Scalar.cmpi .sgt c8_i32_128 c0_i32_131
  let v250 : BitVec 32 := Scalar.extui v249
  let c0_i32_132 : BitVec 32 := 0#32
  let v251 : BitVec 1 := Scalar.cmpi .slt c8_i32_128 c0_i32_132
  let v252 : BitVec 32 := Scalar.extui v251
  let v253 : BitVec 32 := Scalar.subi v250 v252
  let v254 : BitVec 1 := Scalar.cmpi .ne v248 v253
  let v255 : BitVec 32 := Scalar.remsi v242 c8_i32_128
  let c0_i32_133 : BitVec 32 := 0#32
  let v256 : BitVec 1 := Scalar.cmpi .ne v255 c0_i32_133
  let v257 : BitVec 1 := Scalar.andi v254 v256
  let v243 : BitVec 32 := Scalar.divsi v242 c8_i32_128
  let c1_i32_134 : BitVec 32 := 1#32
  let v258 : BitVec 32 := Scalar.subi v243 c1_i32_134
  let v259 : BitVec 32 := Scalar.select v257 v258 v243
  let c8_i32_135 : BitVec 32 := 8#32
  let v260 : BitVec 32 := Scalar.muli v259 c8_i32_135
  let c0_i32_318 : BitVec 32 := 0#32
  ![arg0.toNat, v260.toNat, 0]
def k1_cond10 (i : grid1.Coords) (v240 : BitVec 32) : BitVec 1 :=
  let arg1 : BitVec 32 := BitVec.ofNat 32 (i 1).val
  let c512_i32 : BitVec 32 := 512#32
  let v0 : BitVec 32 := Scalar.muli arg1 c512_i32
  let v241 : BitVec 32 := Scalar.addi v0 v240
  let c4096_i32_127 : BitVec 32 := 4096#32
  let v242 : BitVec 32 := Scalar.remsi v241 c4096_i32_127
  let c0_i32_129 : BitVec 32 := 0#32
  let v244 : BitVec 1 := Scalar.cmpi .sgt v242 c0_i32_129
  let v245 : BitVec 32 := Scalar.extui v244
  let c0_i32_130 : BitVec 32 := 0#32
  let v246 : BitVec 1 := Scalar.cmpi .slt v242 c0_i32_130
  let v247 : BitVec 32 := Scalar.extui v246
  let v248 : BitVec 32 := Scalar.subi v245 v247
  let c8_i32_128 : BitVec 32 := 8#32
  let c0_i32_131 : BitVec 32 := 0#32
  let v249 : BitVec 1 := Scalar.cmpi .sgt c8_i32_128 c0_i32_131
  let v250 : BitVec 32 := Scalar.extui v249
  let c0_i32_132 : BitVec 32 := 0#32
  let v251 : BitVec 1 := Scalar.cmpi .slt c8_i32_128 c0_i32_132
  let v252 : BitVec 32 := Scalar.extui v251
  let v253 : BitVec 32 := Scalar.subi v250 v252
  let v254 : BitVec 1 := Scalar.cmpi .ne v248 v253
  let v255 : BitVec 32 := Scalar.remsi v242 c8_i32_128
  let c0_i32_133 : BitVec 32 := 0#32
  let v256 : BitVec 1 := Scalar.cmpi .ne v255 c0_i32_133
  let v257 : BitVec 1 := Scalar.andi v254 v256
  let v243 : BitVec 32 := Scalar.divsi v242 c8_i32_128
  let c1_i32_134 : BitVec 32 := 1#32
  let v258 : BitVec 32 := Scalar.subi v243 c1_i32_134
  let v259 : BitVec 32 := Scalar.select v257 v258 v243
  let c8_i32_135 : BitVec 32 := 8#32
  let v260 : BitVec 32 := Scalar.muli v259 c8_i32_135
  let c3576_i32_136 : BitVec 32 := 3576#32
  let v261 : BitVec 1 := Scalar.cmpi .sle v260 c3576_i32_136
  let v262 : BitVec 32 := Scalar.extui v261
  let c0_i32_137 : BitVec 32 := 0#32
  let v263 : BitVec 1 := Scalar.cmpi .ne v262 c0_i32_137
  v263

def k1_off16 (i : grid1.Coords) (v240 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v241 : BitVec 32 := Scalar.addi v0 v240
  let c4096_i32_127 : BitVec 32 := 4096#32
  let v242 : BitVec 32 := Scalar.remsi v241 c4096_i32_127
  let c0_i32_129 : BitVec 32 := 0#32
  let v244 : BitVec 1 := Scalar.cmpi .sgt v242 c0_i32_129
  let v245 : BitVec 32 := Scalar.extui v244
  let c0_i32_130 : BitVec 32 := 0#32
  let v246 : BitVec 1 := Scalar.cmpi .slt v242 c0_i32_130
  let v247 : BitVec 32 := Scalar.extui v246
  let v248 : BitVec 32 := Scalar.subi v245 v247
  let c8_i32_128 : BitVec 32 := 8#32
  let c0_i32_131 : BitVec 32 := 0#32
  let v249 : BitVec 1 := Scalar.cmpi .sgt c8_i32_128 c0_i32_131
  let v250 : BitVec 32 := Scalar.extui v249
  let c0_i32_132 : BitVec 32 := 0#32
  let v251 : BitVec 1 := Scalar.cmpi .slt c8_i32_128 c0_i32_132
  let v252 : BitVec 32 := Scalar.extui v251
  let v253 : BitVec 32 := Scalar.subi v250 v252
  let v254 : BitVec 1 := Scalar.cmpi .ne v248 v253
  let v255 : BitVec 32 := Scalar.remsi v242 c8_i32_128
  let c0_i32_133 : BitVec 32 := 0#32
  let v256 : BitVec 1 := Scalar.cmpi .ne v255 c0_i32_133
  let v257 : BitVec 1 := Scalar.andi v254 v256
  let v243 : BitVec 32 := Scalar.divsi v242 c8_i32_128
  let c1_i32_134 : BitVec 32 := 1#32
  let v258 : BitVec 32 := Scalar.subi v243 c1_i32_134
  let v259 : BitVec 32 := Scalar.select v257 v258 v243
  let c8_i32_135 : BitVec 32 := 8#32
  let v260 : BitVec 32 := Scalar.muli v259 c8_i32_135
  let c3576_i32_314 : BitVec 32 := 3576#32
  let v563 : BitVec 32 := Scalar.subi v260 c3576_i32_314
  let c0_i32_319 : BitVec 32 := 0#32
  ![arg0.toNat, v563.toNat, 0]
def k1_cond11 (i : grid1.Coords) (v240 : BitVec 32) : BitVec 1 :=
  let arg1 : BitVec 32 := BitVec.ofNat 32 (i 1).val
  let c512_i32 : BitVec 32 := 512#32
  let v0 : BitVec 32 := Scalar.muli arg1 c512_i32
  let v241 : BitVec 32 := Scalar.addi v0 v240
  let c4096_i32_127 : BitVec 32 := 4096#32
  let v242 : BitVec 32 := Scalar.remsi v241 c4096_i32_127
  let c0_i32_129 : BitVec 32 := 0#32
  let v244 : BitVec 1 := Scalar.cmpi .sgt v242 c0_i32_129
  let v245 : BitVec 32 := Scalar.extui v244
  let c0_i32_130 : BitVec 32 := 0#32
  let v246 : BitVec 1 := Scalar.cmpi .slt v242 c0_i32_130
  let v247 : BitVec 32 := Scalar.extui v246
  let v248 : BitVec 32 := Scalar.subi v245 v247
  let c8_i32_128 : BitVec 32 := 8#32
  let c0_i32_131 : BitVec 32 := 0#32
  let v249 : BitVec 1 := Scalar.cmpi .sgt c8_i32_128 c0_i32_131
  let v250 : BitVec 32 := Scalar.extui v249
  let c0_i32_132 : BitVec 32 := 0#32
  let v251 : BitVec 1 := Scalar.cmpi .slt c8_i32_128 c0_i32_132
  let v252 : BitVec 32 := Scalar.extui v251
  let v253 : BitVec 32 := Scalar.subi v250 v252
  let v254 : BitVec 1 := Scalar.cmpi .ne v248 v253
  let v255 : BitVec 32 := Scalar.remsi v242 c8_i32_128
  let c0_i32_133 : BitVec 32 := 0#32
  let v256 : BitVec 1 := Scalar.cmpi .ne v255 c0_i32_133
  let v257 : BitVec 1 := Scalar.andi v254 v256
  let v243 : BitVec 32 := Scalar.divsi v242 c8_i32_128
  let c1_i32_134 : BitVec 32 := 1#32
  let v258 : BitVec 32 := Scalar.subi v243 c1_i32_134
  let v259 : BitVec 32 := Scalar.select v257 v258 v243
  let c8_i32_135 : BitVec 32 := 8#32
  let v260 : BitVec 32 := Scalar.muli v259 c8_i32_135
  let c3576_i32_138 : BitVec 32 := 3576#32
  let v264 : BitVec 1 := Scalar.cmpi .sgt v260 c3576_i32_138
  let v265 : BitVec 32 := Scalar.extui v264
  let c0_i32_139 : BitVec 32 := 0#32
  let v266 : BitVec 1 := Scalar.cmpi .ne v265 c0_i32_139
  v266

def k1_chk5 (i : grid1.Coords) (v240 : BitVec 32) : Prop :=
  (∀ (k1_h10 : k1_cond10 i v240 = 1#1), ∀ a, (k1_off15 i v240) a + S1x520x768.size a ≤ S2x4096x768.size a) ∧
  (∀ (k1_h11 : k1_cond11 i v240 = 1#1), ∀ a, (k1_off16 i v240) a + S1x520x768.size a ≤ S2x1040x768.size a)
theorem k1_off15_inb : ∀ (i : grid1.Coords) (v240 : BitVec 32) (k1_hw5 : k1_chk5 i v240), ∀ (k1_h10 : k1_cond10 i v240 = 1#1), ∀ a, (k1_off15 i v240) a + S1x520x768.size a ≤ S2x4096x768.size a := fun i v240 k1_hw5 k1_h10 => k1_hw5.1 k1_h10
theorem k1_off16_inb : ∀ (i : grid1.Coords) (v240 : BitVec 32) (k1_hw5 : k1_chk5 i v240), ∀ (k1_h11 : k1_cond11 i v240 = 1#1), ∀ a, (k1_off16 i v240) a + S1x520x768.size a ≤ S2x1040x768.size a := fun i v240 k1_hw5 k1_h11 => k1_hw5.2 k1_h11

def k1_off17 (i : grid1.Coords) : Fin 3 → Nat :=
  let arg0 : BitVec 32 := BitVec.ofNat 32 (i 0).val
  let c0_i32_144 : BitVec 32 := 0#32
  let c0_i32_145 : BitVec 32 := 0#32
  ![arg0.toNat, 0, 0]
def k1_off18 (i : grid1.Coords) : Fin 2 → Nat :=
  let arg0 : BitVec 32 := BitVec.ofNat 32 (i 0).val
  let v300 : Index := Scalar.indexCast arg0
  let c3_160 : Index := 3#32
  ![v300.toNat, 3]
def k1_off19 (i : grid1.Coords) (v310 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v311 : BitVec 32 := Scalar.addi v0 v310
  let c4096_i32_167 : BitVec 32 := 4096#32
  let v312 : BitVec 32 := Scalar.remsi v311 c4096_i32_167
  let c0_i32_169 : BitVec 32 := 0#32
  let v314 : BitVec 1 := Scalar.cmpi .sgt v312 c0_i32_169
  let v315 : BitVec 32 := Scalar.extui v314
  let c0_i32_170 : BitVec 32 := 0#32
  let v316 : BitVec 1 := Scalar.cmpi .slt v312 c0_i32_170
  let v317 : BitVec 32 := Scalar.extui v316
  let v318 : BitVec 32 := Scalar.subi v315 v317
  let c8_i32_168 : BitVec 32 := 8#32
  let c0_i32_171 : BitVec 32 := 0#32
  let v319 : BitVec 1 := Scalar.cmpi .sgt c8_i32_168 c0_i32_171
  let v320 : BitVec 32 := Scalar.extui v319
  let c0_i32_172 : BitVec 32 := 0#32
  let v321 : BitVec 1 := Scalar.cmpi .slt c8_i32_168 c0_i32_172
  let v322 : BitVec 32 := Scalar.extui v321
  let v323 : BitVec 32 := Scalar.subi v320 v322
  let v324 : BitVec 1 := Scalar.cmpi .ne v318 v323
  let v325 : BitVec 32 := Scalar.remsi v312 c8_i32_168
  let c0_i32_173 : BitVec 32 := 0#32
  let v326 : BitVec 1 := Scalar.cmpi .ne v325 c0_i32_173
  let v327 : BitVec 1 := Scalar.andi v324 v326
  let v313 : BitVec 32 := Scalar.divsi v312 c8_i32_168
  let c1_i32_174 : BitVec 32 := 1#32
  let v328 : BitVec 32 := Scalar.subi v313 c1_i32_174
  let v329 : BitVec 32 := Scalar.select v327 v328 v313
  let c8_i32_175 : BitVec 32 := 8#32
  let v330 : BitVec 32 := Scalar.muli v329 c8_i32_175
  let c0_i32_318 : BitVec 32 := 0#32
  ![arg0.toNat, v330.toNat, 0]
def k1_cond12 (i : grid1.Coords) (v310 : BitVec 32) : BitVec 1 :=
  let arg1 : BitVec 32 := BitVec.ofNat 32 (i 1).val
  let c512_i32 : BitVec 32 := 512#32
  let v0 : BitVec 32 := Scalar.muli arg1 c512_i32
  let v311 : BitVec 32 := Scalar.addi v0 v310
  let c4096_i32_167 : BitVec 32 := 4096#32
  let v312 : BitVec 32 := Scalar.remsi v311 c4096_i32_167
  let c0_i32_169 : BitVec 32 := 0#32
  let v314 : BitVec 1 := Scalar.cmpi .sgt v312 c0_i32_169
  let v315 : BitVec 32 := Scalar.extui v314
  let c0_i32_170 : BitVec 32 := 0#32
  let v316 : BitVec 1 := Scalar.cmpi .slt v312 c0_i32_170
  let v317 : BitVec 32 := Scalar.extui v316
  let v318 : BitVec 32 := Scalar.subi v315 v317
  let c8_i32_168 : BitVec 32 := 8#32
  let c0_i32_171 : BitVec 32 := 0#32
  let v319 : BitVec 1 := Scalar.cmpi .sgt c8_i32_168 c0_i32_171
  let v320 : BitVec 32 := Scalar.extui v319
  let c0_i32_172 : BitVec 32 := 0#32
  let v321 : BitVec 1 := Scalar.cmpi .slt c8_i32_168 c0_i32_172
  let v322 : BitVec 32 := Scalar.extui v321
  let v323 : BitVec 32 := Scalar.subi v320 v322
  let v324 : BitVec 1 := Scalar.cmpi .ne v318 v323
  let v325 : BitVec 32 := Scalar.remsi v312 c8_i32_168
  let c0_i32_173 : BitVec 32 := 0#32
  let v326 : BitVec 1 := Scalar.cmpi .ne v325 c0_i32_173
  let v327 : BitVec 1 := Scalar.andi v324 v326
  let v313 : BitVec 32 := Scalar.divsi v312 c8_i32_168
  let c1_i32_174 : BitVec 32 := 1#32
  let v328 : BitVec 32 := Scalar.subi v313 c1_i32_174
  let v329 : BitVec 32 := Scalar.select v327 v328 v313
  let c8_i32_175 : BitVec 32 := 8#32
  let v330 : BitVec 32 := Scalar.muli v329 c8_i32_175
  let c3576_i32_176 : BitVec 32 := 3576#32
  let v331 : BitVec 1 := Scalar.cmpi .sle v330 c3576_i32_176
  let v332 : BitVec 32 := Scalar.extui v331
  let c0_i32_177 : BitVec 32 := 0#32
  let v333 : BitVec 1 := Scalar.cmpi .ne v332 c0_i32_177
  v333

def k1_off20 (i : grid1.Coords) (v310 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v311 : BitVec 32 := Scalar.addi v0 v310
  let c4096_i32_167 : BitVec 32 := 4096#32
  let v312 : BitVec 32 := Scalar.remsi v311 c4096_i32_167
  let c0_i32_169 : BitVec 32 := 0#32
  let v314 : BitVec 1 := Scalar.cmpi .sgt v312 c0_i32_169
  let v315 : BitVec 32 := Scalar.extui v314
  let c0_i32_170 : BitVec 32 := 0#32
  let v316 : BitVec 1 := Scalar.cmpi .slt v312 c0_i32_170
  let v317 : BitVec 32 := Scalar.extui v316
  let v318 : BitVec 32 := Scalar.subi v315 v317
  let c8_i32_168 : BitVec 32 := 8#32
  let c0_i32_171 : BitVec 32 := 0#32
  let v319 : BitVec 1 := Scalar.cmpi .sgt c8_i32_168 c0_i32_171
  let v320 : BitVec 32 := Scalar.extui v319
  let c0_i32_172 : BitVec 32 := 0#32
  let v321 : BitVec 1 := Scalar.cmpi .slt c8_i32_168 c0_i32_172
  let v322 : BitVec 32 := Scalar.extui v321
  let v323 : BitVec 32 := Scalar.subi v320 v322
  let v324 : BitVec 1 := Scalar.cmpi .ne v318 v323
  let v325 : BitVec 32 := Scalar.remsi v312 c8_i32_168
  let c0_i32_173 : BitVec 32 := 0#32
  let v326 : BitVec 1 := Scalar.cmpi .ne v325 c0_i32_173
  let v327 : BitVec 1 := Scalar.andi v324 v326
  let v313 : BitVec 32 := Scalar.divsi v312 c8_i32_168
  let c1_i32_174 : BitVec 32 := 1#32
  let v328 : BitVec 32 := Scalar.subi v313 c1_i32_174
  let v329 : BitVec 32 := Scalar.select v327 v328 v313
  let c8_i32_175 : BitVec 32 := 8#32
  let v330 : BitVec 32 := Scalar.muli v329 c8_i32_175
  let c3576_i32_314 : BitVec 32 := 3576#32
  let v563 : BitVec 32 := Scalar.subi v330 c3576_i32_314
  let c0_i32_319 : BitVec 32 := 0#32
  ![arg0.toNat, v563.toNat, 0]
def k1_cond13 (i : grid1.Coords) (v310 : BitVec 32) : BitVec 1 :=
  let arg1 : BitVec 32 := BitVec.ofNat 32 (i 1).val
  let c512_i32 : BitVec 32 := 512#32
  let v0 : BitVec 32 := Scalar.muli arg1 c512_i32
  let v311 : BitVec 32 := Scalar.addi v0 v310
  let c4096_i32_167 : BitVec 32 := 4096#32
  let v312 : BitVec 32 := Scalar.remsi v311 c4096_i32_167
  let c0_i32_169 : BitVec 32 := 0#32
  let v314 : BitVec 1 := Scalar.cmpi .sgt v312 c0_i32_169
  let v315 : BitVec 32 := Scalar.extui v314
  let c0_i32_170 : BitVec 32 := 0#32
  let v316 : BitVec 1 := Scalar.cmpi .slt v312 c0_i32_170
  let v317 : BitVec 32 := Scalar.extui v316
  let v318 : BitVec 32 := Scalar.subi v315 v317
  let c8_i32_168 : BitVec 32 := 8#32
  let c0_i32_171 : BitVec 32 := 0#32
  let v319 : BitVec 1 := Scalar.cmpi .sgt c8_i32_168 c0_i32_171
  let v320 : BitVec 32 := Scalar.extui v319
  let c0_i32_172 : BitVec 32 := 0#32
  let v321 : BitVec 1 := Scalar.cmpi .slt c8_i32_168 c0_i32_172
  let v322 : BitVec 32 := Scalar.extui v321
  let v323 : BitVec 32 := Scalar.subi v320 v322
  let v324 : BitVec 1 := Scalar.cmpi .ne v318 v323
  let v325 : BitVec 32 := Scalar.remsi v312 c8_i32_168
  let c0_i32_173 : BitVec 32 := 0#32
  let v326 : BitVec 1 := Scalar.cmpi .ne v325 c0_i32_173
  let v327 : BitVec 1 := Scalar.andi v324 v326
  let v313 : BitVec 32 := Scalar.divsi v312 c8_i32_168
  let c1_i32_174 : BitVec 32 := 1#32
  let v328 : BitVec 32 := Scalar.subi v313 c1_i32_174
  let v329 : BitVec 32 := Scalar.select v327 v328 v313
  let c8_i32_175 : BitVec 32 := 8#32
  let v330 : BitVec 32 := Scalar.muli v329 c8_i32_175
  let c3576_i32_178 : BitVec 32 := 3576#32
  let v334 : BitVec 1 := Scalar.cmpi .sgt v330 c3576_i32_178
  let v335 : BitVec 32 := Scalar.extui v334
  let c0_i32_179 : BitVec 32 := 0#32
  let v336 : BitVec 1 := Scalar.cmpi .ne v335 c0_i32_179
  v336

def k1_chk6 (i : grid1.Coords) (v310 : BitVec 32) : Prop :=
  (∀ (k1_h12 : k1_cond12 i v310 = 1#1), ∀ a, (k1_off19 i v310) a + S1x520x768.size a ≤ S2x4096x768.size a) ∧
  (∀ (k1_h13 : k1_cond13 i v310 = 1#1), ∀ a, (k1_off20 i v310) a + S1x520x768.size a ≤ S2x1040x768.size a)
theorem k1_off19_inb : ∀ (i : grid1.Coords) (v310 : BitVec 32) (k1_hw6 : k1_chk6 i v310), ∀ (k1_h12 : k1_cond12 i v310 = 1#1), ∀ a, (k1_off19 i v310) a + S1x520x768.size a ≤ S2x4096x768.size a := fun i v310 k1_hw6 k1_h12 => k1_hw6.1 k1_h12
theorem k1_off20_inb : ∀ (i : grid1.Coords) (v310 : BitVec 32) (k1_hw6 : k1_chk6 i v310), ∀ (k1_h13 : k1_cond13 i v310 = 1#1), ∀ a, (k1_off20 i v310) a + S1x520x768.size a ≤ S2x1040x768.size a := fun i v310 k1_hw6 k1_h13 => k1_hw6.2 k1_h13

def k1_off21 (i : grid1.Coords) : Fin 3 → Nat :=
  let arg0 : BitVec 32 := BitVec.ofNat 32 (i 0).val
  let c0_i32_184 : BitVec 32 := 0#32
  let c0_i32_185 : BitVec 32 := 0#32
  ![arg0.toNat, 0, 0]
def k1_off22 (i : grid1.Coords) : Fin 2 → Nat :=
  let arg0 : BitVec 32 := BitVec.ofNat 32 (i 0).val
  let v370 : Index := Scalar.indexCast arg0
  let c4_200 : Index := 4#32
  ![v370.toNat, 4]
def k1_off23 (i : grid1.Coords) (v380 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v381 : BitVec 32 := Scalar.addi v0 v380
  let c4096_i32_207 : BitVec 32 := 4096#32
  let v382 : BitVec 32 := Scalar.remsi v381 c4096_i32_207
  let c0_i32_209 : BitVec 32 := 0#32
  let v384 : BitVec 1 := Scalar.cmpi .sgt v382 c0_i32_209
  let v385 : BitVec 32 := Scalar.extui v384
  let c0_i32_210 : BitVec 32 := 0#32
  let v386 : BitVec 1 := Scalar.cmpi .slt v382 c0_i32_210
  let v387 : BitVec 32 := Scalar.extui v386
  let v388 : BitVec 32 := Scalar.subi v385 v387
  let c8_i32_208 : BitVec 32 := 8#32
  let c0_i32_211 : BitVec 32 := 0#32
  let v389 : BitVec 1 := Scalar.cmpi .sgt c8_i32_208 c0_i32_211
  let v390 : BitVec 32 := Scalar.extui v389
  let c0_i32_212 : BitVec 32 := 0#32
  let v391 : BitVec 1 := Scalar.cmpi .slt c8_i32_208 c0_i32_212
  let v392 : BitVec 32 := Scalar.extui v391
  let v393 : BitVec 32 := Scalar.subi v390 v392
  let v394 : BitVec 1 := Scalar.cmpi .ne v388 v393
  let v395 : BitVec 32 := Scalar.remsi v382 c8_i32_208
  let c0_i32_213 : BitVec 32 := 0#32
  let v396 : BitVec 1 := Scalar.cmpi .ne v395 c0_i32_213
  let v397 : BitVec 1 := Scalar.andi v394 v396
  let v383 : BitVec 32 := Scalar.divsi v382 c8_i32_208
  let c1_i32_214 : BitVec 32 := 1#32
  let v398 : BitVec 32 := Scalar.subi v383 c1_i32_214
  let v399 : BitVec 32 := Scalar.select v397 v398 v383
  let c8_i32_215 : BitVec 32 := 8#32
  let v400 : BitVec 32 := Scalar.muli v399 c8_i32_215
  let c0_i32_318 : BitVec 32 := 0#32
  ![arg0.toNat, v400.toNat, 0]
def k1_cond14 (i : grid1.Coords) (v380 : BitVec 32) : BitVec 1 :=
  let arg1 : BitVec 32 := BitVec.ofNat 32 (i 1).val
  let c512_i32 : BitVec 32 := 512#32
  let v0 : BitVec 32 := Scalar.muli arg1 c512_i32
  let v381 : BitVec 32 := Scalar.addi v0 v380
  let c4096_i32_207 : BitVec 32 := 4096#32
  let v382 : BitVec 32 := Scalar.remsi v381 c4096_i32_207
  let c0_i32_209 : BitVec 32 := 0#32
  let v384 : BitVec 1 := Scalar.cmpi .sgt v382 c0_i32_209
  let v385 : BitVec 32 := Scalar.extui v384
  let c0_i32_210 : BitVec 32 := 0#32
  let v386 : BitVec 1 := Scalar.cmpi .slt v382 c0_i32_210
  let v387 : BitVec 32 := Scalar.extui v386
  let v388 : BitVec 32 := Scalar.subi v385 v387
  let c8_i32_208 : BitVec 32 := 8#32
  let c0_i32_211 : BitVec 32 := 0#32
  let v389 : BitVec 1 := Scalar.cmpi .sgt c8_i32_208 c0_i32_211
  let v390 : BitVec 32 := Scalar.extui v389
  let c0_i32_212 : BitVec 32 := 0#32
  let v391 : BitVec 1 := Scalar.cmpi .slt c8_i32_208 c0_i32_212
  let v392 : BitVec 32 := Scalar.extui v391
  let v393 : BitVec 32 := Scalar.subi v390 v392
  let v394 : BitVec 1 := Scalar.cmpi .ne v388 v393
  let v395 : BitVec 32 := Scalar.remsi v382 c8_i32_208
  let c0_i32_213 : BitVec 32 := 0#32
  let v396 : BitVec 1 := Scalar.cmpi .ne v395 c0_i32_213
  let v397 : BitVec 1 := Scalar.andi v394 v396
  let v383 : BitVec 32 := Scalar.divsi v382 c8_i32_208
  let c1_i32_214 : BitVec 32 := 1#32
  let v398 : BitVec 32 := Scalar.subi v383 c1_i32_214
  let v399 : BitVec 32 := Scalar.select v397 v398 v383
  let c8_i32_215 : BitVec 32 := 8#32
  let v400 : BitVec 32 := Scalar.muli v399 c8_i32_215
  let c3576_i32_216 : BitVec 32 := 3576#32
  let v401 : BitVec 1 := Scalar.cmpi .sle v400 c3576_i32_216
  let v402 : BitVec 32 := Scalar.extui v401
  let c0_i32_217 : BitVec 32 := 0#32
  let v403 : BitVec 1 := Scalar.cmpi .ne v402 c0_i32_217
  v403

def k1_off24 (i : grid1.Coords) (v380 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v381 : BitVec 32 := Scalar.addi v0 v380
  let c4096_i32_207 : BitVec 32 := 4096#32
  let v382 : BitVec 32 := Scalar.remsi v381 c4096_i32_207
  let c0_i32_209 : BitVec 32 := 0#32
  let v384 : BitVec 1 := Scalar.cmpi .sgt v382 c0_i32_209
  let v385 : BitVec 32 := Scalar.extui v384
  let c0_i32_210 : BitVec 32 := 0#32
  let v386 : BitVec 1 := Scalar.cmpi .slt v382 c0_i32_210
  let v387 : BitVec 32 := Scalar.extui v386
  let v388 : BitVec 32 := Scalar.subi v385 v387
  let c8_i32_208 : BitVec 32 := 8#32
  let c0_i32_211 : BitVec 32 := 0#32
  let v389 : BitVec 1 := Scalar.cmpi .sgt c8_i32_208 c0_i32_211
  let v390 : BitVec 32 := Scalar.extui v389
  let c0_i32_212 : BitVec 32 := 0#32
  let v391 : BitVec 1 := Scalar.cmpi .slt c8_i32_208 c0_i32_212
  let v392 : BitVec 32 := Scalar.extui v391
  let v393 : BitVec 32 := Scalar.subi v390 v392
  let v394 : BitVec 1 := Scalar.cmpi .ne v388 v393
  let v395 : BitVec 32 := Scalar.remsi v382 c8_i32_208
  let c0_i32_213 : BitVec 32 := 0#32
  let v396 : BitVec 1 := Scalar.cmpi .ne v395 c0_i32_213
  let v397 : BitVec 1 := Scalar.andi v394 v396
  let v383 : BitVec 32 := Scalar.divsi v382 c8_i32_208
  let c1_i32_214 : BitVec 32 := 1#32
  let v398 : BitVec 32 := Scalar.subi v383 c1_i32_214
  let v399 : BitVec 32 := Scalar.select v397 v398 v383
  let c8_i32_215 : BitVec 32 := 8#32
  let v400 : BitVec 32 := Scalar.muli v399 c8_i32_215
  let c3576_i32_314 : BitVec 32 := 3576#32
  let v563 : BitVec 32 := Scalar.subi v400 c3576_i32_314
  let c0_i32_319 : BitVec 32 := 0#32
  ![arg0.toNat, v563.toNat, 0]
def k1_cond15 (i : grid1.Coords) (v380 : BitVec 32) : BitVec 1 :=
  let arg1 : BitVec 32 := BitVec.ofNat 32 (i 1).val
  let c512_i32 : BitVec 32 := 512#32
  let v0 : BitVec 32 := Scalar.muli arg1 c512_i32
  let v381 : BitVec 32 := Scalar.addi v0 v380
  let c4096_i32_207 : BitVec 32 := 4096#32
  let v382 : BitVec 32 := Scalar.remsi v381 c4096_i32_207
  let c0_i32_209 : BitVec 32 := 0#32
  let v384 : BitVec 1 := Scalar.cmpi .sgt v382 c0_i32_209
  let v385 : BitVec 32 := Scalar.extui v384
  let c0_i32_210 : BitVec 32 := 0#32
  let v386 : BitVec 1 := Scalar.cmpi .slt v382 c0_i32_210
  let v387 : BitVec 32 := Scalar.extui v386
  let v388 : BitVec 32 := Scalar.subi v385 v387
  let c8_i32_208 : BitVec 32 := 8#32
  let c0_i32_211 : BitVec 32 := 0#32
  let v389 : BitVec 1 := Scalar.cmpi .sgt c8_i32_208 c0_i32_211
  let v390 : BitVec 32 := Scalar.extui v389
  let c0_i32_212 : BitVec 32 := 0#32
  let v391 : BitVec 1 := Scalar.cmpi .slt c8_i32_208 c0_i32_212
  let v392 : BitVec 32 := Scalar.extui v391
  let v393 : BitVec 32 := Scalar.subi v390 v392
  let v394 : BitVec 1 := Scalar.cmpi .ne v388 v393
  let v395 : BitVec 32 := Scalar.remsi v382 c8_i32_208
  let c0_i32_213 : BitVec 32 := 0#32
  let v396 : BitVec 1 := Scalar.cmpi .ne v395 c0_i32_213
  let v397 : BitVec 1 := Scalar.andi v394 v396
  let v383 : BitVec 32 := Scalar.divsi v382 c8_i32_208
  let c1_i32_214 : BitVec 32 := 1#32
  let v398 : BitVec 32 := Scalar.subi v383 c1_i32_214
  let v399 : BitVec 32 := Scalar.select v397 v398 v383
  let c8_i32_215 : BitVec 32 := 8#32
  let v400 : BitVec 32 := Scalar.muli v399 c8_i32_215
  let c3576_i32_218 : BitVec 32 := 3576#32
  let v404 : BitVec 1 := Scalar.cmpi .sgt v400 c3576_i32_218
  let v405 : BitVec 32 := Scalar.extui v404
  let c0_i32_219 : BitVec 32 := 0#32
  let v406 : BitVec 1 := Scalar.cmpi .ne v405 c0_i32_219
  v406

def k1_chk7 (i : grid1.Coords) (v380 : BitVec 32) : Prop :=
  (∀ (k1_h14 : k1_cond14 i v380 = 1#1), ∀ a, (k1_off23 i v380) a + S1x520x768.size a ≤ S2x4096x768.size a) ∧
  (∀ (k1_h15 : k1_cond15 i v380 = 1#1), ∀ a, (k1_off24 i v380) a + S1x520x768.size a ≤ S2x1040x768.size a)
theorem k1_off23_inb : ∀ (i : grid1.Coords) (v380 : BitVec 32) (k1_hw7 : k1_chk7 i v380), ∀ (k1_h14 : k1_cond14 i v380 = 1#1), ∀ a, (k1_off23 i v380) a + S1x520x768.size a ≤ S2x4096x768.size a := fun i v380 k1_hw7 k1_h14 => k1_hw7.1 k1_h14
theorem k1_off24_inb : ∀ (i : grid1.Coords) (v380 : BitVec 32) (k1_hw7 : k1_chk7 i v380), ∀ (k1_h15 : k1_cond15 i v380 = 1#1), ∀ a, (k1_off24 i v380) a + S1x520x768.size a ≤ S2x1040x768.size a := fun i v380 k1_hw7 k1_h15 => k1_hw7.2 k1_h15

def k1_off25 (i : grid1.Coords) : Fin 3 → Nat :=
  let arg0 : BitVec 32 := BitVec.ofNat 32 (i 0).val
  let c0_i32_224 : BitVec 32 := 0#32
  let c0_i32_225 : BitVec 32 := 0#32
  ![arg0.toNat, 0, 0]
def k1_off26 (i : grid1.Coords) : Fin 2 → Nat :=
  let arg0 : BitVec 32 := BitVec.ofNat 32 (i 0).val
  let v440 : Index := Scalar.indexCast arg0
  let c5_240 : Index := 5#32
  ![v440.toNat, 5]
def k1_off27 (i : grid1.Coords) (v450 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v451 : BitVec 32 := Scalar.addi v0 v450
  let c4096_i32_247 : BitVec 32 := 4096#32
  let v452 : BitVec 32 := Scalar.remsi v451 c4096_i32_247
  let c0_i32_249 : BitVec 32 := 0#32
  let v454 : BitVec 1 := Scalar.cmpi .sgt v452 c0_i32_249
  let v455 : BitVec 32 := Scalar.extui v454
  let c0_i32_250 : BitVec 32 := 0#32
  let v456 : BitVec 1 := Scalar.cmpi .slt v452 c0_i32_250
  let v457 : BitVec 32 := Scalar.extui v456
  let v458 : BitVec 32 := Scalar.subi v455 v457
  let c8_i32_248 : BitVec 32 := 8#32
  let c0_i32_251 : BitVec 32 := 0#32
  let v459 : BitVec 1 := Scalar.cmpi .sgt c8_i32_248 c0_i32_251
  let v460 : BitVec 32 := Scalar.extui v459
  let c0_i32_252 : BitVec 32 := 0#32
  let v461 : BitVec 1 := Scalar.cmpi .slt c8_i32_248 c0_i32_252
  let v462 : BitVec 32 := Scalar.extui v461
  let v463 : BitVec 32 := Scalar.subi v460 v462
  let v464 : BitVec 1 := Scalar.cmpi .ne v458 v463
  let v465 : BitVec 32 := Scalar.remsi v452 c8_i32_248
  let c0_i32_253 : BitVec 32 := 0#32
  let v466 : BitVec 1 := Scalar.cmpi .ne v465 c0_i32_253
  let v467 : BitVec 1 := Scalar.andi v464 v466
  let v453 : BitVec 32 := Scalar.divsi v452 c8_i32_248
  let c1_i32_254 : BitVec 32 := 1#32
  let v468 : BitVec 32 := Scalar.subi v453 c1_i32_254
  let v469 : BitVec 32 := Scalar.select v467 v468 v453
  let c8_i32_255 : BitVec 32 := 8#32
  let v470 : BitVec 32 := Scalar.muli v469 c8_i32_255
  let c0_i32_318 : BitVec 32 := 0#32
  ![arg0.toNat, v470.toNat, 0]
def k1_cond16 (i : grid1.Coords) (v450 : BitVec 32) : BitVec 1 :=
  let arg1 : BitVec 32 := BitVec.ofNat 32 (i 1).val
  let c512_i32 : BitVec 32 := 512#32
  let v0 : BitVec 32 := Scalar.muli arg1 c512_i32
  let v451 : BitVec 32 := Scalar.addi v0 v450
  let c4096_i32_247 : BitVec 32 := 4096#32
  let v452 : BitVec 32 := Scalar.remsi v451 c4096_i32_247
  let c0_i32_249 : BitVec 32 := 0#32
  let v454 : BitVec 1 := Scalar.cmpi .sgt v452 c0_i32_249
  let v455 : BitVec 32 := Scalar.extui v454
  let c0_i32_250 : BitVec 32 := 0#32
  let v456 : BitVec 1 := Scalar.cmpi .slt v452 c0_i32_250
  let v457 : BitVec 32 := Scalar.extui v456
  let v458 : BitVec 32 := Scalar.subi v455 v457
  let c8_i32_248 : BitVec 32 := 8#32
  let c0_i32_251 : BitVec 32 := 0#32
  let v459 : BitVec 1 := Scalar.cmpi .sgt c8_i32_248 c0_i32_251
  let v460 : BitVec 32 := Scalar.extui v459
  let c0_i32_252 : BitVec 32 := 0#32
  let v461 : BitVec 1 := Scalar.cmpi .slt c8_i32_248 c0_i32_252
  let v462 : BitVec 32 := Scalar.extui v461
  let v463 : BitVec 32 := Scalar.subi v460 v462
  let v464 : BitVec 1 := Scalar.cmpi .ne v458 v463
  let v465 : BitVec 32 := Scalar.remsi v452 c8_i32_248
  let c0_i32_253 : BitVec 32 := 0#32
  let v466 : BitVec 1 := Scalar.cmpi .ne v465 c0_i32_253
  let v467 : BitVec 1 := Scalar.andi v464 v466
  let v453 : BitVec 32 := Scalar.divsi v452 c8_i32_248
  let c1_i32_254 : BitVec 32 := 1#32
  let v468 : BitVec 32 := Scalar.subi v453 c1_i32_254
  let v469 : BitVec 32 := Scalar.select v467 v468 v453
  let c8_i32_255 : BitVec 32 := 8#32
  let v470 : BitVec 32 := Scalar.muli v469 c8_i32_255
  let c3576_i32_256 : BitVec 32 := 3576#32
  let v471 : BitVec 1 := Scalar.cmpi .sle v470 c3576_i32_256
  let v472 : BitVec 32 := Scalar.extui v471
  let c0_i32_257 : BitVec 32 := 0#32
  let v473 : BitVec 1 := Scalar.cmpi .ne v472 c0_i32_257
  v473

def k1_off28 (i : grid1.Coords) (v450 : BitVec 32) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v451 : BitVec 32 := Scalar.addi v0 v450
  let c4096_i32_247 : BitVec 32 := 4096#32
  let v452 : BitVec 32 := Scalar.remsi v451 c4096_i32_247
  let c0_i32_249 : BitVec 32 := 0#32
  let v454 : BitVec 1 := Scalar.cmpi .sgt v452 c0_i32_249
  let v455 : BitVec 32 := Scalar.extui v454
  let c0_i32_250 : BitVec 32 := 0#32
  let v456 : BitVec 1 := Scalar.cmpi .slt v452 c0_i32_250
  let v457 : BitVec 32 := Scalar.extui v456
  let v458 : BitVec 32 := Scalar.subi v455 v457
  let c8_i32_248 : BitVec 32 := 8#32
  let c0_i32_251 : BitVec 32 := 0#32
  let v459 : BitVec 1 := Scalar.cmpi .sgt c8_i32_248 c0_i32_251
  let v460 : BitVec 32 := Scalar.extui v459
  let c0_i32_252 : BitVec 32 := 0#32
  let v461 : BitVec 1 := Scalar.cmpi .slt c8_i32_248 c0_i32_252
  let v462 : BitVec 32 := Scalar.extui v461
  let v463 : BitVec 32 := Scalar.subi v460 v462
  let v464 : BitVec 1 := Scalar.cmpi .ne v458 v463
  let v465 : BitVec 32 := Scalar.remsi v452 c8_i32_248
  let c0_i32_253 : BitVec 32 := 0#32
  let v466 : BitVec 1 := Scalar.cmpi .ne v465 c0_i32_253
  let v467 : BitVec 1 := Scalar.andi v464 v466
  let v453 : BitVec 32 := Scalar.divsi v452 c8_i32_248
  let c1_i32_254 : BitVec 32 := 1#32
  let v468 : BitVec 32 := Scalar.subi v453 c1_i32_254
  let v469 : BitVec 32 := Scalar.select v467 v468 v453
  let c8_i32_255 : BitVec 32 := 8#32
  let v470 : BitVec 32 := Scalar.muli v469 c8_i32_255
  let c3576_i32_314 : BitVec 32 := 3576#32
  let v563 : BitVec 32 := Scalar.subi v470 c3576_i32_314
  let c0_i32_319 : BitVec 32 := 0#32
  ![arg0.toNat, v563.toNat, 0]
def k1_cond17 (i : grid1.Coords) (v450 : BitVec 32) : BitVec 1 :=
  let arg1 : BitVec 32 := BitVec.ofNat 32 (i 1).val
  let c512_i32 : BitVec 32 := 512#32
  let v0 : BitVec 32 := Scalar.muli arg1 c512_i32
  let v451 : BitVec 32 := Scalar.addi v0 v450
  let c4096_i32_247 : BitVec 32 := 4096#32
  let v452 : BitVec 32 := Scalar.remsi v451 c4096_i32_247
  let c0_i32_249 : BitVec 32 := 0#32
  let v454 : BitVec 1 := Scalar.cmpi .sgt v452 c0_i32_249
  let v455 : BitVec 32 := Scalar.extui v454
  let c0_i32_250 : BitVec 32 := 0#32
  let v456 : BitVec 1 := Scalar.cmpi .slt v452 c0_i32_250
  let v457 : BitVec 32 := Scalar.extui v456
  let v458 : BitVec 32 := Scalar.subi v455 v457
  let c8_i32_248 : BitVec 32 := 8#32
  let c0_i32_251 : BitVec 32 := 0#32
  let v459 : BitVec 1 := Scalar.cmpi .sgt c8_i32_248 c0_i32_251
  let v460 : BitVec 32 := Scalar.extui v459
  let c0_i32_252 : BitVec 32 := 0#32
  let v461 : BitVec 1 := Scalar.cmpi .slt c8_i32_248 c0_i32_252
  let v462 : BitVec 32 := Scalar.extui v461
  let v463 : BitVec 32 := Scalar.subi v460 v462
  let v464 : BitVec 1 := Scalar.cmpi .ne v458 v463
  let v465 : BitVec 32 := Scalar.remsi v452 c8_i32_248
  let c0_i32_253 : BitVec 32 := 0#32
  let v466 : BitVec 1 := Scalar.cmpi .ne v465 c0_i32_253
  let v467 : BitVec 1 := Scalar.andi v464 v466
  let v453 : BitVec 32 := Scalar.divsi v452 c8_i32_248
  let c1_i32_254 : BitVec 32 := 1#32
  let v468 : BitVec 32 := Scalar.subi v453 c1_i32_254
  let v469 : BitVec 32 := Scalar.select v467 v468 v453
  let c8_i32_255 : BitVec 32 := 8#32
  let v470 : BitVec 32 := Scalar.muli v469 c8_i32_255
  let c3576_i32_258 : BitVec 32 := 3576#32
  let v474 : BitVec 1 := Scalar.cmpi .sgt v470 c3576_i32_258
  let v475 : BitVec 32 := Scalar.extui v474
  let c0_i32_259 : BitVec 32 := 0#32
  let v476 : BitVec 1 := Scalar.cmpi .ne v475 c0_i32_259
  v476

def k1_chk8 (i : grid1.Coords) (v450 : BitVec 32) : Prop :=
  (∀ (k1_h16 : k1_cond16 i v450 = 1#1), ∀ a, (k1_off27 i v450) a + S1x520x768.size a ≤ S2x4096x768.size a) ∧
  (∀ (k1_h17 : k1_cond17 i v450 = 1#1), ∀ a, (k1_off28 i v450) a + S1x520x768.size a ≤ S2x1040x768.size a)
theorem k1_off27_inb : ∀ (i : grid1.Coords) (v450 : BitVec 32) (k1_hw8 : k1_chk8 i v450), ∀ (k1_h16 : k1_cond16 i v450 = 1#1), ∀ a, (k1_off27 i v450) a + S1x520x768.size a ≤ S2x4096x768.size a := fun i v450 k1_hw8 k1_h16 => k1_hw8.1 k1_h16
theorem k1_off28_inb : ∀ (i : grid1.Coords) (v450 : BitVec 32) (k1_hw8 : k1_chk8 i v450), ∀ (k1_h17 : k1_cond17 i v450 = 1#1), ∀ a, (k1_off28 i v450) a + S1x520x768.size a ≤ S2x1040x768.size a := fun i v450 k1_hw8 k1_h17 => k1_hw8.2 k1_h17

def k1_off29 (i : grid1.Coords) : Fin 3 → Nat :=
  let arg0 : BitVec 32 := BitVec.ofNat 32 (i 0).val
  let c0_i32_264 : BitVec 32 := 0#32
  let c0_i32_265 : BitVec 32 := 0#32
  ![arg0.toNat, 0, 0]
def k1_off30 (i : grid1.Coords) : Fin 2 → Nat :=
  let arg0 : BitVec 32 := BitVec.ofNat 32 (i 0).val
  let v510 : Index := Scalar.indexCast arg0
  let c6_280 : Index := 6#32
  ![v510.toNat, 6]
def k1_off31 (i : grid1.Coords) : Fin 2 → Nat :=
  let arg0 : BitVec 32 := BitVec.ofNat 32 (i 0).val
  let v553 : Index := Scalar.indexCast arg0
  let c7_307 : Index := 7#32
  ![v553.toNat, 7]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S2x2x64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "inv_n" => some ((1 / 3145728 : ℝ) : EReal)
  | _ => none
-- ==== ReferenceIdeal.lean ====
abbrev S2x4096x12x64 : Shape := ⟨4, ![2, 4096, 12, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x12x64x4096 : Shape := ⟨4, ![2, 12, 64, 4096]⟩
abbrev S2x64x4096 : Shape := ⟨3, ![2, 64, 4096]⟩
abbrev S2x4096 : Shape := ⟨2, ![2, 4096]⟩
abbrev S8 : Shape := ⟨1, ![8]⟩
abbrev S8x1 : Shape := ⟨2, ![8, 1]⟩
abbrev S2x8 : Shape := ⟨2, ![2, 8]⟩
abbrev S2 : Shape := ⟨1, ![2]⟩
abbrev S2x1 : Shape := ⟨2, ![2, 1]⟩
abbrev S8x4096 : Shape := ⟨2, ![8, 4096]⟩
abbrev S8x4096x1 : Shape := ⟨3, ![8, 4096, 1]⟩
abbrev S2x8x4096x12x64 : Shape := ⟨5, ![2, 8, 4096, 12, 64]⟩
abbrev S2x8x1x1x1 : Shape := ⟨5, ![2, 8, 1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x12x64, .f32⟩
  | .hbm, ⟨1, _⟩ => ⟨S2x4096x12x64, .f32⟩
  | .hbm, ⟨2, _⟩ => ⟨S2x4096x12x64, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S2x12x64x4096, .f32⟩
  | .hbm, ⟨21, _⟩ => ⟨S2x12x64x4096, .f32⟩
  | .hbm, ⟨22, _⟩ => ⟨S2x12x64x4096, .f32⟩
  | .hbm, ⟨23, _⟩ => ⟨S2x12x64x4096, .f32⟩
  | .hbm, ⟨24, _⟩ => ⟨S2x12x64x4096, .f32⟩
  | .hbm, ⟨25, _⟩ => ⟨S2x12x64x4096, .f32⟩
  | .hbm, ⟨26, _⟩ => ⟨S2x12x64x4096, .f32⟩
  | .hbm, ⟨27, _⟩ => ⟨S2x12x64x4096, .f32⟩
  | .hbm, ⟨28, _⟩ => ⟨S2x12x64x4096, .f32⟩
  | .hbm, ⟨29, _⟩ => ⟨S2x12x64x4096, .f32⟩
  | .hbm, ⟨30, _⟩ => ⟨S2x12x64x4096, .f32⟩
  | .hbm, ⟨31, _⟩ => ⟨S2x12x64x4096, .f32⟩
  | .hbm, ⟨32, _⟩ => ⟨S2x12x64x4096, .f32⟩
  | .hbm, ⟨33, _⟩ => ⟨S2x12x64x4096, .f32⟩
  | .hbm, ⟨34, _⟩ => ⟨S2x12x64x4096, .f32⟩
  | .hbm, ⟨35, _⟩ => ⟨S_, .f32⟩
  | .hbm, ⟨36, _⟩ => ⟨S2x12x64x4096, .f32⟩
  | .hbm, ⟨37, _⟩ => ⟨S2x12x64x4096, .f32⟩
  | .hbm, ⟨38, _⟩ => ⟨S_, .f32⟩
  | .hbm, ⟨39, _⟩ => ⟨S2x64x4096, .f32⟩
  | .hbm, ⟨40, _⟩ => ⟨S_, .f32⟩
  | .hbm, ⟨41, _⟩ => ⟨S2x64x4096, .f32⟩
  | .hbm, ⟨42, _⟩ => ⟨S2x64x4096, .f32⟩
  | .hbm, ⟨43, _⟩ => ⟨S_, .f32⟩
  | .hbm, ⟨44, _⟩ => ⟨S2x4096, .f32⟩
  | .hbm, ⟨45, _⟩ => ⟨S_, .f32⟩
  | .hbm, ⟨46, _⟩ => ⟨S2x4096, .f32⟩
  | .hbm, ⟨47, _⟩ => ⟨S2x4096, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S8, .f32⟩
  | .hbm, ⟨54, _⟩ => ⟨S8, .i32⟩
  | .hbm, ⟨55, _⟩ => ⟨S8x1, .i32⟩
  | .hbm, ⟨56, _⟩ => ⟨S2x8, .f32⟩
  | .hbm, ⟨57, _⟩ => ⟨S_, .f32⟩
  | .hbm, ⟨58, _⟩ => ⟨S2, .f32⟩
  | .hbm, ⟨59, _⟩ => ⟨S_, .f32⟩
  | .hbm, ⟨60, _⟩ => ⟨S2, .f32⟩
  | .hbm, ⟨61, _⟩ => ⟨S2, .f32⟩
  | .hbm, ⟨62, _⟩ => ⟨S2x1, .f32⟩
  | .hbm, ⟨63, _⟩ => ⟨S2x8, .f32⟩
  | .hbm, ⟨64, _⟩ => ⟨S2x8, .f32⟩
  | .hbm, ⟨65, _⟩ => ⟨S2x8, .f32⟩
  | .hbm, ⟨66, _⟩ => ⟨S_, .f32⟩
  | .hbm, ⟨67, _⟩ => ⟨S2, .f32⟩
  | .hbm, ⟨68, _⟩ => ⟨S2x1, .f32⟩
  | .hbm, ⟨69, _⟩ => ⟨S2x8, .f32⟩
  | .hbm, ⟨70, _⟩ => ⟨S2x8, .f32⟩
  | .hbm, ⟨71, _⟩ => ⟨S1x4096, .i32⟩
  | .hbm, ⟨72, _⟩ => ⟨S8x1, .i32⟩
  | .hbm, ⟨73, _⟩ => ⟨S8x4096, .i32⟩
  | .hbm, ⟨74, _⟩ => ⟨S8x4096, .i32⟩
  | .hbm, ⟨75, _⟩ => ⟨S8x4096, .i32⟩
  | .hbm, ⟨76, _⟩ => ⟨S_, .i32⟩
  | .hbm, ⟨77, _⟩ => ⟨S8x4096, .i32⟩
  | .hbm, ⟨78, _⟩ => ⟨S8x4096, .i32⟩
  | .hbm, ⟨79, _⟩ => ⟨S8x4096x1, .i32⟩
  | .hbm, ⟨80, _⟩ => ⟨S2x8x4096x12x64, .f32⟩
  | .hbm, ⟨81, _⟩ => ⟨S2x8x1x1x1, .f32⟩
  | .hbm, ⟨82, _⟩ => ⟨S2x8x4096x12x64, .f32⟩
  | .hbm, ⟨83, _⟩ => ⟨S2x8x4096x12x64, .f32⟩
  | .hbm, ⟨84, _⟩ => ⟨S_, .f32⟩
  | .hbm, ⟨85, _⟩ => ⟨S2x4096x12x64, .f32⟩
  | _, _ => ⟨S2x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_values : Ref sig .tc := ⟨.hbm, 53, rfl⟩
abbrev main_indices : Ref sig .tc := ⟨.hbm, 54, rfl⟩
abbrev main_call0_v0 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_v57 : Ref sig .tc := ⟨.hbm, 77, rfl⟩
abbrev main_v58 : Ref sig .tc := ⟨.hbm, 78, rfl⟩
abbrev main_call1_v0 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Spectrum.lean ====
abbrev S2x4096x12x64 : Shape := ⟨4, ![2, 4096, 12, 64]⟩
abbrev S2x64x64x768 : Shape := ⟨4, ![2, 64, 64, 768]⟩
abbrev S2x64x768x64 : Shape := ⟨4, ![2, 64, 768, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x2x64x64 : Shape := ⟨4, ![2, 2, 64, 64]⟩
abbrev S1x64x128x64 : Shape := ⟨4, ![1, 64, 128, 64]⟩
abbrev S1x2x64x64 : Shape := ⟨4, ![1, 2, 64, 64]⟩
abbrev S64x1x64 : Shape := ⟨3, ![64, 1, 64]⟩
abbrev S1x64x64x64 : Shape := ⟨4, ![1, 64, 64, 64]⟩
abbrev S64x64x64 : Shape := ⟨3, ![64, 64, 64]⟩
abbrev S4096x64 : Shape := ⟨2, ![4096, 64]⟩
abbrev S64x4096 : Shape := ⟨2, ![64, 4096]⟩
abbrev S1x1x64x64 : Shape := ⟨4, ![1, 1, 64, 64]⟩

abbrev nBuf : Space → Nat
  | .hbm => 32
  | .vmem => 10
  | .smem => 0
  | _ => 0

abbrev bufTy : (tb : Table) → Fin (tcTables nBuf tb) → BufTy
  | .hbm, ⟨0, _⟩ => ⟨S2x4096x12x64, .f32⟩
  | .hbm, ⟨1, _⟩ => ⟨S2x4096x12x64, .f32⟩
  | .hbm, ⟨2, _⟩ => ⟨S2x64x64x768, .f32⟩
  | .hbm, ⟨3, _⟩ => ⟨S2x64x768x64, .f32⟩
  | .hbm, ⟨4, _⟩ => ⟨S2x64x64x768, .f32⟩
  | .hbm, ⟨5, _⟩ => ⟨S2x64x768x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .i32⟩
  | .hbm, ⟨11, _⟩ => ⟨S64x1, .i32⟩
  | .hbm, ⟨12, _⟩ => ⟨S1x64, .i32⟩
  | .hbm, ⟨13, _⟩ => ⟨S64x64, .i32⟩
  | .hbm, ⟨14, _⟩ => ⟨S64x64, .i32⟩
  | .hbm, ⟨15, _⟩ => ⟨S64x64, .i32⟩
  | .hbm, ⟨16, _⟩ => ⟨S64x64, .f32⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S2x2x64x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .f32⟩
  | .local _ .vmem, ⟨3, _⟩ => ⟨S1x64x128x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x2x64x64, .f32⟩
  | .local _ .vmem, ⟨9, _⟩ => ⟨S1x2x64x64, .f32⟩
  | _, _ => ⟨S2x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_cst_1 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_cst_2 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v288 : BitVec 1 := Scalar.cmpi .eq arg1 c0_i32
  let v289 : BitVec 32 := Scalar.extui v288
  let c0_i32_99 : BitVec 32 := 0#32
  let v290 : BitVec 1 := Scalar.cmpi .ne v289 c0_i32_99
  v290

def k0_cond2 (i : grid0.Coords) : BitVec 1 :=
  let arg1 : BitVec 32 := BitVec.ofNat 32 (i 1).val
  let c0_i32_100 : BitVec 32 := 0#32
  let v291 : BitVec 1 := Scalar.cmpi .ne arg1 c0_i32_100
  let v292 : BitVec 32 := Scalar.extui v291
  let c0_i32_101 : BitVec 32 := 0#32
  let v293 : BitVec 1 := Scalar.cmpi .ne v292 c0_i32_101
  v293

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SpectrumReferenceIdeal.lean ====
abbrev S2x4096x12x64 : Shape := ⟨4, ![2, 4096, 12, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x12x64x4096 : Shape := ⟨4, ![2, 12, 64, 4096]⟩
abbrev S2x12x4096 : Shape := ⟨3, ![2, 12, 4096]⟩
abbrev S2x4096 : Shape := ⟨2, ![2, 4096]⟩
abbrev S2x1x4096 : Shape := ⟨3, ![2, 1, 4096]⟩
abbrev S2x2x4096 : Shape := ⟨3, ![2, 2, 4096]⟩
abbrev S2x2x64x64 : Shape := ⟨4, ![2, 2, 64, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x12x64, .f32⟩
  | .hbm, ⟨1, _⟩ => ⟨S2x4096x12x64, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S2x12x64x4096, .f32⟩
  | .hbm, ⟨20, _⟩ => ⟨S2x12x64x4096, .f32⟩
  | .hbm, ⟨21, _⟩ => ⟨S2x12x64x4096, .f32⟩
  | .hbm, ⟨22, _⟩ => ⟨S2x12x64x4096, .f32⟩
  | .hbm, ⟨23, _⟩ => ⟨S2x12x64x4096, .f32⟩
  | .hbm, ⟨24, _⟩ => ⟨S2x12x64x4096, .f32⟩
  | .hbm, ⟨25, _⟩ => ⟨S2x12x64x4096, .f32⟩
  | .hbm, ⟨26, _⟩ => ⟨S2x12x64x4096, .f32⟩
  | .hbm, ⟨27, _⟩ => ⟨S2x12x64x4096, .f32⟩
  | .hbm, ⟨28, _⟩ => ⟨S_, .f32⟩
  | .hbm, ⟨29, _⟩ => ⟨S2x12x4096, .f32⟩
  | .hbm, ⟨30, _⟩ => ⟨S_, .f32⟩
  | .hbm, ⟨31, _⟩ => ⟨S2x4096, .f32⟩
  | .hbm, ⟨32, _⟩ => ⟨S2x12x64x4096, .f32⟩
  | .hbm, ⟨33, _⟩ => ⟨S2x12x64x4096, .f32⟩
  | .hbm, ⟨34, _⟩ => ⟨S2x12x64x4096, .f32⟩
  | .hbm, ⟨35, _⟩ => ⟨S_, .f32⟩
  | .hbm, ⟨36, _⟩ => ⟨S2x12x4096, .f32⟩
  | .hbm, ⟨37, _⟩ => ⟨S_, .f32⟩
  | .hbm, ⟨38, _⟩ => ⟨S2x4096, .f32⟩
  | .hbm, ⟨39, _⟩ => ⟨S2x1x4096, .f32⟩
  | .hbm, ⟨40, _⟩ => ⟨S2x1x4096, .f32⟩
  | .hbm, ⟨41, _⟩ => ⟨S2x2x4096, .f32⟩
  | .hbm, ⟨42, _⟩ => ⟨S2x2x64x64, .f32⟩
  | _, _ => ⟨S2x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.GhostB.lean ====
/- What both calls' runs ride on. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Autocorr.AggB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra: the pipeline's, beside the counters the row fetches ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

end Autocorr.AggB

end
-- ==== Proof.SpecAB.lean ====
/- The first call's body run in the case of a first head tile. -/
module

public import proofs.«01_k».proof.Proof.SpecRunsB

@[expose] public section

set_option maxRecDepth 16384

noncomputable section

namespace Autocorr.SpecB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Autocorr.AggB (UU 𝒱₀ EP)

local notation "𝕄" => MT nD τ sig Unit (Elt F) ℕ (UU nD τ) ℕ

set_option maxHeartbeats 1000000 in
/-- The body's run in this case, and the pieces it leaves in the result's block. -/
noncomputable def kernelRun0_A (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : cond0_0 i) (hc1 : ¬cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) :
    { L6 : List (View.Piece (Elt F) S1x2x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__spectrum_kernel i arg2 harg2 arg3 harg3 arg4 harg4 arg5 harg5 arg6 harg6 arg7 harg7 arg8 harg8) K } := by
  refine ⟨?_, fun E K => ?run⟩
  case run =>
    simp only [cc0__spectrum_kernel_eq_skeleton]; unfold cc0__spectrum_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Autocorr.SpecB

end
-- ==== Proof.SpecBB.lean ====
/- The first call's body run in the case of a later head tile. -/
module

public import proofs.«01_k».proof.Proof.SpecAB

@[expose] public section

set_option maxRecDepth 16384

noncomputable section

namespace Autocorr.SpecB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Autocorr.AggB (UU 𝒱₀ EP)

local notation "𝕄" => MT nD τ sig Unit (Elt F) ℕ (UU nD τ) ℕ

set_option maxHeartbeats 1000000 in
/-- The body's run in this case, and the pieces it leaves in the result's block. -/
noncomputable def kernelRun0_B (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : ¬cond0_0 i) (hc1 : cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) (xo6 : Vec F S1x2x64x64 .f32) :
    { L6 : List (View.Piece (Elt F) S1x2x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__spectrum_kernel i arg2 harg2 arg3 harg3 arg4 harg4 arg5 harg5 arg6 harg6 arg7 harg7 arg8 harg8) K } := by
  refine ⟨?_, fun E K => ?run⟩
  case run =>
    simp only [cc0__spectrum_kernel_eq_skeleton]; unfold cc0__spectrum_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Autocorr.SpecB

end
-- ==== Proof.Words.lean ====
/- The words that say which rows a block is rolled from. -/
module

public import Idealize.ShloMosaic.Lib.Affine

@[expose] public section

namespace Autocorr

open Idealize.ShloMosaic

/-- The first row of a block shifted by `v`, around the end of the sequence. -/
def stW (g v : BitVec 32) : BitVec 32 := Scalar.remsi (Scalar.addi g v) 4096#32

/-- That row rounded down to a multiple of eight. -/
def staW (x : BitVec 32) : BitVec 32 :=
  Scalar.muli (Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 8#32 0#32)) (Scalar.extui (Scalar.cmpi .slt 8#32 0#32))))
      (Scalar.cmpi .ne (Scalar.remsi x 8#32) 0#32))
    (Scalar.subi (Scalar.divsi x 8#32) 1#32) (Scalar.divsi x 8#32)) 8#32

/-- Whether the rows are taken from the array itself. -/
def leW (x : BitVec 32) : BitVec 1 := Scalar.cmpi .ne (Scalar.extui (Scalar.cmpi .sle (staW x) 3576#32) : BitVec 32) 0#32
/-- Whether they are taken from the copy that runs around its end. -/
def gtW (x : BitVec 32) : BitVec 1 := Scalar.cmpi .ne (Scalar.extui (Scalar.cmpi .sgt (staW x) 3576#32) : BitVec 32) 0#32
/-- The row in that copy. -/
def ringW (x : BitVec 32) : BitVec 32 := Scalar.subi (staW x) 3576#32

theorem words_all : ∀ n : Fin 4096, (staW (BitVec.ofNat 32 n.val)).toNat = n.val / 8 * 8
    ∧ (leW (BitVec.ofNat 32 n.val) = 1#1 ↔ n.val / 8 * 8 ≤ 3576)
    ∧ (gtW (BitVec.ofNat 32 n.val) = 1#1 ↔ ¬ n.val / 8 * 8 ≤ 3576)
    ∧ (3576 ≤ n.val / 8 * 8 → (ringW (BitVec.ofNat 32 n.val)).toNat = n.val / 8 * 8 - 3576) := by decide +kernel

/-- The first row as a number, for a block `512 g` and a shift of at most the length. -/
theorem stW_nat (g : ℕ) (hg : g < 8) (v : BitVec 32) (hv : v.toNat ≤ 4096) :
    (stW (Scalar.muli (BitVec.ofNat 32 g) 512#32) v).toNat = (512 * g + v.toNat) % 4096 := by
  have e : v = BitVec.ofNat 32 v.toNat := by simp
  have h : Affine.IsInt (stW (Scalar.muli (BitVec.ofNat 32 g) 512#32) v) (((512 * g + v.toNat) % 4096 : ℕ) : ℤ) := by
    have h1 : Affine.IsInt (Scalar.muli (BitVec.ofNat 32 g) 512#32) (((512 * g : ℕ)) : ℤ) :=
      Affine.muli (e := ((512 * g : ℕ) : ℤ)) (Affine.ofNat (e := (g : ℤ)) g ⟨rfl, by omega⟩) (Affine.ofNat (e := 512) 512 ⟨rfl, by decide⟩) ⟨by push_cast; omega, by push_cast; omega, by push_cast; omega⟩
    have h2 : Affine.IsInt v ((v.toNat : ℕ) : ℤ) := by
      conv => arg 1; rw [e]
      exact Affine.ofNat (e := ((v.toNat : ℕ) : ℤ)) v.toNat ⟨rfl, by omega⟩
    have h3 : Affine.IsInt (Scalar.addi (Scalar.muli (BitVec.ofNat 32 g) 512#32) v) ((512 * g + v.toNat : ℕ) : ℤ) :=
      Affine.addi (e := ((512 * g + v.toNat : ℕ) : ℤ)) h1 h2 ⟨by push_cast; omega, by omega, by push_cast; omega⟩
    exact Affine.remsi (e := (((512 * g + v.toNat) % 4096 : ℕ) : ℤ)) h3 (Affine.ofNat (e := 4096) 4096 ⟨rfl, by decide⟩) ⟨by push_cast; omega, by omega, by omega⟩
  have h' : (stW (Scalar.muli (BitVec.ofNat 32 g) 512#32) v).toInt = (((512 * g + v.toNat) % 4096 : ℕ) : ℤ) := by
    delta Affine.IsInt at h; exact h
  have hc := BitVec.toInt_eq_toNat_cond (stW (Scalar.muli (BitVec.ofNat 32 g) 512#32) v)
  split at hc <;> omega

end Autocorr

end
-- ==== Proof.MinWord.lean ====
/- The least of a family of small words, and words written one by one. -/
module

public import Idealize.ShloMosaic.Lib.Pointwise
public import Idealize.ShloMosaic.Lib.WordArith
public import Idealize.ShloMosaic.Lib.Writes

@[expose] public section

namespace Autocorr

open Idealize.ShloMosaic Idealize.ShloMosaic.WordArith

/-- The signed minimum of small words from the largest positive word: below each of them, and one of them or that word. -/
theorem fold_min {ι : Type} [DecidableEq ι] (v : ι → BitVec 32) (hv : ∀ i, (v i).toNat ≤ 4096) (S : Finset ι) :
    (S.fold IntOp.minsi 2147483647#32 v).toNat ≤ 2147483647 ∧ (∀ i ∈ S, (S.fold IntOp.minsi 2147483647#32 v).toNat ≤ (v i).toNat)
      ∧ (S.fold IntOp.minsi 2147483647#32 v = 2147483647#32 ∨ ∃ i ∈ S, S.fold IntOp.minsi 2147483647#32 v = v i) := by
  induction S using Finset.induction_on with
  | empty => exact ⟨by simp, by simp, Or.inl (by simp)⟩
  | insert a S ha ih =>
    rw [Finset.fold_insert ha]
    obtain ⟨h0, h1, h2⟩ := ih
    have e := toNat_minsi_of_lt (v a) (S.fold IntOp.minsi 2147483647#32 v) (by have := hv a; omega) (by omega)
    refine ⟨by rw [e]; omega, fun i hi => ?_, ?_⟩
    · rw [e]
      rcases Finset.mem_insert.mp hi with rfl | hi
      · omega
      · have := h1 i hi; omega
    · by_cases h : (v a).toNat ≤ (S.fold IntOp.minsi 2147483647#32 v).toNat
      · exact Or.inr ⟨a, Finset.mem_insert_self _ _, BitVec.eq_of_toNat_eq (by rw [e]; omega)⟩
      · have e' : IntOp.minsi (v a) (S.fold IntOp.minsi 2147483647#32 v) = S.fold IntOp.minsi 2147483647#32 v := BitVec.eq_of_toNat_eq (by rw [e]; omega)
        rw [e']
        exact h2.imp id fun ⟨i, hi, h⟩ => ⟨i, Finset.mem_insert_of_mem hi, h⟩

theorem fold_min_univ {ι : Type} [DecidableEq ι] [Fintype ι] [Nonempty ι] (v : ι → BitVec 32) (hv : ∀ i, (v i).toNat ≤ 4096) :
    (∀ i, (Finset.univ.fold IntOp.minsi 2147483647#32 v).toNat ≤ (v i).toNat) ∧ ∃ i, Finset.univ.fold IntOp.minsi 2147483647#32 v = v i := by
  obtain ⟨-, h1, h2⟩ := fold_min v hv Finset.univ
  refine ⟨fun i => h1 i (Finset.mem_univ i), ?_⟩
  rcases h2 with h | ⟨i, -, h⟩
  · obtain ⟨i⟩ := ‹Nonempty ι›
    have := h1 i (Finset.mem_univ i)
    rw [h] at this
    exact absurd (this.trans (hv i)) (by decide)
  · exact ⟨i, h⟩

variable {sig : RefSig} {κ : Kind} {sp : Space} {s : Shape} {e : EltTy} {Val : EltTy → Type}

/-- What holds of every value written holds of every element the writes reach. -/
theorem of_writes (v : View sig κ sp s e) (f : v.ty.Contents Val) (P : Val e → Prop) (y : s.Idx) :
    ∀ L : List (View.Piece Val s e), (∀ p ∈ L, ∀ x, P (p.2 x)) → (∃ p ∈ L, y ∈ p.1.set) → P (v.read Val (v.writes Val f L) y)
  | [], _, ⟨_, h, _⟩ => absurd h List.not_mem_nil
  | p :: L, hP, hy => by
    by_cases h : y ∈ p.1.set
    · obtain ⟨x, rfl⟩ : ∃ x, p.1.emb x = y := p.1.exists_idx_of_mem h
      obtain ⟨r, w⟩ := p
      rw [View.read_writes_cons_emb]
      exact hP ⟨r, w⟩ List.mem_cons_self x
    · rw [View.read_writes_cons_miss _ _ _ _ _ h]
      obtain ⟨q, hq, hyq⟩ := hy
      rcases List.mem_cons.mp hq with rfl | hq
      · exact absurd hyq h
      · exact of_writes v f P y L (fun p hp => hP p (List.mem_cons_of_mem _ hp)) ⟨q, hq, hyq⟩

end Autocorr

end
-- ==== Proof.Dft.lean ====
/- The discrete Fourier transform of 4096 points as two stages of 64-point transforms, over the real numbers:
   the time is cut as `64 n1 + n2`, the frequency as `64 k2 + k1`, and the exponent's product of the two
   falls apart into the two stages' angles and one twiddle angle, up to whole turns. -/
module

public import Mathlib.Analysis.SpecialFunctions.Trigonometric.Basic
public import Mathlib.Data.Complex.BigOperators
public import Mathlib.Tactic.Ring

@[expose] public section

noncomputable section

namespace Autocorr

open scoped BigOperators

/-- The cosine of `a` of the `N` equal parts of a turn. -/
def cs (N a : ℕ) : ℝ := Real.cos (a * (2 * Real.pi / N))

/-- The sine of `a` of the `N` equal parts of a turn. -/
def sn (N a : ℕ) : ℝ := Real.sin (a * (2 * Real.pi / N))

/-- The time `64 n1 + n2`, or the frequency `64 k2 + k1`. -/
def glue (a b : Fin 64) : Fin 4096 := ⟨64 * a.val + b.val, by omega⟩

/-- The unit complex number at minus `a` of the 4096 parts of a turn. -/
def cis (a : ℕ) : ℂ := ⟨cs 4096 a, -sn 4096 a⟩

theorem cis_add (a b : ℕ) : cis (a + b) = cis a * cis b := by
  apply Complex.ext
  · simp only [cis, cs, sn, Complex.mul_re, Nat.cast_add, add_mul, Real.cos_add]; ring
  · simp only [cis, cs, sn, Complex.mul_im, Nat.cast_add, add_mul, Real.sin_add]; ring

theorem cis_turn (k : ℕ) : cis (4096 * k) = 1 := by
  have h : ((4096 * k : ℕ) : ℝ) * (2 * Real.pi / (4096 : ℕ)) = k * (2 * Real.pi) := by push_cast; ring
  apply Complex.ext
  · simp only [cis, cs, h, Complex.one_re, Real.cos_nat_mul_two_pi]
  · have h2 : (k : ℝ) * (2 * Real.pi) = ((2 * k : ℕ) : ℝ) * Real.pi := by push_cast; ring
    simp only [cis, sn, h, Complex.one_im, h2, Real.sin_nat_mul_pi, neg_zero]

theorem cis_64 (a : ℕ) : cis (64 * a) = ⟨cs 64 a, -sn 64 a⟩ := by
  have h : ((64 * a : ℕ) : ℝ) * (2 * Real.pi / (4096 : ℕ)) = a * (2 * Real.pi / (64 : ℕ)) := by push_cast; ring
  simp only [cis, cs, sn, h]

/-- The product of a time and a frequency, in the two stages' angles and the twiddle. -/
theorem cis_glue (n1 n2 k2 k1 : Fin 64) :
    cis ((glue n1 n2).val * (glue k2 k1).val) = cis (64 * (k2.val * n2.val)) * (cis (64 * (n1.val * k1.val)) * cis (n2.val * k1.val)) := by
  have h : (glue n1 n2).val * (glue k2 k1).val
      = 4096 * (n1.val * k2.val) + (64 * (k2.val * n2.val) + (64 * (n1.val * k1.val) + n2.val * k1.val)) := by
    simp only [glue]; ring
  rw [h, cis_add, cis_turn, one_mul, cis_add, cis_add]

/-- A sum over the 4096 times, by its two parts. -/
theorem sum_glue {M : Type*} [AddCommMonoid M] (g : Fin 4096 → M) : ∑ t, g t = ∑ n2, ∑ n1, g (glue n1 n2) := by
  have e : ∀ p : Fin 64 × Fin 64, (finProdFinEquiv p : Fin (64 * 64)) = Fin.cast rfl (glue p.1 p.2) := by
    intro p; apply Fin.ext; simp only [glue, finProdFinEquiv, Equiv.coe_fn_mk, Fin.val_cast]; omega
  calc ∑ t, g t = ∑ p : Fin 64 × Fin 64, g (finProdFinEquiv p : Fin (64 * 64)) :=
        (Equiv.sum_comp (finProdFinEquiv (m := 64) (n := 64)) g).symm
    _ = ∑ p : Fin 64 × Fin 64, g (glue p.1 p.2) := by simp only [e]; rfl
    _ = _ := by rw [Fintype.sum_prod_type_right]

variable (fr fi wr wi : Fin 64 → Fin 64 → ℝ) (x : Fin 64 → Fin 64 → ℝ)

/-- The first stage over a column, real table. -/
def stage (f : Fin 64 → Fin 64 → ℝ) (n2 k1 : Fin 64) : ℝ := ∑ n1, x n2 n1 * f n1 k1

/-- The twiddled first stage, real part. -/
def twR (n2 k1 : Fin 64) : ℝ := stage x fr n2 k1 * wr n2 k1 - stage x fi n2 k1 * wi n2 k1

/-- The twiddled first stage, imaginary part. -/
def twI (n2 k1 : Fin 64) : ℝ := stage x fr n2 k1 * wi n2 k1 + stage x fi n2 k1 * wr n2 k1

/-- The two-stage transform, real part. -/
def spR (k2 k1 : Fin 64) : ℝ := (∑ n2, fr k2 n2 * twR fr fi wr wi x n2 k1) - ∑ n2, fi k2 n2 * twI fr fi wr wi x n2 k1

/-- The two-stage transform, imaginary part. -/
def spI (k2 k1 : Fin 64) : ℝ := (∑ n2, fr k2 n2 * twI fr fi wr wi x n2 k1) + ∑ n2, fi k2 n2 * twR fr fi wr wi x n2 k1

/-- The tables: the 64-point transform's cosines and minus sines, and the twiddles'. -/
def tFr (a b : Fin 64) : ℝ := cs 64 (a.val * b.val)
def tFi (a b : Fin 64) : ℝ := -sn 64 (a.val * b.val)
def tWr (a b : Fin 64) : ℝ := cs 4096 (a.val * b.val)
def tWi (a b : Fin 64) : ℝ := -sn 4096 (a.val * b.val)

/-- The transform of 4096 points by its definition, real and imaginary part. -/
def ftR (y : Fin 4096 → ℝ) (f : Fin 4096) : ℝ := ∑ t, y t * cs 4096 (t.val * f.val)
def ftI (y : Fin 4096 → ℝ) (f : Fin 4096) : ℝ := -∑ t, y t * sn 4096 (t.val * f.val)

theorem ft_eq (y : Fin 4096 → ℝ) (f : Fin 4096) : ∑ t, (y t : ℂ) * cis (t.val * f.val) = ⟨ftR y f, ftI y f⟩ := by
  apply Complex.ext
  · simp only [Complex.re_sum, ftR, Complex.re_ofReal_mul, cis]
  · simp only [Complex.im_sum, ftI, Complex.im_ofReal_mul, cis, mul_neg, Finset.sum_neg_distrib]

theorem stage_eq (n2 k1 : Fin 64) :
    ∑ n1 : Fin 64, (x n2 n1 : ℂ) * cis (64 * (n1.val * k1.val)) = ⟨stage x tFr n2 k1, stage x tFi n2 k1⟩ := by
  apply Complex.ext
  · simp only [Complex.re_sum, stage, Complex.re_ofReal_mul, cis_64, tFr]
  · simp only [Complex.im_sum, stage, Complex.im_ofReal_mul, cis_64, tFi]

theorem sp_eq (k2 k1 : Fin 64) :
    ∑ n2 : Fin 64, cis (64 * (k2.val * n2.val)) * ((∑ n1 : Fin 64, (x n2 n1 : ℂ) * cis (64 * (n1.val * k1.val))) * cis (n2.val * k1.val))
      = ⟨spR tFr tFi tWr tWi x k2 k1, spI tFr tFi tWr tWi x k2 k1⟩ := by
  simp only [stage_eq]
  simp only [cis_64]
  apply Complex.ext
  · simp only [Complex.re_sum, spR, Complex.mul_re, Complex.mul_im, cis, twR, twI, tFr, tFi, tWr, tWi, ← Finset.sum_sub_distrib]
  · simp only [Complex.im_sum, spI, Complex.mul_re, Complex.mul_im, cis, twR, twI, tFr, tFi, tWr, tWi, ← Finset.sum_add_distrib]

/-- The two-stage transform is the transform by its definition. -/
theorem sp_ft (y : Fin 4096 → ℝ) (k2 k1 : Fin 64) :
    (⟨spR tFr tFi tWr tWi (fun n2 n1 => y (glue n1 n2)) k2 k1, spI tFr tFi tWr tWi (fun n2 n1 => y (glue n1 n2)) k2 k1⟩ : ℂ)
      = ⟨ftR y (glue k2 k1), ftI y (glue k2 k1)⟩ := by
  rw [← sp_eq, ← ft_eq, sum_glue]
  refine Finset.sum_congr rfl fun n2 _ => ?_
  rw [Finset.sum_mul, Finset.mul_sum]
  refine Finset.sum_congr rfl fun n1 _ => ?_
  rw [cis_glue]; ring

theorem spR_ft (y : Fin 4096 → ℝ) (k2 k1 : Fin 64) :
    spR tFr tFi tWr tWi (fun n2 n1 => y (glue n1 n2)) k2 k1 = ftR y (glue k2 k1) := congrArg Complex.re (sp_ft y k2 k1)

theorem spI_ft (y : Fin 4096 → ℝ) (k2 k1 : Fin 64) :
    spI tFr tFi tWr tWi (fun n2 n1 => y (glue n1 n2)) k2 k1 = ftI y (glue k2 k1) := congrArg Complex.im (sp_ft y k2 k1)

end Autocorr
-- ==== Proof.Spectrum.lean ====
/- The spectrum call's arithmetic over the real numbers: what each of its payloads is on tables and blocks of finite
   numbers. -/
module

public import proofs.«01_k».proof.Proof.Dft
public import proofs.«01_k».proof.Proof.Gen.KernelIdeal.Skeleton
public import Idealize.ShloMosaic.Lib.Pointwise

@[expose] public section

set_option maxRecDepth 16384

noncomputable section

namespace Autocorr

open Cert.KernelIdeal Cert.KernelIdeal.Gen Idealize.ShloMosaic
open scoped BigOperators

/-- A finite sum of coerced reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_sub_self (a : ℝ) : (a : EReal) - (a : EReal) = 0 := by rw [← EReal.coe_sub, sub_self, EReal.coe_zero]

/-- Matrices and boxes of finite numbers. -/
def m2 (f : Fin 64 → Fin 64 → ℝ) : S64x64.Idx → EReal := fun j => ((f (j 0) (j 1) : ℝ) : EReal)
def m3 (f : Fin 64 → Fin 64 → Fin 64 → ℝ) : S64x64x64.Idx → EReal := fun j => ((f (j 0) (j 1) (j 2) : ℝ) : EReal)
def m4 (f : Fin 64 → Fin 64 → Fin 64 → ℝ) : S1x64x64x64.Idx → EReal := fun j => ((f (j 1) (j 2) (j 3) : ℝ) : EReal)
/-- The last two axes of a box as one, the first two as one. -/
def mr (f : Fin 64 → Fin 64 → Fin 64 → ℝ) : S64x4096.Idx → EReal :=
  fun j => ((f (j 0) ⟨(j 1).val / 64, by have := (j 1).isLt; change _ < 4096 at this; omega⟩ ⟨(j 1).val % 64, Nat.mod_lt _ (by decide)⟩ : ℝ) : EReal)
def ml (f : Fin 64 → Fin 64 → Fin 64 → ℝ) : S4096x64.Idx → EReal :=
  fun j => ((f ⟨(j 0).val / 64, by have := (j 0).isLt; change _ < 4096 at this; omega⟩ ⟨(j 0).val % 64, Nat.mod_lt _ (by decide)⟩ (j 1) : ℝ) : EReal)
/-- The zero blocks: what is left of a finite number once its rounding is subtracted. -/
def z2 : S64x64.Idx → EReal := fun _ => 0
def zr : S64x4096.Idx → EReal := fun _ => 0
def zl : S4096x64.Idx → EReal := fun _ => 0
/-- A table with a unit axis for the channels. -/
def m1 (f : Fin 64 → Fin 64 → ℝ) : S64x1x64.Idx → EReal := fun j => ((f (j 0) (j 2) : ℝ) : EReal)

theorem mr_at (f : Fin 64 → Fin 64 → Fin 64 → ℝ) (a d b : Fin 64) (h : d.val * 64 + b.val < 4096) :
    mr f (ix2 a ⟨d.val * 64 + b.val, h⟩) = ((f a d b : ℝ) : EReal) := by
  have h1 : (d.val * 64 + b.val) / 64 = d.val := by omega
  have h2 : (d.val * 64 + b.val) % 64 = b.val := by omega
  simp only [mr, ix2_1, ix2_0, h1, h2]

theorem ml_at (f : Fin 64 → Fin 64 → Fin 64 → ℝ) (a d b : Fin 64) (h : a.val * 64 + d.val < 4096) :
    ml f (ix2 ⟨a.val * 64 + d.val, h⟩ b) = ((f a d b : ℝ) : EReal) := by
  have h1 : (a.val * 64 + d.val) / 64 = a.val := by omega
  have h2 : (a.val * 64 + d.val) % 64 = d.val := by omega
  simp only [ml, ix2_1, ix2_0, h1, h2]

theorem ml_at_div (f : Fin 64 → Fin 64 → Fin 64 → ℝ) (a b : Fin 64) (n : Fin 4096) (h : a.val * 64 + n.val / 64 < 4096) :
    ml f (ix2 ⟨a.val * 64 + n.val / 64, h⟩ b) = ((f a ⟨n.val / 64, by omega⟩ b : ℝ) : EReal) := ml_at f a ⟨n.val / 64, by omega⟩ b h

variable (fr fi wr wi : Fin 64 → Fin 64 → ℝ) (x u v b c : Fin 64 → Fin 64 → Fin 64 → ℝ)

/-- The first stage of every channel of a block. -/
def bx (f : Fin 64 → Fin 64 → ℝ) (n2 d k1 : Fin 64) : ℝ := stage (fun a b => x a d b) f n2 k1
/-- The twiddles applied to a block of complex numbers. -/
def tR (n2 d k1 : Fin 64) : ℝ := b n2 d k1 * wr n2 k1 - c n2 d k1 * wi n2 k1
def tI (n2 d k1 : Fin 64) : ℝ := b n2 d k1 * wi n2 k1 + c n2 d k1 * wr n2 k1
/-- The second stage of every channel by one table, and the two parts of the complex transform. -/
def sx (f : Fin 64 → Fin 64 → ℝ) (k2 d k1 : Fin 64) : ℝ := ∑ n2, f k2 n2 * u n2 d k1
def xR (k2 d k1 : Fin 64) : ℝ := sx u fr k2 d k1 - sx v fi k2 d k1
def xI (k2 d k1 : Fin 64) : ℝ := sx v fr k2 d k1 + sx u fi k2 d k1

theorem p11 : k0_pay11 (F := Ideal) (m2 wr) = m1 wr := by
  funext j; idx_vars j; pointwise [k0_pay11, m2, m1]
theorem p12 : k0_pay12 (F := Ideal) (m2 wr) = m1 wr := by
  funext j; idx_vars j; pointwise [k0_pay12, m2, m1]
theorem p13 : k0_pay13 (F := Ideal) (m2 fr) = m2 fr := by
  funext j; idx_vars j; pointwise [k0_pay13, k0_pay9, m2]
theorem p15 : k0_pay15 (F := Ideal) (m2 fr) = m2 fr := by
  funext j; idx_vars j; pointwise [k0_pay15, k0_pay10, m2]
theorem p14 : k0_pay14 (F := Ideal) (m2 fr) = z2 := by
  funext j; idx_vars j
  pointwise [k0_pay14, k0_pay9, k0_pay13, m2]; exact coe_sub_self _
theorem p16 : k0_pay16 (F := Ideal) (m2 fr) = z2 := by
  funext j; idx_vars j
  pointwise [k0_pay16, k0_pay10, k0_pay15, m2]; exact coe_sub_self _
theorem p20 : k0_pay20 (F := Ideal) (m4 x) = ml x := by
  funext j; idx_vars j; pointwise [k0_pay20, k0_pay19, m4, ml]
theorem p21 : k0_pay21 (F := Ideal) (m4 x) = zl := by
  funext j; idx_vars j; pointwise [k0_pay21, k0_pay20, k0_pay19, m4, ml]; exact coe_sub_self _

theorem p22 : k0_pay22 (F := Ideal) (m2 fr) (m4 x) = m3 (bx x fr) := by
  unfold k0_pay22; rw [p20, p21, p13, p14]
  funext j; idx_vars j
  pointwise [z2, zl, zr, m2, m3, bx, stage]
  simp only [ml_at, ml_at_div, mr_at, mul_zero, zero_mul, Finset.sum_const_zero, zero_add, add_zero,
    EReal.coe_mul, EReal.coe_add, EReal.coe_sub, coe_sum]

theorem p23 : k0_pay23 (F := Ideal) (m2 fi) (m4 x) = ml (bx x fi) := by
  unfold k0_pay23; rw [p20, p21, p15, p16]
  funext j; idx_vars j
  pointwise [z2, zl, zr, m2, ml, bx, stage]
  simp only [ml_at, ml_at_div, mr_at, mul_zero, zero_mul, Finset.sum_const_zero, zero_add, add_zero,
    EReal.coe_mul, EReal.coe_add, EReal.coe_sub, coe_sum]

theorem p25 : k0_pay25 (F := Ideal) (m1 wr) (m1 wi) (m3 b) (ml c) = mr (tR wr wi b c) := by
  unfold k0_pay25 k0_pay24
  funext j; idx_vars j
  pointwise [z2, zl, zr, m1, m3, mr, tR]
  simp only [ml_at, ml_at_div, mr_at, mul_zero, zero_mul, Finset.sum_const_zero, zero_add, add_zero,
    EReal.coe_mul, EReal.coe_add, EReal.coe_sub, coe_sum]

theorem p26 : k0_pay26 (F := Ideal) (m1 wr) (m1 wi) (m3 b) (ml c) = mr (tR wr wi b c) := by
  unfold k0_pay26; rw [p25]; rfl
theorem p27 : k0_pay27 (F := Ideal) (m1 wr) (m1 wi) (m3 b) (ml c) = zr := by
  unfold k0_pay27; rw [p25, p26]; funext j; exact coe_sub_self _
theorem p28 : k0_pay28 (F := Ideal) (m1 wr) (m1 wi) (m3 b) (ml c) = mr (tI wr wi b c) := by
  unfold k0_pay28 k0_pay24
  funext j; idx_vars j
  pointwise [z2, zl, zr, m1, m3, mr, tI]
  simp only [ml_at, ml_at_div, mr_at, mul_zero, zero_mul, Finset.sum_const_zero, zero_add, add_zero,
    EReal.coe_mul, EReal.coe_add, EReal.coe_sub, coe_sum]

theorem p29 : k0_pay29 (F := Ideal) (m1 wr) (m1 wi) (m3 b) (ml c) = mr (tI wr wi b c) := by
  unfold k0_pay29; rw [p28]; rfl
theorem p30 : k0_pay30 (F := Ideal) (m1 wr) (m1 wi) (m3 b) (ml c) = zr := by
  unfold k0_pay30; rw [p28, p29]; funext j; exact coe_sub_self _
theorem p31 : k0_pay31 (F := Ideal) (m1 wr) (m1 wi) (m2 fr) z2 (m2 fi) z2 (m3 b) (ml c) = mr (xR fr fi (tR wr wi b c) (tI wr wi b c)) := by
  unfold k0_pay31; rw [p26, p27, p29, p30]
  funext j; idx_vars j
  pointwise [z2, zl, zr, m2, mr, xR, sx]
  simp only [ml_at, ml_at_div, mr_at, mul_zero, zero_mul, Finset.sum_const_zero, zero_add, add_zero,
    EReal.coe_mul, EReal.coe_add, EReal.coe_sub, coe_sum]

theorem p32 : k0_pay32 (F := Ideal) (m1 wr) (m1 wi) (m2 fr) z2 (m2 fi) z2 (m3 b) (ml c) = mr (xI fr fi (tR wr wi b c) (tI wr wi b c)) := by
  unfold k0_pay32; rw [p26, p27, p29, p30]
  funext j; idx_vars j
  pointwise [z2, zl, zr, m2, mr, xI, sx]
  simp only [ml_at, ml_at_div, mr_at, mul_zero, zero_mul, Finset.sum_const_zero, zero_add, add_zero,
    EReal.coe_mul, EReal.coe_add, EReal.coe_sub, coe_sum]

theorem p34 : k0_pay34 (F := Ideal) (m4 x) = ml x := p20 x
theorem p35 : k0_pay35 (F := Ideal) (m4 x) = zl := p21 x
theorem p36 : k0_pay36 (F := Ideal) (m2 fr) z2 (m4 x) = m3 (bx x fr) := by
  unfold k0_pay36; rw [p34, p35]
  funext j; idx_vars j
  pointwise [z2, zl, zr, m2, m3, bx, stage]
  simp only [ml_at, ml_at_div, mr_at, mul_zero, zero_mul, Finset.sum_const_zero, zero_add, add_zero,
    EReal.coe_mul, EReal.coe_add, EReal.coe_sub, coe_sum]

theorem p37 : k0_pay37 (F := Ideal) (m2 fi) z2 (m4 x) = m3 (bx x fi) := by
  unfold k0_pay37; rw [p34, p35]
  funext j; idx_vars j
  pointwise [z2, zl, zr, m2, m3, bx, stage]
  simp only [ml_at, ml_at_div, mr_at, mul_zero, zero_mul, Finset.sum_const_zero, zero_add, add_zero,
    EReal.coe_mul, EReal.coe_add, EReal.coe_sub, coe_sum]

theorem p38 : k0_pay38 (F := Ideal) (m1 wr) (m1 wi) (m2 fr) z2 (m2 fi) z2 (m4 x) = mr (tR wr wi (bx x fr) (bx x fi)) := by
  unfold k0_pay38; rw [p36, p37]
  funext j; idx_vars j
  pointwise [z2, zl, zr, m1, m3, mr, tR]
  simp only [ml_at, ml_at_div, mr_at, mul_zero, zero_mul, Finset.sum_const_zero, zero_add, add_zero,
    EReal.coe_mul, EReal.coe_add, EReal.coe_sub, coe_sum]

theorem p39 : k0_pay39 (F := Ideal) (m1 wr) (m1 wi) (m2 fr) z2 (m2 fi) z2 (m4 x) = mr (tR wr wi (bx x fr) (bx x fi)) := p38 fr fi wr wi x
theorem p40 : k0_pay40 (F := Ideal) (m1 wr) (m1 wi) (m2 fr) z2 (m2 fi) z2 (m4 x) = zr := by
  unfold k0_pay40; rw [p38, p39]; funext j; exact coe_sub_self _
theorem p41 : k0_pay41 (F := Ideal) (m1 wr) (m1 wi) (m2 fr) z2 (m2 fi) z2 (m4 x) = mr (tI wr wi (bx x fr) (bx x fi)) := by
  unfold k0_pay41; rw [p36, p37]
  funext j; idx_vars j
  pointwise [z2, zl, zr, m1, m3, mr, tI]
  simp only [ml_at, ml_at_div, mr_at, mul_zero, zero_mul, Finset.sum_const_zero, zero_add, add_zero,
    EReal.coe_mul, EReal.coe_add, EReal.coe_sub, coe_sum]

theorem p42 : k0_pay42 (F := Ideal) (m1 wr) (m1 wi) (m2 fr) z2 (m2 fi) z2 (m4 x) = mr (tI wr wi (bx x fr) (bx x fi)) := p41 fr fi wr wi x
theorem p43 : k0_pay43 (F := Ideal) (m1 wr) (m1 wi) (m2 fr) z2 (m2 fi) z2 (m4 x) = zr := by
  unfold k0_pay43; rw [p41, p42]; funext j; exact coe_sub_self _
theorem p44 : k0_pay44 (F := Ideal) (m1 wr) (m1 wi) (m2 fr) z2 (m2 fi) z2 (m4 x) = mr (sx (tR wr wi (bx x fr) (bx x fi)) fr) := by
  unfold k0_pay44; rw [p39, p40]
  funext j; idx_vars j
  pointwise [z2, zl, zr, m2, mr, sx]
  simp only [ml_at, ml_at_div, mr_at, mul_zero, zero_mul, Finset.sum_const_zero, zero_add, add_zero,
    EReal.coe_mul, EReal.coe_add, EReal.coe_sub, coe_sum]

theorem p45 : k0_pay45 (F := Ideal) (m1 wr) (m1 wi) (m2 fr) z2 (m2 fi) z2 (m4 x) = mr (sx (tI wr wi (bx x fr) (bx x fi)) fi) := by
  unfold k0_pay45; rw [p42, p43]
  funext j; idx_vars j
  pointwise [z2, zl, zr, m2, mr, sx]
  simp only [ml_at, ml_at_div, mr_at, mul_zero, zero_mul, Finset.sum_const_zero, zero_add, add_zero,
    EReal.coe_mul, EReal.coe_add, EReal.coe_sub, coe_sum]

theorem p46 : k0_pay46 (F := Ideal) (mr u) (mr v) = mr (fun a d e => u a d e - v a d e) := by
  unfold k0_pay46
  funext j; idx_vars j
  pointwise [z2, zl, zr, mr]
  simp only [ml_at, ml_at_div, mr_at, mul_zero, zero_mul, Finset.sum_const_zero, zero_add, add_zero,
    EReal.coe_mul, EReal.coe_add, EReal.coe_sub, coe_sum]

theorem p47 : k0_pay47 (F := Ideal) (m2 fr) z2 (m2 fi) z2 (mr u) zr (mr v) zr = mr (xI fr fi u v) := by
  unfold k0_pay47
  funext j; idx_vars j
  pointwise [z2, zl, zr, m2, mr, xI, sx]
  simp only [ml_at, ml_at_div, mr_at, mul_zero, zero_mul, Finset.sum_const_zero, zero_add, add_zero,
    EReal.coe_mul, EReal.coe_add, EReal.coe_sub, coe_sum]

/-- The cross-spectrum of two complex boxes summed over the channels: real and imaginary part of `q · conj k`. -/
def cR (q q' k k' : Fin 64 → Fin 64 → Fin 64 → ℝ) (k2 k1 : Fin 64) : ℝ := ∑ d, (q k2 d k1 * k k2 d k1 + q' k2 d k1 * k' k2 d k1)
def cI (q q' k k' : Fin 64 → Fin 64 → Fin 64 → ℝ) (k2 k1 : Fin 64) : ℝ := ∑ d, (q' k2 d k1 * k k2 d k1 - q k2 d k1 * k' k2 d k1)

variable (acc : Fin 64 → Fin 64 → ℝ) (q q' s t : Fin 64 → Fin 64 → Fin 64 → ℝ)

theorem p48 : k0_pay48 (F := Ideal) (m2 fr) z2 (m2 fi) z2 (m2 acc) (mr q) (mr q') (mr u) zr (mr v) zr (mr s) (mr t)
    = m2 (fun a e => acc a e + cR q q' (fun a d e => s a d e - t a d e) (xI fr fi u v) a e) := by
  unfold k0_pay48; rw [p46, p47]
  funext j; idx_vars j
  pointwise [z2, zl, zr, m2, cR]
  simp only [ml_at, ml_at_div, mr_at, mul_zero, zero_mul, Finset.sum_const_zero, zero_add, add_zero,
    EReal.coe_mul, EReal.coe_add, EReal.coe_sub, coe_sum]

theorem p49 : k0_pay49 (F := Ideal) (m2 fr) z2 (m2 fi) z2 (m2 acc) (mr q) (mr q') (mr u) zr (mr v) zr (mr s) (mr t)
    = m2 (fun a e => acc a e + cI q q' (fun a d e => s a d e - t a d e) (xI fr fi u v) a e) := by
  unfold k0_pay49; rw [p46, p47]
  funext j; idx_vars j
  pointwise [z2, zl, zr, m2, cI]
  simp only [ml_at, ml_at_div, mr_at, mul_zero, zero_mul, Finset.sum_const_zero, zero_add, add_zero,
    EReal.coe_mul, EReal.coe_add, EReal.coe_sub, coe_sum]

theorem p17 : k0_pay17 (F := Ideal) = m2 (fun _ _ => 0) := by
  funext j; pointwise [k0_pay17, m2]; exact EReal.coe_zero.symm
theorem p18 : k0_pay18 (F := Ideal) = m2 (fun _ _ => 0) := by
  funext j; pointwise [k0_pay18, m2]; exact EReal.coe_zero.symm
theorem p53 : k0_pay53 (F := Ideal) (m2 fr) z2 (m4 x) = m3 (bx x fr) := p36 fr x
theorem p51 : k0_pay51 (F := Ideal) (m4 x) = ml x := p20 x
theorem p52 : k0_pay52 (F := Ideal) (m4 x) = zl := p21 x
theorem p54 : k0_pay54 (F := Ideal) (m2 fi) z2 (m4 x) = ml (bx x fi) := by
  unfold k0_pay54; rw [p51, p52]
  funext j; idx_vars j
  pointwise [z2, zl, zr, m2, ml, bx, stage]
  simp only [ml_at, ml_at_div, mr_at, mul_zero, zero_mul, Finset.sum_const_zero, zero_add, add_zero,
    EReal.coe_mul, EReal.coe_add, EReal.coe_sub, coe_sum]
theorem p62 : k0_pay62 (F := Ideal) (m1 wr) (m1 wi) (m2 fr) z2 (m2 fi) z2 (m3 b) (ml c) = mr (xR fr fi (tR wr wi b c) (tI wr wi b c)) := p31 fr fi wr wi b c
theorem p63 : k0_pay63 (F := Ideal) (m1 wr) (m1 wi) (m2 fr) z2 (m2 fi) z2 (m3 b) (ml c) = mr (xI fr fi (tR wr wi b c) (tI wr wi b c)) := p32 fr fi wr wi b c
theorem p70 : k0_pay70 (F := Ideal) (m1 wr) (m1 wi) (m2 fr) z2 (m2 fi) z2 (m4 x) = mr (tR wr wi (bx x fr) (bx x fi)) := p39 fr fi wr wi x
theorem p71 : k0_pay71 (F := Ideal) (m1 wr) (m1 wi) (m2 fr) z2 (m2 fi) z2 (m4 x) = zr := p40 fr fi wr wi x
theorem p73 : k0_pay73 (F := Ideal) (m1 wr) (m1 wi) (m2 fr) z2 (m2 fi) z2 (m4 x) = mr (tI wr wi (bx x fr) (bx x fi)) := p42 fr fi wr wi x
theorem p74 : k0_pay74 (F := Ideal) (m1 wr) (m1 wi) (m2 fr) z2 (m2 fi) z2 (m4 x) = zr := p43 fr fi wr wi x
theorem p75 : k0_pay75 (F := Ideal) (m1 wr) (m1 wi) (m2 fr) z2 (m2 fi) z2 (m4 x) = mr (sx (tR wr wi (bx x fr) (bx x fi)) fr) := p44 fr fi wr wi x
theorem p76 : k0_pay76 (F := Ideal) (m1 wr) (m1 wi) (m2 fr) z2 (m2 fi) z2 (m4 x) = mr (sx (tI wr wi (bx x fr) (bx x fi)) fi) := p45 fr fi wr wi x
theorem p3 : k0_pay3 (F := Ideal) (m2 fr) z2 (m2 fi) z2 (m2 acc) (mr q) (mr q') (mr u) zr (mr v) zr (mr s) (mr t)
    = m2 (fun a e => acc a e + cR q q' (fun a d e => s a d e - t a d e) (xI fr fi u v) a e) := p48 fr fi u v acc q q' s t
theorem p4 : k0_pay4 (F := Ideal) (m2 fr) z2 (m2 fi) z2 (m2 acc) (mr q) (mr q') (mr u) zr (mr v) zr (mr s) (mr t)
    = m2 (fun a e => acc a e + cI q q' (fun a d e => s a d e - t a d e) (xI fr fi u v) a e) := p49 fr fi u v acc q q' s t

end Autocorr
-- ==== Proof.GhostI.lean ====
/- What both calls' runs ride on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Autocorr.AggI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost algebra: the pipeline's, beside the counters the row fetches ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

end Autocorr.AggI

end
-- ==== Proof.SpecRunsI.lean ====
/- The first call's grid points: its windows' blocks, its two cases, and where each window is in use. -/
module

public import proofs.«01_k».proof.Proof.GhostI

@[expose] public section

set_option maxRecDepth 16384

noncomputable section

namespace Autocorr.SpecI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Autocorr.AggI (UU 𝒱₀ EP)

local notation "𝕄" => MT nD τ sig Unit (Elt F) ℕ (UU nD τ) ℕ

-- the buffers' contents where the call begins
variable (m : (c : Dev nD) → (b : Ref sig .tc) → Buf (Elt F) ((c : Thread nD τ).loc b))

/-- A buffer's contents where the call begins. -/
abbrev V (c : Dev nD) (b : Ref sig .tc) : Buf (Elt F) ((c : Thread nD τ).loc b) := m c b

/-- A window's block at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The windows' blocks -/

theorem before0_0_of {c : Dev nD} (dat : Dat τ (Elt F) Unit ℕ (UU nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UU nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UU nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UU nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UU nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UU nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

abbrev cond0_0 (i : grid0.Coords) : Prop := k0_cond1 i = 1#1
theorem hcond0_0 : ∀ t : Fin cfg0.N, cond0_0 (grid0.coords t) ↔ t.val % 6 = 0 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

abbrev cond0_1 (i : grid0.Coords) : Prop := k0_cond2 i = 1#1
theorem hcond0_1 : ∀ t : Fin cfg0.N, cond0_1 (grid0.coords t) ↔ 1 ≤ t.val % 6 :=
  (fun t => by
    have ht : t.val < 12 := Nat.lt_of_lt_of_eq t.isLt N_0
    have e0 : (grid0.coords t 0).val = t.val / 6 % 2 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ 1 ≤ t.val % 6)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
def freshTab0_6 : ℕ → Bool
  | 0 => true
  | n + 1 => (0x820 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem liveAt0_6_A : ∀ t : Fin cfg0.N, cond0_0 (grid0.coords t) → ¬cond0_1 (grid0.coords t) → cfg0.idle 6 (grid0.coords t) = false := by decide +kernel
theorem liveAt0_6_B : ∀ t : Fin cfg0.N, ¬cond0_0 (grid0.coords t) → cond0_1 (grid0.coords t) → cfg0.idle 6 (grid0.coords t) = false := by decide +kernel
theorem notFresh0_6_B : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

abbrev VO0_6 : View sig .tc .vmem S1x2x64x64 .f32 := (Memref.whole cc0_stg6_0 : Memref sig .tc .vmem S1x2x64x64 .f32).view
abbrev ms0_0 (t : Fin cfg0.N) : Memref sig .tc .vmem S1x64x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x64 .f32 := win0_6.stage (cfg0.slots t 6)
abbrev hs0_6 (t : Fin cfg0.N) : (ms0_6 t).IsWhole := hstage0_6 ((cfg0.slots t 6).cast nbuf0_6)

end Autocorr.SpecI

end
-- ==== Proof.SpecAI.lean ====
/- The first call's body run in the case of a first head tile. -/
module

public import proofs.«01_k».proof.Proof.SpecRunsI

@[expose] public section

set_option maxRecDepth 16384

noncomputable section

namespace Autocorr.SpecI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Autocorr.AggI (UU 𝒱₀ EP)

local notation "𝕄" => MT nD τ sig Unit (Elt F) ℕ (UU nD τ) ℕ

set_option maxHeartbeats 1000000 in
/-- The body's run in this case, and the pieces it leaves in the result's block. -/
noncomputable def kernelRun0_A (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : cond0_0 i) (hc1 : ¬cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) :
    { L6 : List (View.Piece (Elt F) S1x2x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__spectrum_kernel i arg2 harg2 arg3 harg3 arg4 harg4 arg5 harg5 arg6 harg6 arg7 harg7 arg8 harg8) K } := by
  refine ⟨?_, fun E K => ?run⟩
  case run =>
    simp only [cc0__spectrum_kernel_eq_skeleton]; unfold cc0__spectrum_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Autocorr.SpecI

end
-- ==== Proof.SpecBI.lean ====
/- The first call's body run in the case of a later head tile. -/
module

public import proofs.«01_k».proof.Proof.SpecAI

@[expose] public section

set_option maxRecDepth 16384

noncomputable section

namespace Autocorr.SpecI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Autocorr.AggI (UU 𝒱₀ EP)

local notation "𝕄" => MT nD τ sig Unit (Elt F) ℕ (UU nD τ) ℕ

set_option maxHeartbeats 1000000 in
/-- The body's run in this case, and the pieces it leaves in the result's block. -/
noncomputable def kernelRun0_B (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : ¬cond0_0 i) (hc1 : cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) (xo6 : Vec F S1x2x64x64 .f32) :
    { L6 : List (View.Piece (Elt F) S1x2x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__spectrum_kernel i arg2 harg2 arg3 harg3 arg4 harg4 arg5 harg5 arg6 harg6 arg7 harg7 arg8 harg8) K } := by
  refine ⟨?_, fun E K => ?run⟩
  case run =>
    simp only [cc0__spectrum_kernel_eq_skeleton]; unfold cc0__spectrum_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Autocorr.SpecI

end
-- ==== Proof.SpecFrameI.lean ====
/- The first call at every grid point, and what each point writes back. -/
module

public import proofs.«01_k».proof.Proof.SpecBI
public import Idealize.ShloMosaic.Lib.Pipeline.Value

@[expose] public section

set_option maxRecDepth 16384

noncomputable section

namespace Autocorr.SpecI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Autocorr.AggI (UU 𝒱₀ EP)

local notation "𝕄" => MT nD τ sig Unit (Elt F) ℕ (UU nD τ) ℕ

-- the buffers' contents where the call begins
variable (m : (c : Dev nD) → (b : Ref sig .tc) → Buf (Elt F) ((c : Thread nD τ).loc b))

theorem cover0_A_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : cond0_0 i) (hc1 : ¬cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) (y : S1x2x64x64.Idx) :
    ∃ pc ∈ (kernelRun0_A c i arg2 harg2 arg3 harg3 arg4 harg4 arg5 harg5 arg6 harg6 arg7 harg7 arg8 harg8 hc0 hc1 x0 x1 x2 x3 x4 x5).1, y ∈ pc.1.set :=
  View.cover_of_tiledL (kernelRun0_A c i arg2 harg2 arg3 harg3 arg4 harg4 arg5 harg5 arg6 harg6 arg7 harg7 arg8 harg8 hc0 hc1 x0 x1 x2 x3 x4 x5).1 S1x1x64x64.size (by sl_kernel_rfl) y

def out0_A_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : cond0_0 i) (hc1 : ¬cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) : Vec F S1x2x64x64 .f32 :=
  VO0_6.read (Elt F) (VO0_6.writes (Elt F) VO0_6.junk (kernelRun0_A c i arg2 harg2 arg3 harg3 arg4 harg4 arg5 harg5 arg6 harg6 arg7 harg7 arg8 harg8 hc0 hc1 x0 x1 x2 x3 x4 x5).1)

theorem cover0_B_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : ¬cond0_0 i) (hc1 : cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) (xo6 : Vec F S1x2x64x64 .f32) (y : S1x2x64x64.Idx) :
    ∃ pc ∈ (kernelRun0_B c i arg2 harg2 arg3 harg3 arg4 harg4 arg5 harg5 arg6 harg6 arg7 harg7 arg8 harg8 hc0 hc1 x0 x1 x2 x3 x4 x5 xo6).1, y ∈ pc.1.set :=
  View.cover_of_tiledL (kernelRun0_B c i arg2 harg2 arg3 harg3 arg4 harg4 arg5 harg5 arg6 harg6 arg7 harg7 arg8 harg8 hc0 hc1 x0 x1 x2 x3 x4 x5 xo6).1 S1x1x64x64.size (by sl_kernel_rfl) y

def out0_B_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x2x64x64 .f32) (harg8 : arg8.IsWhole) (hc0 : ¬cond0_0 i) (hc1 : cond0_1 i)
    (x0 : Vec F S1x64x128x64 .f32) (x1 : Vec F S1x64x128x64 .f32) (x2 : Vec F S64x64 .f32) (x3 : Vec F S64x64 .f32) (x4 : Vec F S64x64 .f32) (x5 : Vec F S64x64 .f32) (xo6 : Vec F S1x2x64x64 .f32) : Vec F S1x2x64x64 .f32 :=
  VO0_6.read (Elt F) (VO0_6.writes (Elt F) VO0_6.junk (kernelRun0_B c i arg2 harg2 arg3 harg3 arg4 harg4 arg5 harg5 arg6 harg6 arg7 harg7 arg8 harg8 hc0 hc1 x0 x1 x2 x3 x4 x5 xo6).1)

/-! ## What the outputs hold after each point -/

/-- What the result's block holds after each grid point. -/
def outsAt0 (c : Dev nD) : (n : ℕ) → n < cfg0.N → Vec F S1x2x64x64 .f32
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 6 = 0 then
      if h1 : 1 ≤ (n + 1) % 6 then
        False.elim (by have hN : n + 1 < 12 := lt_of_lt_of_eq hn (show cfg0.N = 12 from N_0); omega)
      else
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : 1 ≤ (n + 1) % 6 then
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        False.elim (by have hN : n + 1 < 12 := lt_of_lt_of_eq hn (show cfg0.N = 12 from N_0); omega)

theorem outsAt0_A (c : Dev nD) (t : Fin cfg0.N) (h0 : t.val % 6 = 0) (h1 : ¬1 ≤ t.val % 6) :
    outsAt0 m c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

theorem outsAt0_B (c : Dev nD) (t : Fin cfg0.N) (h0 : ¬t.val % 6 = 0) (h1 : 1 ≤ t.val % 6) :
    outsAt0 m c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The run's data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.scopedRest spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 12 := lt_of_lt_of_eq t.isLt (show cfg0.N = 12 from N_0)
  rw [after0_6, after0_6]
  by_cases h0 : t.val % 6 = 0
  · by_cases h1 : 1 ≤ t.val % 6
    · exfalso; omega
    · rw [liveAt0_6_A t ((hcond0_0 t).mpr h0) (fun h => h1 ((hcond0_1 t).mp h))] at hi
      exact absurd hi Bool.false_ne_true
  · by_cases h1 : 1 ≤ t.val % 6
    · rw [liveAt0_6_B t (fun h => h0 ((hcond0_0 t).mp h)) ((hcond0_1 t).mpr h1)] at hi
      exact absurd hi Bool.false_ne_true
    · exfalso; omega
theorem before0_6_B (c : Dev nD) (t : Fin cfg0.N) (h0 : ¬t.val % 6 = 0) (h1 : 1 ≤ t.val % 6) (d) :
    (dats m 0 c).before 6 t d = (outsAt0 m c (t.val - 1) (Nat.lt_of_le_of_lt (Nat.sub_le _ _) t.isLt)) := by
  rw [Dat.before_out_traj _ 6 rfl (fun _ _ => rfl) (hcarry0_6 m c) t.val t rfl d,
    if_neg (by rw [notFresh0_6_B t (fun h => h0 ((hcond0_0 t).mp h)) ((hcond0_1 t).mpr h1)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 12 := lt_of_lt_of_eq t.isLt (show cfg0.N = 12 from N_0)
  by_cases h0 : t.val % 6 = 0
  · by_cases h1 : 1 ≤ t.val % 6
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [outsAt0_A m c t h0 h1]
      unfold out0_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _)
  · by_cases h1 : 1 ≤ t.val % 6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [outsAt0_B m c t h0 h1]
      simp only [before0_6_B m c t h0 h1]
      unfold out0_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## What each point writes back -/

theorem flushed6 (c : Dev nD) (t : Fin cfg0.N) :
    (dats m 0 c).flushed 6 t = (cfg0.win 6).cut (grid0.coords t) (outsAt0 m c t.val t.isLt) := by
  show (cfg0.win 6).cut (grid0.coords t) ((dats m 0 c).after 6 t) = _
  rw [after0_6]

theorem flushed6_A (c : Dev nD) (t : Fin cfg0.N) (h0 : t.val % 6 = 0) (h1 : ¬1 ≤ t.val % 6) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

theorem flushed6_B (c : Dev nD) (t : Fin cfg0.N) (h0 : ¬t.val % 6 = 0) (h1 : 1 ≤ t.val % 6) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt))) := by
  simp only [flushed6, outsAt0_B m c t h0 h1]

end Autocorr.SpecI

end
-- ==== Proof.Point.lean ====
/- One grid point of the spectrum call over the real numbers: the block it leaves. -/
module

public import proofs.«01_k».proof.Proof.Spectrum
public import proofs.«01_k».proof.Proof.SpecFrameI
public import Idealize.ShloMosaic.Lib.Pipeline.ValueKit

@[expose] public section

set_option maxRecDepth 16384

noncomputable section

namespace Autocorr

open Autocorr.SpecI Cert.KernelIdeal Cert.KernelIdeal.Gen Idealize.ShloMosaic Idealize.ShloMosaic.TcCoe
open scoped BigOperators

/-- A block of 128 channels of finite numbers. -/
def mb (f : Fin 64 → Fin 128 → Fin 64 → ℝ) : S1x64x128x64.Idx → EReal := fun j => ((f (j 1) (j 2) (j 3) : ℝ) : EReal)

variable (fr fi wr wi : Fin 64 → Fin 64 → ℝ) (X Y : Fin 64 → Fin 128 → Fin 64 → ℝ)

/-- The lower and the upper half of a block's channels. -/
def lo (d : Fin 64) : Fin 128 := ⟨d.val, by omega⟩
def hi (d : Fin 64) : Fin 128 := ⟨64 + d.val, by omega⟩

/-- One plane of the output block, and the block of two planes. -/
def mo (f : Fin 64 → Fin 64 → ℝ) : S1x1x64x64.Idx → EReal := fun j => ((f (j 2) (j 3) : ℝ) : EReal)
def ox (f g : Fin 64 → Fin 64 → ℝ) : S1x2x64x64.Idx → EReal :=
  fun j => if (j 1).val = 0 then ((f (j 2) (j 3) : ℝ) : EReal) else ((g (j 2) (j 3) : ℝ) : EReal)

theorem ld_lo (h) : View.ld (Val := Elt Ideal) (e' := .f32) (mb X) (Rect.unit (s := S1x64x128x64) ![0, 0, 0, 0] ![1, 64, 64, 64] h) = m4 (fun a d b => X a (lo d) b) := by
  funext j; idx_vars j; pointwise [mb, m4, lo]

theorem ld_hi (h) : View.ld (Val := Elt Ideal) (e' := .f32) (mb X) (Rect.unit (s := S1x64x128x64) ![0, 0, 64, 0] ![1, 64, 64, 64] h) = m4 (fun a d b => X a (hi d) b) := by
  funext j; idx_vars j; pointwise [mb, m4, hi]

/-- The product of one channel's query transform and its key transform's conjugate. -/
def prR (x y : Fin 64 → Fin 64 → ℝ) (k2 k1 : Fin 64) : ℝ :=
  spR fr fi wr wi x k2 k1 * spR fr fi wr wi y k2 k1 + spI fr fi wr wi x k2 k1 * spI fr fi wr wi y k2 k1
def prI (x y : Fin 64 → Fin 64 → ℝ) (k2 k1 : Fin 64) : ℝ :=
  spI fr fi wr wi x k2 k1 * spR fr fi wr wi y k2 k1 - spR fr fi wr wi x k2 k1 * spI fr fi wr wi y k2 k1

/-- … summed over a block's channels. -/
def ptR (k2 k1 : Fin 64) : ℝ := ∑ d, prR fr fi wr wi (fun a b => X a d b) (fun a b => Y a d b) k2 k1
def ptI (k2 k1 : Fin 64) : ℝ := ∑ d, prI fr fi wr wi (fun a b => X a d b) (fun a b => Y a d b) k2 k1

theorem sum_halves (g : Fin 128 → ℝ) : ∑ d, g d = (∑ d, g (lo d)) + ∑ d, g (hi d) :=
  Fin.sum_univ_add (a := 64) (b := 64) g

section
variable (acc : Fin 64 → Fin 64 → ℝ) (q q' u v s t : Fin 64 → Fin 64 → Fin 64 → ℝ)

theorem p5 : k0_pay5 (F := Ideal) (m2 fr) z2 (m2 fi) z2 (m2 acc) (mr q) (mr q') (mr u) zr (mr v) zr (mr s) (mr t) = mo (fun a e => acc a e + cR q q' (fun a d e => s a d e - t a d e) (xI fr fi u v) a e) := by
  unfold k0_pay5; rw [p3]; funext j; idx_vars j; pointwise [mo, m2]
theorem p6 : k0_pay6 (F := Ideal) (m2 fr) z2 (m2 fi) z2 (m2 acc) (mr q) (mr q') (mr u) zr (mr v) zr (mr s) (mr t) = mo (fun a e => acc a e + cI q q' (fun a d e => s a d e - t a d e) (xI fr fi u v) a e) := by
  unfold k0_pay6; rw [p4]; funext j; idx_vars j; pointwise [mo, m2]
theorem p7 (f : Fin 64 → Fin 64 → ℝ) : k0_pay7 (F := Ideal) (m2 fr) z2 (m2 fi) z2 (m2 acc) (mr q) (mr q') (mr u) zr (mr v) zr (mr s) (mr t) (mo f)
    = mo (fun a e => f a e + (acc a e + cR q q' (fun a d e => s a d e - t a d e) (xI fr fi u v) a e)) := by
  unfold k0_pay7; rw [p3]; funext j; idx_vars j; pointwise [mo, m2]; exact (EReal.coe_add _ _).symm
theorem p8 (f : Fin 64 → Fin 64 → ℝ) : k0_pay8 (F := Ideal) (m2 fr) z2 (m2 fi) z2 (m2 acc) (mr q) (mr q') (mr u) zr (mr v) zr (mr s) (mr t) (mo f)
    = mo (fun a e => f a e + (acc a e + cI q q' (fun a d e => s a d e - t a d e) (xI fr fi u v) a e)) := by
  unfold k0_pay8; rw [p4]; funext j; idx_vars j; pointwise [mo, m2]; exact (EReal.coe_add _ _).symm
end

theorem canon_ox (f g : Fin 64 → Fin 64 → ℝ) (j : S1x2x64x64.Idx) :
    View.canon (Val := Elt Ideal) (e := .f32) [⟨Rect.unit (s := S1x2x64x64) ![0, 1, 0, 0] ![1, 1, 64, 64] inb_S1x2x64x64_S1x1x64x64_0_1_0_0, mo g⟩, ⟨Rect.unit (s := S1x2x64x64) ![0, 0, 0, 0] ![1, 1, 64, 64] inb_S1x2x64x64_S1x1x64x64_0_0_0_0, mo f⟩] j
      = ox f g j := by
  canon_tiles x h
  · have e2 : j 2 = x 2 := Fin.ext h2
    have e3 : j 3 = x 3 := Fin.ext h3
    have e1 : (j 1).val ≠ 0 := by omega
    simp only [mo, ox, e1, e2, e3, if_false]
  · have e2 : j 2 = x 2 := Fin.ext h2
    have e3 : j 3 = x 3 := Fin.ext h3
    have e1 : (j 1).val = 0 := by omega
    simp only [mo, ox, e1, e2, e3, if_true]

theorem ld_ox0 (f g : Fin 64 → Fin 64 → ℝ) (h) : View.ld (Val := Elt Ideal) (e' := .f32) (ox f g) (Rect.unit (s := S1x2x64x64) ![0, 0, 0, 0] ![1, 1, 64, 64] h) = mo f := by
  funext j; idx_vars j; pointwise [ox, mo]

theorem ld_ox1 (f g : Fin 64 → Fin 64 → ℝ) (h) : View.ld (Val := Elt Ideal) (e' := .f32) (ox f g) (Rect.unit (s := S1x2x64x64) ![0, 1, 0, 0] ![1, 1, 64, 64] h) = mo g := by
  funext j; idx_vars j; pointwise [ox, mo]

theorem outA (c : Dev nD) (pt : Fin cfg0.N) (h0 h1) :
    out0_A_6 (F := Ideal) c (grid0.coords pt) (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) h0 h1 (mb X) (mb Y) (m2 fr) (m2 fi) (m2 wr) (m2 wi)
      = ox (ptR fr fi wr wi X Y) (ptI fr fi wr wi X Y) := by
  funext j
  frame_out
  simp only [p11, p12, p13, p14, p15, p16, p17, p18, p22, p23, p31, p32, p39, p40, p42, p43, p44, p45, p48, p49, p53, p54, p62, p63, p70, p71, p73, p74, p75, p76, ld_lo, ld_hi, p5, p6]
  rw [canon_ox]
  refine congrFun (congrArg₂ ox ?_ ?_) j <;> funext a e
  · rw [ptR, sum_halves, zero_add]; rfl
  · rw [ptI, sum_halves, zero_add]; rfl

theorem outB (c : Dev nD) (pt : Fin cfg0.N) (h0 h1) (f g : Fin 64 → Fin 64 → ℝ) :
    out0_B_6 (F := Ideal) c (grid0.coords pt) (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) h0 h1 (mb X) (mb Y) (m2 fr) (m2 fi) (m2 wr) (m2 wi) (ox f g)
      = ox (fun a e => f a e + ptR fr fi wr wi X Y a e) (fun a e => g a e + ptI fr fi wr wi X Y a e) := by
  funext j
  frame_out
  simp only [p11, p12, p13, p14, p15, p16, p17, p18, p22, p23, p31, p32, p39, p40, p42, p43, p44, p45, p48, p49, p53, p54, p62, p63, p70, p71, p73, p74, p75, p76, ld_lo, ld_hi, ld_ox0, ld_ox1, p7, p8]
  rw [canon_ox]
  refine congrFun (congrArg₂ ox ?_ ?_) j <;> funext a e
  · rw [ptR, sum_halves, zero_add]; rfl
  · rw [ptI, sum_halves, zero_add]; rfl

end Autocorr
-- ==== Proof.Consts.lean ====
/- The constants of the programs as real numbers, the angles of their tables, and what the precondition says. -/
module

public import proofs.«01_k».proof.Proof.Dft
public import Idealize.ShloMosaic.Lib.Pointwise
public import Idealize.ShloMosaic.Lib.IdealHost
public import Idealize.ShloMosaic.Lib.ReduceAll
public import Mathlib.Analysis.SpecialFunctions.Trigonometric.Inverse

@[expose] public section

noncomputable section

namespace Autocorr

open Idealize.ShloMosaic

theorem bits_neg_one : Ideal.ofBits .f32 0xBF800000#32 = ((-1 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_4096 : Ideal.ofBits .f32 0x45800000#32 = ((4096 : ℝ) : EReal) := by
  simp [Ideal.ofBits, Ideal.ieee, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

/-- Two times the arc cosine of minus one is a full turn. -/
theorem two_pi : ((2 : ℝ) : EReal) * Ideal.acos ((-1 : ℝ) : EReal) = ((2 * Real.pi : ℝ) : EReal) := by
  rw [Ideal.acos_coe, if_pos ⟨le_refl _, by norm_num⟩, Real.arccos_neg_one, EReal.coe_mul]

/-- The product of two small indices, as a real number. -/
theorem word_mul (a b : ℕ) (ha : a < 4096) (hb : b < 4096) :
    (FloatOps.sitofp (F := Ideal) FTy.f32 (IntOp.muli (BitVec.ofNat 32 a) (BitVec.ofNat 32 b)) : EReal) = (((a * b : ℕ) : ℝ) : EReal) := by
  have h : a * b < 4096 * 4096 := Nat.mul_lt_mul'' ha hb
  have e : (IntOp.muli (BitVec.ofNat 32 a) (BitVec.ofNat 32 b)).toInt = ((a * b : ℕ) : ℤ) := by
    unfold IntOp.muli
    rw [BitVec.toInt_eq_toNat_of_lt] <;> rw [BitVec.toNat_mul, BitVec.toNat_ofNat, BitVec.toNat_ofNat, Nat.mod_eq_of_lt (a := a) (by omega), Nat.mod_eq_of_lt (a := b) (by omega), Nat.mod_eq_of_lt (by omega)]
    omega
  change (((IntOp.muli (BitVec.ofNat 32 a) (BitVec.ofNat 32 b)).toInt : ℝ) : EReal) = _
  rw [e]; norm_cast

/-- An entry of a table's angles. -/
theorem angle (a b : ℕ) (ha : a < 4096) (hb : b < 4096) (N : ℕ) (hN : N ≠ 0) (x : EReal) (hx : x = ((N : ℝ) : EReal)) :
    FloatOps.sitofp (F := Ideal) FTy.f32 (IntOp.muli (BitVec.ofNat 32 a) (BitVec.ofNat 32 b)) *
        Ideal.div (Ideal.ofBits FTy.f32 1073741824#32 * Ideal.acos (Ideal.ofBits FTy.f32 3212836864#32)) x
      = ((((a * b : ℕ) : ℝ) * (2 * Real.pi / N) : ℝ) : EReal) := by
  rw [word_mul a b ha hb, bits_two, bits_neg_one, two_pi, hx, Ideal.div_coe (by exact_mod_cast hN), ← EReal.coe_mul, ← EReal.coe_mul]
  congr 2
  ring

end Autocorr

end
-- ==== Proof.Blocks.lean ====
/- What the spectrum call's windows hold at each grid point. -/
module

public import proofs.«01_k».proof.Proof.Point
public import proofs.«01_k».proof.Proof.Consts
public import proofs.«01_k».proof.Proof.Gen.KernelIdeal.Regions
public import Idealize.ShloMosaic.Lib.StableHlo.ReadAt

@[expose] public section

set_option maxRecDepth 16384

noncomputable section

namespace Autocorr

open Autocorr.SpecI Cert.KernelIdeal Cert.KernelIdeal.Gen Idealize.ShloMosaic Idealize.ShloMosaic.TcCoe
open scoped BigOperators

variable (m : (ℓ : Loc nD τ sig) → Buf (Elt Ideal) ℓ) (c : Dev nD)

/-- A batch of finite sequences as the argument's array. -/
def arr (Q : Fin 2 → Fin 4096 → Fin 12 → Fin 64 → ℝ) : S2x4096x12x64.Idx → EReal := fun j => ((Q (j 0) (j 1) (j 2) (j 3) : ℝ) : EReal)

/-- Channel `D` of sequence `b` of a batch. -/
def chan (Q : Fin 2 → Fin 4096 → Fin 12 → Fin 64 → ℝ) (b : Fin 2) (D : Fin 768) (t : Fin 4096) : ℝ :=
  Q b t ⟨D.val / 64, by omega⟩ ⟨D.val % 64, by omega⟩

theorem idx0 : ∀ t, win0_0.index t = ![t.val / 6, 0, t.val % 6, 0] := by decide +kernel
theorem idx1 : ∀ t, win0_1.index t = ![t.val / 6, 0, t.val % 6, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel

/-- The batch and the channels of grid point `t`. -/
def pb (t : Fin cfg0.N) : Fin 2 := ⟨t.val / 6, by have := t.isLt; change _ < 12 at this; omega⟩
def pd (t : Fin cfg0.N) (d : Fin 128) : Fin 768 := ⟨128 * (t.val % 6) + d.val, by omega⟩

/-- The channels of a batch, one after another, the times split in two. -/
def arr4 (Q : Fin 2 → Fin 4096 → Fin 12 → Fin 64 → ℝ) : S2x64x768x64.Idx → EReal :=
  fun j => ((chan Q (j 0) (j 2) (glue (j 3) (j 1)) : ℝ) : EReal)

theorem ent1 (Q : Fin 2 → Fin 4096 → Fin 12 → Fin 64 → ℝ) (h : m ((c : Thread nD τ).loc main_arg0) = arr Q) :
    V (fun c b => V1 m c b) c main_call0_v1 = arr4 Q := by
  funext j
  idx_vars j
  unfold V V1 V0
  after_reads_at
  pointwise [chan, arr, arr4, h]
  have e : (⟨j3.val * 64 + j1.val, by omega⟩ : Fin 4096) = glue j3 j1 := Fin.ext (by simp only [glue]; omega)
  rw [e]

theorem blk0 (Q : Fin 2 → Fin 4096 → Fin 12 → Fin 64 → ℝ) (h : m ((c : Thread nD τ).loc main_arg0) = arr Q) (t : Fin cfg0.N) :
    iblk (fun c b => V1 m c b) c 0 t = mb (fun a d b => chan Q (pb t) (pd t d) (glue b a)) := by
  funext j
  idx_vars j
  blk_simp [iblk]
  rw [ent1 m c Q h]
  have e : mb (fun a d b => chan Q (pb t) (pd t d) (glue b a)) (ix4 j0 j1 j2 j3) = arr4 Q (ix4 (pb t) j1 (pd t j2) j3) := rfl
  rw [e]
  blk_ext [idx0 t, pb, pd]

theorem ent3 (Q : Fin 2 → Fin 4096 → Fin 12 → Fin 64 → ℝ) (h : m ((c : Thread nD τ).loc main_arg1) = arr Q) :
    V (fun c b => V1 m c b) c main_call0_v3 = arr4 Q := by
  funext j
  idx_vars j
  unfold V V1 V0
  after_reads_at
  pointwise [chan, arr, arr4, h]
  have e : (⟨j3.val * 64 + j1.val, by omega⟩ : Fin 4096) = glue j3 j1 := Fin.ext (by simp only [glue]; omega)
  rw [e]

theorem blk1 (Q : Fin 2 → Fin 4096 → Fin 12 → Fin 64 → ℝ) (h : m ((c : Thread nD τ).loc main_arg1) = arr Q) (t : Fin cfg0.N) :
    iblk (fun c b => V1 m c b) c 1 t = mb (fun a d b => chan Q (pb t) (pd t d) (glue b a)) := by
  funext j
  idx_vars j
  blk_simp [iblk]
  rw [ent3 m c Q h]
  have e : mb (fun a d b => chan Q (pb t) (pd t d) (glue b a)) (ix4 j0 j1 j2 j3) = arr4 Q (ix4 (pb t) j1 (pd t j2) j3) := rfl
  rw [e]
  blk_ext [idx1 t, pb, pd]

theorem ent19 : V (fun c b => V1 m c b) c main_call0_v19 = m2 tFr := by
  funext j
  idx_vars j
  unfold V V1 V0
  after_reads_at
  pointwise [m2]
  rw [angle j0 j1 (by omega) (by omega) 64 (by decide) _ bits_64]
  rfl

theorem blk2 (t : Fin cfg0.N) : iblk (fun c b => V1 m c b) c 2 t = m2 tFr := by
  funext j
  idx_vars j
  blk_simp [iblk]
  rw [ent19]
  blk_ext [idx2 t]

theorem ent21 : V (fun c b => V1 m c b) c main_call0_v21 = m2 tFi := by
  funext j
  idx_vars j
  unfold V V1 V0
  after_reads_at
  pointwise [m2]
  rw [angle j0 j1 (by omega) (by omega) 64 (by decide) _ bits_64]
  rfl

theorem blk3 (t : Fin cfg0.N) : iblk (fun c b => V1 m c b) c 3 t = m2 tFi := by
  funext j
  idx_vars j
  blk_simp [iblk]
  rw [ent21]
  blk_ext [idx3 t]

theorem ent22 : V (fun c b => V1 m c b) c main_call0_v22 = m2 tWr := by
  funext j
  idx_vars j
  unfold V V1 V0
  after_reads_at
  pointwise [m2]
  rw [angle j0 j1 (by omega) (by omega) 4096 (by decide) _ bits_4096]
  rfl

theorem blk4 (t : Fin cfg0.N) : iblk (fun c b => V1 m c b) c 4 t = m2 tWr := by
  funext j
  idx_vars j
  blk_simp [iblk]
  rw [ent22]
  blk_ext [idx4 t]

theorem ent24 : V (fun c b => V1 m c b) c main_call0_v24 = m2 tWi := by
  funext j
  idx_vars j
  unfold V V1 V0
  after_reads_at
  pointwise [m2]
  rw [angle j0 j1 (by omega) (by omega) 4096 (by decide) _ bits_4096]
  rfl

theorem blk5 (t : Fin cfg0.N) : iblk (fun c b => V1 m c b) c 5 t = m2 tWi := by
  funext j
  idx_vars j
  blk_simp [iblk]
  rw [ent24]
  blk_ext [idx5 t]

end Autocorr

end
-- ==== Proof.Outs.lean ====
/- What the spectrum call's result array ends holding. -/
module

public import proofs.«01_k».proof.Proof.Blocks

@[expose] public section

set_option maxRecDepth 16384

noncomputable section

namespace Autocorr

open Autocorr.SpecI Cert.KernelIdeal Cert.KernelIdeal.Gen Idealize.ShloMosaic Idealize.ShloMosaic.TcCoe
open scoped BigOperators

/-- A sum over `a * b` numbers, `b` at a time. -/
theorem sum_blocks (a b : ℕ) (g : ℕ → ℝ) : ∑ n : Fin (a * b), g n.val = ∑ i : Fin a, ∑ j : Fin b, g (b * i.val + j.val) := by
  rw [← Equiv.sum_comp finProdFinEquiv, Fintype.sum_prod_type]
  refine Finset.sum_congr rfl fun i _ => Finset.sum_congr rfl fun j _ => ?_
  simp only [finProdFinEquiv, Equiv.coe_fn_mk]
  rw [Nat.add_comm]

variable (Q K : Fin 2 → Fin 4096 → Fin 12 → Fin 64 → ℝ)

/-- Channel `n` of sequence `b`, for any number `n`. -/
def chn (b n : ℕ) (t : Fin 4096) : ℝ :=
  Q ⟨b % 2, by omega⟩ t ⟨n % 768 / 64, by omega⟩ ⟨n % 768 % 64, by omega⟩

/-- The channels `128 s …` of sequence `b`. -/
def xb (b s : ℕ) : Fin 64 → Fin 128 → Fin 64 → ℝ := fun a d e => chn Q b (128 * s + d.val) (glue e a)

/-- The cross-spectrum of the first `n` blocks of channels. -/
def paR (b n : ℕ) (k2 k1 : Fin 64) : ℝ := ∑ s ∈ Finset.range n, ptR tFr tFi tWr tWi (xb Q b s) (xb K b s) k2 k1
def paI (b n : ℕ) (k2 k1 : Fin 64) : ℝ := ∑ s ∈ Finset.range n, ptI tFr tFi tWr tWi (xb Q b s) (xb K b s) k2 k1

/-- The cross-spectrum of two batches: the sum over the channels of the query's transform times the conjugate of the key's. -/
def csR (b : Fin 2) (f : Fin 4096) : ℝ :=
  ∑ h, ∑ e, (ftR (fun t => Q b t h e) f * ftR (fun t => K b t h e) f + ftI (fun t => Q b t h e) f * ftI (fun t => K b t h e) f)
def csI (b : Fin 2) (f : Fin 4096) : ℝ :=
  ∑ h, ∑ e, (ftI (fun t => Q b t h e) f * ftR (fun t => K b t h e) f - ftR (fun t => Q b t h e) f * ftI (fun t => K b t h e) f)

theorem sum_chn (G : (Fin 4096 → ℝ) → (Fin 4096 → ℝ) → ℝ) (b : Fin 2) :
    ∑ s ∈ Finset.range 6, ∑ d : Fin 128, G (chn Q b (128 * s + d.val)) (chn K b (128 * s + d.val))
      = ∑ h, ∑ e, G (fun t => Q b t h e) (fun t => K b t h e) := by
  rw [Finset.sum_range, ← sum_blocks 6 128 (fun n => G (chn Q b n) (chn K b n))]
  refine (sum_blocks 12 64 (fun n => G (chn Q b n) (chn K b n))).trans (Finset.sum_congr rfl fun h _ => Finset.sum_congr rfl fun e _ => ?_)
  have h0 : (⟨b.val % 2, by omega⟩ : Fin 2) = b := Fin.ext (by simp only []; omega)
  have h1 : (⟨(64 * h.val + e.val) % 768 / 64, by omega⟩ : Fin 12) = h := Fin.ext (by simp only []; omega)
  have h2 : (⟨(64 * h.val + e.val) % 768 % 64, by omega⟩ : Fin 64) = e := Fin.ext (by simp only []; omega)
  have c : ∀ Z : Fin 2 → Fin 4096 → Fin 12 → Fin 64 → ℝ, chn Z b (64 * h.val + e.val) = fun t => Z b t h e := by
    intro Z; funext t; unfold chn; rw [h0, h1, h2]
  simp only [c]

theorem paR_all (b : Fin 2) (k2 k1 : Fin 64) : paR Q K b 6 k2 k1 = csR Q K b (glue k2 k1) := by
  refine Eq.trans ?_ (sum_chn Q K (fun x y => ftR x (glue k2 k1) * ftR y (glue k2 k1) + ftI x (glue k2 k1) * ftI y (glue k2 k1)) b)
  refine Finset.sum_congr rfl fun s _ => Finset.sum_congr rfl fun d _ => ?_
  simp only [prR, xb]
  rw [spR_ft, spR_ft, spI_ft, spI_ft]

theorem paI_all (b : Fin 2) (k2 k1 : Fin 64) : paI Q K b 6 k2 k1 = csI Q K b (glue k2 k1) := by
  refine Eq.trans ?_ (sum_chn Q K (fun x y => ftI x (glue k2 k1) * ftR y (glue k2 k1) - ftR x (glue k2 k1) * ftI y (glue k2 k1)) b)
  refine Finset.sum_congr rfl fun s _ => Finset.sum_congr rfl fun d _ => ?_
  simp only [prI, xb]
  rw [spR_ft, spR_ft, spI_ft, spI_ft]

variable (m : (ℓ : Loc nD τ sig) → Buf (Elt Ideal) ℓ) (c : Dev nD)

theorem xb_eq (t : Fin cfg0.N) : (fun a d b => chan Q (pb t) (pd t d) (glue b a)) = xb Q (t.val / 6) (t.val % 6) := by
  have hN : t.val < 12 := t.isLt
  funext a d b
  have h0 : pb t = (⟨t.val / 6 % 2, by omega⟩ : Fin 2) := Fin.ext (by simp only [pb]; omega)
  have h1 : (pd t d).val = (128 * (t.val % 6) + d.val) % 768 := by simp only [pd]; omega
  simp only [xb, chn, chan, h0, h1]

/-- What the accumulator's block holds after point `n`: the cross-spectrum of its sequence's blocks so far. -/
theorem outs_eq (hQ : m ((c : Thread nD τ).loc main_arg0) = arr Q) (hK : m ((c : Thread nD τ).loc main_arg1) = arr K) :
    ∀ (n : ℕ) (h : n < cfg0.N), outsAt0 (fun c b => V1 m c b) c n h = ox (paR Q K (n / 6) (n % 6 + 1)) (paI Q K (n / 6) (n % 6 + 1)) := by
  intro n
  induction n with
  | zero =>
    intro h
    refine (outsAt0_A (fun c b => V1 m c b) c ⟨0, h⟩ rfl (by dsimp only; omega)).trans ?_
    rw [blk0 m c Q hQ, blk1 m c K hK, blk2, blk3, blk4, blk5, outA, xb_eq, xb_eq]
    refine congrArg₂ ox ?_ ?_ <;> funext a e <;> simp [paR, paI]
  | succ n ih =>
    intro h
    by_cases h0 : (n + 1) % 6 = 0
    · refine (outsAt0_A (fun c b => V1 m c b) c ⟨n + 1, h⟩ h0 (by dsimp only; omega)).trans ?_
      rw [blk0 m c Q hQ, blk1 m c K hK, blk2, blk3, blk4, blk5, outA, xb_eq, xb_eq]
      refine congrArg₂ ox ?_ ?_ <;> funext a e <;> simp [paR, paI, h0]
    · refine (outsAt0_B (fun c b => V1 m c b) c ⟨n + 1, h⟩ h0 (by dsimp only; omega)).trans ?_
      have hp : ∀ hh, outsAt0 (fun c b => V1 m c b) c ((⟨n + 1, h⟩ : Fin cfg0.N).val - 1) hh = ox (paR Q K (n / 6) (n % 6 + 1)) (paI Q K (n / 6) (n % 6 + 1)) := fun hh => ih hh
      rw [hp, blk0 m c Q hQ, blk1 m c K hK, blk2, blk3, blk4, blk5, outB, xb_eq, xb_eq]
      have h1 : (n + 1) / 6 = n / 6 := by omega
      have h2 : (n + 1) % 6 = n % 6 + 1 := by omega
      refine congrArg₂ ox ?_ ?_ <;> funext a e <;> simp only [paR, paI, h1, h2] <;> rw [Finset.sum_range_succ _ (n % 6 + 1)]

/-- The whole result: both planes of the cross-spectrum of each sequence. -/
def spec : S2x2x64x64.Idx → EReal := fun j =>
  if (j 1).val = 0 then ((csR Q K (j 0) (glue (j 2) (j 3)) : ℝ) : EReal) else ((csI Q K (j 0) (glue (j 2) (j 3)) : ℝ) : EReal)

theorem idx6 : ∀ t, win0_6.index t = ![t.val / 6, 0, 0, 0] := by decide +kernel

theorem final (hQ : m ((c : Thread nD τ).loc main_arg0) = arr Q) (hK : m ((c : Thread nD τ).loc main_arg1) = arr K) :
    (dats (fun c b => V1 m c b) 0 c).arrAt 6 cfg0.N = spec Q K := by
  refine (dats (fun c b => V1 m c b) 0 c).arrAt_eq_of_covers 6 _ (by decide +kernel) fun t hf y => ?_
  have hN : t.val < 12 := t.isLt
  have h5 : t.val % 6 = 5 := (flush0_6 t).mp hf
  blk_simp
  rw [after0_6, outs_eq Q K m c hQ hK, h5]
  have hb : t.val / 6 < 2 := by omega
  have e : ∀ y : S1x2x64x64.Idx, ox (paR Q K (t.val / 6) 6) (paI Q K (t.val / 6) 6) y = spec Q K (ix4 ⟨t.val / 6, hb⟩ (y 1) (y 2) (y 3)) := by
    intro y
    idx_vars y
    change (if y1.val = 0 then ((paR Q K (t.val / 6) 6 y2 y3 : ℝ) : EReal) else ((paI Q K (t.val / 6) 6 y2 y3 : ℝ) : EReal))
      = if y1.val = 0 then ((csR Q K ⟨t.val / 6, hb⟩ (glue y2 y3) : ℝ) : EReal) else ((csI Q K ⟨t.val / 6, hb⟩ (glue y2 y3) : ℝ) : EReal)
    rw [← paR_all Q K ⟨t.val / 6, hb⟩ y2 y3, ← paI_all Q K ⟨t.val / 6, hb⟩ y2 y3]
  refine (e y).trans (congrArg (spec Q K) ?_)
  funext a
  fin_cases a <;> apply Fin.ext <;> blk_simp [idx6 t]
  all_goals rfl

end Autocorr

end
-- ==== Proof.Finite.lean ====
/- What the precondition says of the arguments. -/
module

public import proofs.«01_k».proof.Proof.Outs
public import proofs.«01_k».proof.Defs
public import proofs.«01_k».proof.Proof.Gen.Pre_finite

@[expose] public section

set_option maxRecDepth 16384

noncomputable section

namespace Autocorr

open Idealize.ShloMosaic Idealize.ShloMosaic.TcCoe
open scoped BigOperators

theorem fin_of (x : EReal) (h1 : FloatOps.cmpf (F := Ideal) (φ := .f32) .ogt x (Ideal.ofBits .f32 0xFF800000#32) = 1#1)
    (h2 : FloatOps.cmpf (F := Ideal) (φ := .f32) .olt x (Ideal.ofBits .f32 0x7F800000#32) = 1#1) : ((x.toReal : ℝ) : EReal) = x := by
  rw [bits_bot] at h1
  rw [bits_top] at h2
  refine EReal.coe_toReal ?_ ?_
  · rintro rfl
    simp [FloatOps.cmpf, Ideal.cmp] at h2
  · rintro rfl
    simp [FloatOps.cmpf, Ideal.cmp] at h1

/-- An array all of whose elements are finite is an array of real numbers. -/
theorem fin_arr (x : Cert.Pre_finite.S2x4096x12x64.Idx → EReal) (h : ∀ j, ((x j).toReal : EReal) = x j) : ∃ Q, x = arr Q := by
  refine ⟨fun a b c d => (x (ix4 a b c d)).toReal, ?_⟩
  funext j
  idx_vars j
  exact (h _).symm

theorem and_one {a b : BitVec 1} (h : IntOp.andi a b = 1#1) : a = 1#1 ∧ b = 1#1 := by
  revert a b; decide

/-- Under the precondition the queries and the keys are arrays of real numbers. -/
theorem finite_args (x y z : Cert.Pre_finite.S2x4096x12x64.Idx → EReal) (h : Cert.Pre_finite.fn (F := Ideal) x y z = fun _ => 1#1) :
    (∃ Q, x = arr Q) ∧ ∃ K, y = arr K := by
  have h0 := congrFun h (fun a => a.elim0)
  unfold Cert.Pre_finite.fn at h0
  obtain ⟨hx, hy⟩ := and_one h0
  haveI : Subsingleton Cert.Pre_finite.S_.Idx := ⟨fun a b => funext fun k => k.elim0⟩
  refine ⟨fin_arr x fun j => ?_, fin_arr y fun j => ?_⟩
  · obtain ⟨h1, h2⟩ := and_one (Host.reduce_andi_all _ _ _ _ _ hx j)
    exact fin_of _ h1 h2
  · obtain ⟨h1, h2⟩ := and_one (Host.reduce_andi_all _ _ _ _ _ hy j)
    exact fin_of _ h1 h2

end Autocorr

end
-- ==== Proof.RowsI.lean ====
/- The row blocks the aggregation fetches: names, what a fetch leaves, and the two ways it is started. -/
module

public import proofs.«01_k».proof.Defs
public import proofs.«01_k».proof.Proof.Words
public import proofs.«01_k».proof.Proof.GhostI
public import Idealize.ShloMosaic.Lib.Pipeline.KitQuiescent
public import Idealize.ShloMosaic.Lib.Ring
public import Idealize.ShloMosaic.Lib.Tactic

@[expose] public section

noncomputable section

namespace Autocorr.AggI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

theorem entails_of_eq {P Q : sProp 𝕄} (e : P = Q) : P ⊢ Q := e ▸ .rfl

/-! ## Names -/

abbrev vM : Memref sig .tc .hbm S2x4096x768 .f32 := Memref.whole main_call0_v26
abbrev wM : Memref sig .tc .hbm S2x1040x768 .f32 := Memref.whole main_call0_v29
abbrev bufM : Memref sig .tc .vmem S2x520x768 .f32 := Memref.whole cc1_scratch0
abbrev idxM : Memref sig .tc .smem S8 .i32 := Memref.whole cc1_scratch2
abbrev wtM : Memref sig .tc .smem S2x8 .f32 := Memref.whole cc1_scratch3

abbrev slotOff (s : Fin 2) : Fin 3 → Nat := ![s.val, 0, 0]
theorem slotOff_inb (s : Fin 2) : ∀ a, slotOff s a + S1x520x768.size a ≤ S2x520x768.size a := by
  have := s.isLt; intro a; fin_cases a
  · show s.val + 1 ≤ 2; omega
  · show 0 + 520 ≤ 520; omega
  · show 0 + 768 ≤ 768; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Slot `s` of the row buffer. -/
def rslot (s : Fin 2) : Memref sig .tc .vmem S520x768 .f32 :=
  (bufM.slice (Rect.unit (s := S2x520x768) (slotOff s) S1x520x768.size (slotOff_inb s)) (fun _ => rfl)).squeeze S520x768 squeezes_S1x520x768_S520x768
/-- Its semaphore. -/
def csm (s : Fin 2) : DmaSems sig S_ := (cc1_scratch1.slice (Rect.unit (s := S2) (semOff s) S1.size (semOff_inb s))).squeeze S_ squeezes_S1_S_
/-- 520 rows of the values. -/
abbrev vRows (off : Fin 3 → Nat) (h : ∀ a, off a + S1x520x768.size a ≤ S2x4096x768.size a) : Memref sig .tc .hbm S520x768 .f32 :=
  (vM.slice (Rect.unit (s := S2x4096x768) off S1x520x768.size h) (fun _ => rfl)).squeeze S520x768 squeezes_S1x520x768_S520x768
/-- 520 rows of the copy that runs around the end. -/
abbrev wRows (off : Fin 3 → Nat) (h : ∀ a, off a + S1x520x768.size a ≤ S2x1040x768.size a) : Memref sig .tc .hbm S520x768 .f32 :=
  (wM.slice (Rect.unit (s := S2x1040x768) off S1x520x768.size h) (fun _ => rfl)).squeeze S520x768 squeezes_S1x520x768_S520x768

instance (s : Fin 2) : ClosedOff (slotOff s) := ⟨slotOff s, rfl⟩

@[sl_canon] theorem semL0 (hh) : (cc1_scratch1.slice (Rect.unit (s := S2) ![0] S1.size hh)).squeeze S_ squeezes_S1_S_ = csm 0 := rfl
@[sl_canon] theorem semL1 (hh) : (cc1_scratch1.slice (Rect.unit (s := S2) ![1] S1.size hh)).squeeze S_ squeezes_S1_S_ = csm 1 := rfl
@[sl_canon] theorem slotL0 (hh hs) : (bufM.slice (Rect.unit (s := S2x520x768) ![0, 0, 0] S1x520x768.size hh) hs).squeeze S520x768 squeezes_S1x520x768_S520x768 = rslot 0 := rfl
@[sl_canon] theorem slotL1 (hh hs) : (bufM.slice (Rect.unit (s := S2x520x768) ![1, 0, 0] S1x520x768.size hh) hs).squeeze S520x768 squeezes_S1x520x768_S520x768 = rslot 1 := rfl

/-! ## What is held -/

section Pieces
variable (c : Dev nD)

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Half of an array's ownership, for each slot. -/
def half : Fin 2 → PosShare TreeShare | 0 => fullShare.left | 1 => fullShare.right
abbrev vP (q : PosShare TreeShare) (V : Buf (Elt F) ((c : Thread nD τ).loc main_call0_v26)) : sProp 𝕄 := ((c : Thread nD τ).loc main_call0_v26) ↦{q} V
abbrev wP (q : PosShare TreeShare) (W : Buf (Elt F) ((c : Thread nD τ).loc main_call0_v29)) : sProp 𝕄 := ((c : Thread nD τ).loc main_call0_v29) ↦{q} W
abbrev NN : ℕ := 49920
/-- Slot `s` holding the rows `X`. -/
abbrev filled (s : Fin 2) (X : S520x768.Idx → Elt F .f32) : Buf (Elt F) ((rslot s).view.loc (c : Thread nD τ)) :=
  (rslot s).view.rep X
/-- Slot `s` with the rows `X` on their way: when they are there, the slot holds them and the arrays' halves are back. -/
abbrev flightP (s : Fin 2) (X : S520x768.Idx → Elt F .f32)
    (V : Buf (Elt F) ((c : Thread nD τ).loc main_call0_v26)) (W : Buf (Elt F) ((c : Thread nD τ).loc main_call0_v29)) : sProp 𝕄 :=
  Transfers.Flight countersEmb (c : Thread nD τ) (SemLoc.dma (csm s).sem) () NN iprop(slotP c s (filled c s X) ∗ vP c (half s) V ∗ wP c (half s) W)

/-- A thing held beside a flight may ride on it. -/
theorem flight_frame {sm : SemLoc sig} {N : ℕ} {D X : sProp 𝕄} :
    iprop(Transfers.Flight countersEmb (c : Thread nD τ) sm () N D ∗ X) ⊢ Transfers.Flight countersEmb (c : Thread nD τ) sm () N iprop(D ∗ X) := by
  unfold Transfers.Flight
  iintro ⟨⟨⟨%R, HR, %hcap, %hpeek⟩, Hcred⟩, HX⟩
  isplitl [HR HX]
  · iexists iprop(R ∗ X)
    isplitl [HR HX]
    · isplitl [HR] <;> iassumption
    isplit
    · ipureintro
      intro K
      iintro ⟨⟨HR, HX⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HX⟩, HK⟩
      iapply (hpeek K)
      isplitl [HR]; · iexact HR
      iintro HR
      iapply HK
      isplitl [HR] <;> iassumption
  · iexact Hcred

theorem to_filled (s : Fin 2) (X : S520x768.Idx → Elt F .f32) (f) :
    slotP c s ((rslot s).view.write (Elt F) f X Finset.univ) ⊢ slotP c s (filled c s X) := by
  refine (pointsTo_rep_entails (c : Thread nD τ) (rslot s) _ fullShare).trans ?_
  rw [View.read_write_univ]

theorem amount_eq : ∀ s : Fin 2, (rslot s).view.amount (.dma (csm s).sem) = NN := by decide

/-- A fetch from any block of 520 rows of an array: what it leaves when it lands. -/
theorem start_from (s : Fin 2) (src : Memref sig .tc .hbm S520x768 .f32) (h1 h2 h3) (q : PosShare TreeShare) (fs : Buf (Elt F) (src.view.loc (c : Thread nD τ)))
    {α : Type} (k : Prog (TpuEff nD τ sig (Elt F) Λ₀ .tc) α) (Q : α → sProp 𝕄) :
    iprop((((src.view.loc (c : Thread nD τ)) ↦{q} fs) ∗ (∃ f, slotP c s f) ∗ cellP c s)
        ∗ (Transfers.Flight countersEmb (c : Thread nD τ) (SemLoc.dma (csm s).sem) () NN iprop(slotP c s (filled c s (src.view.read (Elt F) fs)) ∗ ((src.view.loc (c : Thread nD τ)) ↦{q} fs)) -∗ wp frame (wpE (defs₀ (F := F)) 𝒱₀ (c : Thread nD τ) none) Set.univ k Q))
      ⊢ wp frame (wpE (defs₀ (F := F)) 𝒱₀ (c : Thread nD τ) none) Set.univ
          (Prog.lift (.enqueueDma src (.here (rslot s)) (.dma (csm s).sem) h1 h2 h3) >>= fun _ => k) Q := by
  iintro ⟨⟨Hs, ⟨%f, Hd⟩, Hc⟩, Hk⟩
  ihave Hs2 := (pointsTo_split_subset (q := q) (f := fs) (Finset.subset_univ src.view.set)).mp $$ Hs
  icases Hs2 with ⟨Hs, Hr⟩
  iapply (Transfers.wp_dmaLocal countersEmb 𝒱₀ (c : Thread nD τ) none (dst := rslot s) () NN (amount_eq s) (by decide) (Finset.Subset.refl _)) $$ [Hs Hd Hc]
  · isplitl [Hs]; · iexact Hs
    isplitl [Hd]; · iexact Hd
    iexact Hc
  iintro HF
  ihave HF2 := (flight_frame c) $$ [HF Hr]
  · isplitl [HF]; · iexact HF
    iexact Hr
  irw [show ((Prog.ret PUnit.unit : Prog (TpuEff nD τ sig (Elt F) Λ₀ .tc) PUnit).bind fun _ => k) = k from rfl]
  iapply Hk
  iapply (Transfers.Flight_mono countersEmb (c : Thread nD τ) ?_) $$ HF2
  iintro ⟨⟨Hd, Hs⟩, Hr⟩
  isplitl [Hd]
  · iapply (to_filled c s _ f); iexact Hd
  iapply (pointsTo_split_subset (q := q) (f := fs) (Finset.subset_univ src.view.set)).mpr
  isplitl [Hs] <;> iassumption

/-- The rows a fetch brings: from the array when the first condition holds, else from its copy. -/
def rowsOf (c1 c2 : Prop) (o1 o2 : Fin 3 → Nat) (V : Buf (Elt F) ((c : Thread nD τ).loc main_call0_v26)) (W : Buf (Elt F) ((c : Thread nD τ).loc main_call0_v29)) :
    S520x768.Idx → Elt F .f32 :=
  open Classical in
  if h1 : c1 ∧ ∀ a, o1 a + S1x520x768.size a ≤ S2x4096x768.size a then (vRows o1 h1.2).view.read (Elt F) V
  else if h2 : ∀ a, o2 a + S1x520x768.size a ≤ S2x1040x768.size a then (wRows o2 h2).view.read (Elt F) W
  else (vRows ![0, 0, 0] (by decide)).view.read (Elt F) V

/-- What a start is handed: the halves of the two arrays, the slot, its counter at zero. -/
abbrev readyP (s : Fin 2) (V : Buf (Elt F) ((c : Thread nD τ).loc main_call0_v26)) (W : Buf (Elt F) ((c : Thread nD τ).loc main_call0_v29)) : sProp 𝕄 := iprop(vP c (half s) V ∗ wP c (half s) W ∗ (∃ f, slotP c s f) ∗ cellP c s)

theorem start_v (s : Fin 2) (c1 c2 : Prop) (o1 o2 : Fin 3 → Nat) (V W) (hc : c1) (h : ∀ a, o1 a + S1x520x768.size a ≤ S2x4096x768.size a) (h1 h2 h3)
    {α : Type} (k : Prog (TpuEff nD τ sig (Elt F) Λ₀ .tc) α) (Q : α → sProp 𝕄) :
    iprop(readyP c s V W ∗ (flightP c s (rowsOf c c1 c2 o1 o2 V W) V W -∗ wp frame (wpE (defs₀ (F := F)) 𝒱₀ (c : Thread nD τ) none) Set.univ k Q))
      ⊢ wp frame (wpE (defs₀ (F := F)) 𝒱₀ (c : Thread nD τ) none) Set.univ
          (Prog.lift (.enqueueDma (vRows o1 h) (.here (rslot s)) (.dma (csm s).sem) h1 h2 h3) >>= fun _ => k) Q := by
  rw [show rowsOf c c1 c2 o1 o2 V W = (vRows o1 h).view.read (Elt F) V from dif_pos ⟨hc, h⟩]
  iintro ⟨⟨HV, HW, Hs, Hc⟩, Hk⟩
  iapply (start_from c s (vRows o1 h) h1 h2 h3 (half s) V k Q)
  isplitl [HV Hs Hc]
  · isplitl [HV]; · iexact HV
    isplitl [Hs] <;> iassumption
  iintro HF
  iapply Hk
  ihave HF2 := (flight_frame c (X := wP c (half s) W)) $$ [HF HW]
  · isplitl [HF]; · iexact HF
    iexact HW
  iapply (Transfers.Flight_mono countersEmb (c : Thread nD τ) ?_) $$ HF2
  iintro ⟨⟨Hd, Hs⟩, Hr⟩
  isplitl [Hd]; · iexact Hd
  isplitl [Hs]; · iexact Hs
  iexact Hr

theorem start_w (s : Fin 2) (c1 c2 : Prop) (o1 o2 : Fin 3 → Nat) (V W) (hc : ¬ c1) (h : ∀ a, o2 a + S1x520x768.size a ≤ S2x1040x768.size a) (h1 h2 h3)
    {α : Type} (k : Prog (TpuEff nD τ sig (Elt F) Λ₀ .tc) α) (Q : α → sProp 𝕄) :
    iprop(readyP c s V W ∗ (flightP c s (rowsOf c c1 c2 o1 o2 V W) V W -∗ wp frame (wpE (defs₀ (F := F)) 𝒱₀ (c : Thread nD τ) none) Set.univ k Q))
      ⊢ wp frame (wpE (defs₀ (F := F)) 𝒱₀ (c : Thread nD τ) none) Set.univ
          (Prog.lift (.enqueueDma (wRows o2 h) (.here (rslot s)) (.dma (csm s).sem) h1 h2 h3) >>= fun _ => k) Q := by
  rw [show rowsOf c c1 c2 o1 o2 V W = (wRows o2 h).view.read (Elt F) W from (dif_neg fun hh => hc hh.1).trans (dif_pos h)]
  iintro ⟨⟨HV, HW, Hs, Hc⟩, Hk⟩
  iapply (start_from c s (wRows o2 h) h1 h2 h3 (half s) W k Q)
  isplitl [HW Hs Hc]
  · isplitl [HW]; · iexact HW
    isplitl [Hs] <;> iassumption
  iintro HF
  iapply Hk
  ihave HF2 := (flight_frame c (X := vP c (half s) V)) $$ [HF HV]
  · isplitl [HF]; · iexact HF
    iexact HV
  iapply (Transfers.Flight_mono countersEmb (c : Thread nD τ) ?_) $$ HF2
  iintro ⟨⟨Hd, Hs⟩, Hr⟩
  isplitl [Hd]; · iexact Hd
  isplitl [Hr]; · iexact Hr
  iexact Hs

theorem credit_eq : ∀ s : Fin 2, (rslot s).view.dmaCredit = NN := by decide

/-- A wait for slot `s`: the rows are in it, and everything its fetch took is back. -/
theorem land (s : Fin 2) (X : S520x768.Idx → Elt F .f32) (V W) (srcw : Memref sig .tc .hbm S520x768 .f32) (h1 h2) (Ws : Waits sig Unit)
    {α : Type} (k : PUnit → Prog (TpuEff nD τ sig (Elt F) Λ₀ .tc) α) (Q : α → sProp 𝕄) :
    iprop((flightP c s X V W ∗ owes (c : Thread nD τ) 0 Ws)
        ∗ ((slotP c s (filled c s X) ∗ vP c (half s) V ∗ wP c (half s) W ∗ cellP c s ∗ ∃ Ws', owes (c : Thread nD τ) 0 Ws')
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 (csm s).sem srcw (rslot s) h1 h2) k) Q := by
  iintro ⟨⟨HF, HW⟩, Hk⟩
  iapply (Transfers.wp_waitLocal countersEmb 𝒱₀ (c : Thread nD τ) none () (credit_eq s)) $$ [HF HW]
  · isplitl [HF]; · iexact HF
    iexact HW
  iintro ⟨⟨Hd, Hv, Hw⟩, Hc, HW⟩
  iapply Hk
  isplitl [Hd]; · iexact Hd
  isplitl [Hv]; · iexact Hv
  isplitl [Hw]; · iexact Hw
  isplitl [Hc]; · iexact Hc
  iexists _; iexact HW

end Pieces

/-! ## Where the rows start -/

/-- The first row of grid point `i`'s block under the shift `v`. -/
abbrev stI (i : grid1.Coords) (v : BitVec 32) : BitVec 32 := stW (Scalar.muli (BitVec.ofNat 32 (i 1).val) 512#32) v
/-- Where the fetch starts in the array. -/
abbrev oV (i : grid1.Coords) (v : BitVec 32) : Fin 3 → Nat := ![(BitVec.ofNat 32 (i 0).val).toNat, (staW (stI i v)).toNat, (0#32 : BitVec 32).toNat]
/-- Where it starts in the copy. -/
abbrev oW (i : grid1.Coords) (v : BitVec 32) : Fin 3 → Nat := ![(BitVec.ofNat 32 (i 0).val).toNat, (ringW (stI i v)).toNat, (0#32 : BitVec 32).toNat]

theorem stI_nat (i : grid1.Coords) (v : BitVec 32) (hv : v.toNat ≤ 4096) : (stI i v).toNat = (512 * (i 1).val + v.toNat) % 4096 :=
  stW_nat _ (i 1).isLt v hv

theorem words_of (i : grid1.Coords) (v : BitVec 32) (hv : v.toNat ≤ 4096) : (staW (stI i v)).toNat = (stI i v).toNat / 8 * 8
    ∧ (leW (stI i v) = 1#1 ↔ (stI i v).toNat / 8 * 8 ≤ 3576) ∧ (gtW (stI i v) = 1#1 ↔ ¬ (stI i v).toNat / 8 * 8 ≤ 3576)
    ∧ (3576 ≤ (stI i v).toNat / 8 * 8 → (ringW (stI i v)).toNat = (stI i v).toNat / 8 * 8 - 3576) := by
  have h := words_all ⟨(stI i v).toNat, by rw [stI_nat i v hv]; exact Nat.mod_lt _ (by decide)⟩
  simpa using h

theorem either_of (i : grid1.Coords) (v : BitVec 32) (hv : v.toNat ≤ 4096) : gtW (stI i v) = 1#1 ↔ ¬ leW (stI i v) = 1#1 := by
  rw [(words_of i v hv).2.1, (words_of i v hv).2.2.1]

theorem chk_of (i : grid1.Coords) (v : BitVec 32) (hv : v.toNat ≤ 4096) :
    (leW (stI i v) = 1#1 → ∀ a, oV i v a + S1x520x768.size a ≤ S2x4096x768.size a)
      ∧ (gtW (stI i v) = 1#1 → ∀ a, oW i v a + S1x520x768.size a ≤ S2x1040x768.size a) := by
  obtain ⟨h1, h2, h3, h4⟩ := words_of i v hv
  have hs : (stI i v).toNat < 4096 := by rw [stI_nat i v hv]; exact Nat.mod_lt _ (by decide)
  have hi : (BitVec.ofNat 32 (i 0).val).toNat < 2 := by
    have h : (i 0).val < 2 := (i 0).isLt
    rw [BitVec.toNat_ofNat]; omega
  constructor
  · intro h; have h := h2.mp h; intro a; fin_cases a
    · show (BitVec.ofNat 32 (i 0).val).toNat + 1 ≤ 2; omega
    · show (staW (stI i v)).toNat + 520 ≤ 4096; omega
    · show 0 + 768 ≤ 768; omega
  · intro h; have h := h3.mp h; intro a; fin_cases a
    · show (BitVec.ofNat 32 (i 0).val).toNat + 1 ≤ 2; omega
    · show (ringW (stI i v)).toNat + 520 ≤ 1040; rw [h4 (by omega)]; omega
    · show 0 + 768 ≤ 768; omega

theorem chk1 (i : grid1.Coords) (v : BitVec 32) (hv : v.toNat ≤ 4096) : k1_chk1 i v := chk_of i v hv
theorem chk2 (i : grid1.Coords) (v : BitVec 32) (hv : v.toNat ≤ 4096) : k1_chk2 i v := chk_of i v hv
theorem chk3 (i : grid1.Coords) (v : BitVec 32) (hv : v.toNat ≤ 4096) : k1_chk3 i v := chk_of i v hv
theorem chk4 (i : grid1.Coords) (v : BitVec 32) (hv : v.toNat ≤ 4096) : k1_chk4 i v := chk_of i v hv
theorem chk5 (i : grid1.Coords) (v : BitVec 32) (hv : v.toNat ≤ 4096) : k1_chk5 i v := chk_of i v hv
theorem chk6 (i : grid1.Coords) (v : BitVec 32) (hv : v.toNat ≤ 4096) : k1_chk6 i v := chk_of i v hv
theorem chk7 (i : grid1.Coords) (v : BitVec 32) (hv : v.toNat ≤ 4096) : k1_chk7 i v := chk_of i v hv
theorem chk8 (i : grid1.Coords) (v : BitVec 32) (hv : v.toNat ≤ 4096) : k1_chk8 i v := chk_of i v hv

/-- The rows grid point `i` fetches under the shift `v`. -/
abbrev rowsI (c : Dev nD) (i : grid1.Coords) (v : BitVec 32) (V : Buf (Elt F) ((c : Thread nD τ).loc main_call0_v26)) (W : Buf (Elt F) ((c : Thread nD τ).loc main_call0_v29)) :
    S520x768.Idx → Elt F .f32 := rowsOf c (leW (stI i v) = 1#1) (gtW (stI i v) = 1#1) (oV i v) (oW i v) V W

/-- A fetch is started once, from the array or from its copy; after it the rows are on their way. -/
theorem fetch (c : Dev nD) (s : Fin 2) (i : grid1.Coords) (v : BitVec 32) (hv : v.toNat ≤ 4096) (V W)
    (h1 : ∀ h, _) (h2) (h3) (h4 : ∀ h, _) (h5) (h6)
    {α : Type} (k : Prog (TpuEff nD τ sig (Elt F) Λ₀ .tc) α) (Q : α → sProp 𝕄) :
    iprop(readyP c s V W ∗ (flightP c s (rowsI c i v V W) V W -∗ wp frame (wpE (defs₀ (F := F)) 𝒱₀ (c : Thread nD τ) none) Set.univ k Q))
      ⊢ wp frame (wpE (defs₀ (F := F)) 𝒱₀ (c : Thread nD τ) none) Set.univ
          (if h : leW (stI i v) = 1#1 then
            Prog.lift (.enqueueDma (vRows (oV i v) ((chk_of i v hv).1 h)) (.here (rslot s)) (.dma (csm s).sem) (h1 h) h2 h3) >>= fun _ =>
              (if h : gtW (stI i v) = 1#1 then Prog.lift (.enqueueDma (wRows (oW i v) ((chk_of i v hv).2 h)) (.here (rslot s)) (.dma (csm s).sem) (h4 h) h5 h6) >>= fun _ => k else k)
           else
              (if h : gtW (stI i v) = 1#1 then Prog.lift (.enqueueDma (wRows (oW i v) ((chk_of i v hv).2 h)) (.here (rslot s)) (.dma (csm s).sem) (h4 h) h5 h6) >>= fun _ => k else k)) Q := by
  have hx := either_of i v hv
  by_cases hc : leW (stI i v) = 1#1
  · have hc2 : ¬ gtW (stI i v) = 1#1 := fun h => hx.mp h hc
    rw [dif_pos hc, dif_neg hc2]
    exact start_v c s _ _ (oV i v) (oW i v) V W hc ((chk_of i v hv).1 hc) _ _ _ k Q
  · have hc2 : gtW (stI i v) = 1#1 := hx.mpr hc
    rw [dif_neg hc, dif_pos hc2]
    exact start_w c s _ _ (oV i v) (oW i v) V W hc ((chk_of i v hv).2 hc2) _ _ _ k Q

end Autocorr.AggI

end
end
-- ==== Proof.SelI.lean ====
/- The first grid point of the aggregation: the shifts chosen and their weights. -/
module

public import proofs.«01_k».proof.Proof.RowsI

@[expose] public section

noncomputable section

namespace Autocorr.AggI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

/-- The word that says whether this is the first grid point. -/
abbrev firstW (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

section
variable (c : Dev nD) (i : grid1.Coords)
  (arg2 : Memref sig .tc .vmem S2x2x64x64 .f32) (harg2 : arg2.IsWhole) (arg3 : Memref sig .tc .vmem S64x64 .f32) (harg3 : arg3.IsWhole)
  (arg4 : Memref sig .tc .vmem S64x64 .f32) (harg4 : arg4.IsWhole) (arg5 : Memref sig .tc .vmem S64x64 .f32) (harg5 : arg5.IsWhole)
  (arg6 : Memref sig .tc .vmem S64x64 .f32) (harg6 : arg6.IsWhole) (arg9 : Memref sig .tc .vmem S1x512x768 .f32) (harg9 : arg9.IsWhole)

/-- The body on its buffers. -/
abbrev bodyG : Prog (TpuEff nD τ sig (Elt F) Λ₀ .tc) PUnit :=
  cc1__agg_kernel i arg2 harg2 arg3 harg3 arg4 harg4 arg5 harg5 arg6 harg6 vM (Memref.isWhole_whole _) wM (Memref.isWhole_whole _) arg9 harg9
    bufM (Memref.isWhole_whole _) cc1_scratch1 idxM (Memref.isWhole_whole _) wtM (Memref.isWhole_whole _)

abbrev idxP (f : Buf (Elt F) (idxM.view.loc (c : Thread nD τ))) : sProp 𝕄 := idxM.view.loc (c : Thread nD τ) ↦[idxM.view.set]{fullShare} f
abbrev wtP (f : Buf (Elt F) (wtM.view.loc (c : Thread nD τ))) : sProp 𝕄 := wtM.view.loc (c : Thread nD τ) ↦[wtM.view.set]{fullShare} f
abbrev oP (f : Buf (Elt F) (arg9.view.loc (c : Thread nD τ))) : sProp 𝕄 := arg9.view.loc (c : Thread nD τ) ↦[arg9.view.set]{fullShare} f

/-- The tables' and the spectrum's buffers. -/
abbrev insP (x0 : Vec F S2x2x64x64 .f32) (x1 x2 x3 x4 : Vec F S64x64 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)

/-- The branch that chooses, then `k`. -/
abbrev chosenThen {α : Type} (k : Prog (TpuEff nD τ sig (Elt F) Λ₀ .tc) α) : Prog (TpuEff nD τ sig (Elt F) Λ₀ .tc) α := do
  let ⟨v564, v566, v568, v570, v572, v574, v587, v600⟩ : Σ' (v564 : FVec F S64x64 .f32) (v566 : FVec F S64x64 .f32) (v568 : FVec F S64x64 .f32) (v570 : FVec F S64x64 .f32) (v572 : FVec F S64x64 .f32) (v574 : FVec F S64x64 .f32) (v587 : FVec F S64x64 .f32), FVec F S64x64 .f32 ← k1_part1 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _)
  let ⟨v634, v647, v648, v651⟩ : Σ' (v634 : FVec F S64x64 .f32) (v647 : FVec F S64x64 .f32) (v648 : FVec F S64x64 .bf16), FVec F S64x64 .bf16 ← k1_part2 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v564 v566 v568 v570 v572 v574 v587 v600
  let ⟨v663, v665, v667, v680, v693⟩ : Σ' (v663 : FVec F S64x64 .f32) (v665 : FVec F S64x64 .f32) (v667 : FVec F S64x64 .f32) (v680 : FVec F S64x64 .f32), FVec F S64x64 .f32 ← k1_part3 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v564 v566 v634 v647 v648 v651
  let ⟨v727, v740, v741, v744⟩ : Σ' (v727 : FVec F S64x64 .f32) (v740 : FVec F S64x64 .f32) (v741 : FVec F S64x64 .bf16), FVec F S64x64 .bf16 ← k1_part4 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v564 v566 v568 v570 v665 v667 v680 v693
  let ⟨v756, v759, v764, v765, v766, v767, v782, v788, c0_i32_384⟩ : Σ' (v756 : FVec F S64x64 .f32) (v759 : FVec F S64x64 .f32) (v764 : IVec S64x64 32) (v765 : IVec S1x128 32) (v766 : FVec F S1x128 .f32) (v767 : FVec F S1x128 .f32) (v782 : IVec S64x64 1) (v788 : F .f32), BitVec 32 ← k1_part5 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v727 v740 v741 v744
  let ⟨v794, v806, v808, v823, v831, v832, v833⟩ : Σ' (v794 : FVec F S1x128 .f32) (v806 : FVec F S1x128 .f32) (v808 : FVec F S64x64 .f32) (v823 : IVec S64x64 1) (v831 : IVec S1x128 1) (v832 : FVec F S1x128 .f32), FVec F S1x128 .f32 ← k1_part6 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v759 v764 v765 v766 v767 v782 v788 c0_i32_384
  let ⟨v847, v849, v864, v876, v878⟩ : Σ' (v847 : FVec F S1x128 .f32) (v849 : FVec F S64x64 .f32) (v864 : IVec S64x64 1) (v876 : FVec F S1x128 .f32), FVec F S64x64 .f32 ← k1_part7 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v794 v806 v808 v823 v831 v832 v833
  let ⟨v888, v890, v905, v917, v923⟩ : Σ' (v888 : FVec F S1x128 .f32) (v890 : FVec F S64x64 .f32) (v905 : IVec S64x64 1) (v917 : FVec F S1x128 .f32), F .f32 ← k1_part8 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v847 v849 v864 v876 v878
  let ⟨v929, v931, v946, v958, v966, cst_438, v967⟩ : Σ' (v929 : FVec F S1x128 .f32) (v931 : FVec F S64x64 .f32) (v946 : IVec S64x64 1) (v958 : FVec F S1x128 .f32) (v966 : IVec S1x128 1) (cst_438 : F .f32), FVec F S1x128 .f32 ← k1_part9 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v888 v890 v905 v917 v923
  let ⟨v972, v987, v999, v1011, v1012⟩ : Σ' (v972 : FVec F S64x64 .f32) (v987 : IVec S64x64 1) (v999 : FVec F S1x128 .f32) (v1011 : FVec F S1x128 .f32), FVec F S64x64 .f32 ← k1_part10 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v929 v931 v946 v958 v966 cst_438 v967
  let ⟨v1040, v1052, v1054, v1057⟩ : Σ' (v1040 : FVec F S1x128 .f32) (v1052 : FVec F S1x128 .f32) (v1054 : FVec F S64x64 .f32), FVec F S1x1x1 .f32 ← k1_part11 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v972 v987 v999 v1011 v1012
  let ⟨v1093, v1097, v1102⟩ : Σ' (v1093 : FVec F S1x128 .f32) (v1097 : FVec F S1x128 .f32), FVec F S1x128 .f32 ← k1_part12 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v663 v756 v764 v765 v1040 v1052 v1054 v1057
  let ⟨v1110, v1141⟩ : Σ' (v1110 : FVec F S1x128 .f32), FVec F S1x128 .f32 ← k1_part13 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v765 v1097 v1102
  let v1177 : FVec F S1x128 .f32 ← k1_part14 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v765 v1110 v1141
  let v1199 : FVec F S1x128 .f32 ← k1_part15 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v765 v1093 v1177
  k1_part16 i arg2 harg2 arg3 harg3 arg4 harg4 arg5 harg5 arg6 harg6 vM (Memref.isWhole_whole _) wM (Memref.isWhole_whole _) arg9 harg9 bufM (Memref.isWhole_whole _) cc1_scratch1 idxM (Memref.isWhole_whole _) wtM (Memref.isWhole_whole _) v765 v1199
  let v1262 : Elt F .f32 ← smemLoad wtM (Rect.unit (s := S2x8) ![1, 6] S1x1.size inb_S2x8_S1x1_1_6) numel1_S1x1 rfl
  Prog.lift (.store wtM (Rect.unit (s := S2x8) ![1, 6] S1x1.size inb_S2x8_S1x1_1_6) (fun _ => k1_pay98 v765 v1199) Finset.univ (View.stores_smem_one rfl numel1_S1x1) (.inl rfl))
  let v1271 : Elt F .f32 ← smemLoad wtM (Rect.unit (s := S2x8) ![1, 7] S1x1.size inb_S2x8_S1x1_1_7) numel1_S1x1 rfl
  Prog.lift (.store wtM (Rect.unit (s := S2x8) ![1, 7] S1x1.size inb_S2x8_S1x1_1_7) (fun _ => k1_pay99 v765 v1199) Finset.univ (View.stores_smem_one rfl numel1_S1x1) (.inl rfl))
  k

set_option maxHeartbeats 4000000 in
/-- The choice at the first grid point: what it writes to the shifts and to the weights. -/
def choose (x0 : Vec F S2x2x64x64 .f32) (x1 x2 x3 x4 : Vec F S64x64 .f32) :
    { L : List (View.Piece (Elt F) S8 .i32) × List (View.Piece (Elt F) S2x8 .f32) //
      ∀ (fi : Buf (Elt F) (idxM.view.loc (c : Thread nD τ))) (fw : Buf (Elt F) (wtM.view.loc (c : Thread nD τ)))
        {α : Type} (k : Prog (TpuEff nD τ sig (Elt F) Λ₀ .tc) α) (Q : α → sProp 𝕄),
        iprop((insP c arg2 arg3 arg4 arg5 arg6 x0 x1 x2 x3 x4 ∗ idxP c fi ∗ wtP c fw)
          ∗ ((insP c arg2 arg3 arg4 arg5 arg6 x0 x1 x2 x3 x4 ∗ idxP c (idxM.view.writes (Elt F) fi L.1) ∗ wtP c (wtM.view.writes (Elt F) fw L.2))
              -∗ wp frame (wpE (defs₀ (F := F)) 𝒱₀ (c : Thread nD τ) none) Set.univ k Q))
          ⊢ wp frame (wpE (defs₀ (F := F)) 𝒱₀ (c : Thread nD τ) none) Set.univ (chosenThen i arg2 harg2 arg3 harg3 arg4 harg4 arg5 harg5 arg6 harg6 arg9 harg9 k) Q } := by
  refine ⟨⟨?_, ?_⟩, fun fi fw α k Q => ?run⟩
  case run =>
    unfold insP owns
    iintro ⟨⟨⟨⟨%f0, %hf0, H0⟩, ⟨%f1, %hf1, H1⟩, ⟨%f2, %hf2, H2⟩, ⟨%f3, %hf3, H3⟩, ⟨%f4, %hf4, H4⟩⟩, Hi, Hw⟩, Hk⟩
    obtain rfl := harg2.eq_unread hf0; obtain rfl := harg3.eq_unread hf1; obtain rfl := harg4.eq_unread hf2; obtain rfl := harg5.eq_unread hf3; obtain rfl := harg6.eq_unread hf4
    sl_exec
    iapply Hk
    isplitr [Hi Hw]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [Hi]
    · iexact Hi
    iexact Hw

/-- The shifts after the choice, or as they were. -/
def idxAfter (x0 : Vec F S2x2x64x64 .f32) (x1 x2 x3 x4 : Vec F S64x64 .f32) (fi : Buf (Elt F) (idxM.view.loc (c : Thread nD τ))) :
    Buf (Elt F) (idxM.view.loc (c : Thread nD τ)) :=
  if firstW i = 1#1 then idxM.view.writes (Elt F) fi (choose c i arg2 harg2 arg3 harg3 arg4 harg4 arg5 harg5 arg6 harg6 arg9 harg9 x0 x1 x2 x3 x4).1.1 else fi
/-- The weights after the choice, or as they were. -/
def wtAfter (x0 : Vec F S2x2x64x64 .f32) (x1 x2 x3 x4 : Vec F S64x64 .f32) (fw : Buf (Elt F) (wtM.view.loc (c : Thread nD τ))) :
    Buf (Elt F) (wtM.view.loc (c : Thread nD τ)) :=
  if firstW i = 1#1 then wtM.view.writes (Elt F) fw (choose c i arg2 harg2 arg3 harg3 arg4 harg4 arg5 harg5 arg6 harg6 arg9 harg9 x0 x1 x2 x3 x4).1.2 else fw

/-- The choice when this is the first grid point, and nothing otherwise. -/
theorem pick (x0 : Vec F S2x2x64x64 .f32) (x1 x2 x3 x4 : Vec F S64x64 .f32) (fi fw)
    {α : Type} (k : Prog (TpuEff nD τ sig (Elt F) Λ₀ .tc) α) (Q : α → sProp 𝕄) :
    iprop((insP c arg2 arg3 arg4 arg5 arg6 x0 x1 x2 x3 x4 ∗ idxP c fi ∗ wtP c fw)
      ∗ ((insP c arg2 arg3 arg4 arg5 arg6 x0 x1 x2 x3 x4
            ∗ idxP c (idxAfter c i arg2 harg2 arg3 harg3 arg4 harg4 arg5 harg5 arg6 harg6 arg9 harg9 x0 x1 x2 x3 x4 fi)
            ∗ wtP c (wtAfter c i arg2 harg2 arg3 harg3 arg4 harg4 arg5 harg5 arg6 harg6 arg9 harg9 x0 x1 x2 x3 x4 fw))
          -∗ wp frame (wpE (defs₀ (F := F)) 𝒱₀ (c : Thread nD τ) none) Set.univ k Q))
      ⊢ wp frame (wpE (defs₀ (F := F)) 𝒱₀ (c : Thread nD τ) none) Set.univ
          (if h : firstW i = 1#1 then chosenThen i arg2 harg2 arg3 harg3 arg4 harg4 arg5 harg5 arg6 harg6 arg9 harg9 k else k) Q := by
  unfold idxAfter wtAfter
  by_cases h : firstW i = 1#1
  · rw [dif_pos h, if_pos h, if_pos h]
    exact (choose c i arg2 harg2 arg3 harg3 arg4 harg4 arg5 harg5 arg6 harg6 arg9 harg9 x0 x1 x2 x3 x4).2 fi fw k Q
  · rw [dif_neg h, if_neg h, if_neg h]
    iintro ⟨H, Hk⟩
    iapply Hk
    iexact H

end

end Autocorr.AggI

end

end
-- ==== Proof.BodyI.lean ====
/- One grid point of the aggregation: the rows fetched and added up. -/
module

public import proofs.«01_k».proof.Proof.SelI

@[expose] public section

noncomputable section

namespace Autocorr.AggI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

section
variable (c : Dev nD) (i : grid1.Coords)
  (arg2 : Memref sig .tc .vmem S2x2x64x64 .f32) (harg2 : arg2.IsWhole) (arg3 : Memref sig .tc .vmem S64x64 .f32) (harg3 : arg3.IsWhole)
  (arg4 : Memref sig .tc .vmem S64x64 .f32) (harg4 : arg4.IsWhole) (arg5 : Memref sig .tc .vmem S64x64 .f32) (harg5 : arg5.IsWhole)
  (arg6 : Memref sig .tc .vmem S64x64 .f32) (harg6 : arg6.IsWhole) (arg9 : Memref sig .tc .vmem S1x512x768 .f32) (harg9 : arg9.IsWhole)

set_option maxHeartbeats 4000000 in
/-- One grid point with the shifts `gi` and the weights `gw`: what it writes to its block of the result. -/
def bodyRun (V W) (gi : Buf (Elt F) (idxM.view.loc (c : Thread nD τ))) (gw : Buf (Elt F) (wtM.view.loc (c : Thread nD τ))) (hfi : ∀ j, (gi j : BitVec 32).toNat ≤ 4096) :
    { L : List (View.Piece (Elt F) S1x512x768 .f32) //
      ∀ (x0 : Vec F S2x2x64x64 .f32) (x1 x2 x3 x4 : Vec F S64x64 .f32) (fi : Buf (Elt F) (idxM.view.loc (c : Thread nD τ))) (fw : Buf (Elt F) (wtM.view.loc (c : Thread nD τ)))
        (fo : Buf (Elt F) (arg9.view.loc (c : Thread nD τ))) (Ws : Waits sig Unit) (Q : PUnit → sProp 𝕄)
        (_ : idxAfter c i arg2 harg2 arg3 harg3 arg4 harg4 arg5 harg5 arg6 harg6 arg9 harg9 x0 x1 x2 x3 x4 fi = gi) (_ : wtAfter c i arg2 harg2 arg3 harg3 arg4 harg4 arg5 harg5 arg6 harg6 arg9 harg9 x0 x1 x2 x3 x4 fw = gw),
        iprop((insP c arg2 arg3 arg4 arg5 arg6 x0 x1 x2 x3 x4 ∗ idxP c fi ∗ wtP c fw ∗ oP c arg9 fo ∗ readyP c 0 V W ∗ readyP c 1 V W ∗ owes (c : Thread nD τ) 0 Ws)
          ∗ ((insP c arg2 arg3 arg4 arg5 arg6 x0 x1 x2 x3 x4 ∗ idxP c gi ∗ wtP c gw ∗ oP c arg9 (arg9.view.writes (Elt F) fo L)
                ∗ readyP c 0 V W ∗ readyP c 1 V W ∗ ∃ Ws', owes (c : Thread nD τ) 0 Ws') -∗ Q ⟨⟩))
          ⊢ wp frame (wpE (defs₀ (F := F)) 𝒱₀ (c : Thread nD τ) none) Set.univ (bodyG i arg2 harg2 arg3 harg3 arg4 harg4 arg5 harg5 arg6 harg6 arg9 harg9) Q } := by
  refine ⟨?_, fun x0 x1 x2 x3 x4 fi fw fo Ws Q hi hw => ?run⟩
  case run =>
    iintro ⟨⟨Hin, Hi, Hw, HO, H0, H1, HW⟩, Hk⟩
    sl_exec
    iapply (pick c i arg2 harg2 arg3 harg3 arg4 harg4 arg5 harg5 arg6 harg6 arg9 harg9 x0 x1 x2 x3 x4)
    isplitl [Hin Hi Hw]
    · isplitl [Hin]; · iexact Hin
      isplitl [Hi]; · iexact Hi
      iexact Hw
    rw [hi, hw]
    iintro ⟨Hin, Hi, Hw⟩
    sl_exec
    have hc1 : k1_chk1 i (bodyRun.sl.r c gi) := chk1 _ _ (hfi _)
    set_option sl_exec.stopBefore "k1_cond2" in sl_exec
    iapply (fetch c 0 i (bodyRun.sl.r c gi) (hfi _) V W)
    isplitl [H0]; · iexact H0
    iintro HF0
    sl_exec
    have hc2 : k1_chk2 i (bodyRun.sl.r_1 c gi) := chk2 _ _ (hfi _)
    set_option sl_exec.stopBefore "k1_cond4" in sl_exec
    iapply (fetch c 1 i (bodyRun.sl.r_1 c gi) (hfi _) V W)
    isplitl [H1]; · iexact H1
    iintro HF1
    sl_exec
    iapply (land c 0)
    isplitl [HF0 HW]
    · isplitl [HF0]; · iexact HF0
      iexact HW
    iintro ⟨Hs0, Hv0, Hw0, Hc0, ⟨%Ws1, HW⟩⟩
    sl_exec
    have hc3 : k1_chk3 i (bodyRun.sl.r_4 c gi) := chk3 _ _ (hfi _)
    set_option sl_exec.stopBefore "k1_cond6" in sl_exec
    iapply (fetch c 0 i (bodyRun.sl.r_4 c gi) (hfi _) V W)
    isplitl [Hs0 Hv0 Hw0 Hc0]
    · isplitl [Hv0]; · iexact Hv0
      isplitl [Hw0]; · iexact Hw0
      isplitl [Hs0]; · iexists _; iexact Hs0
      iexact Hc0
    iintro HF0
    sl_exec
    iapply (land c 1)
    isplitl [HF1 HW]
    · isplitl [HF1]; · iexact HF1
      iexact HW
    iintro ⟨Hs1, Hv1, Hw1, Hc1, ⟨%Ws2, HW⟩⟩
    sl_exec
    have hc4 : k1_chk4 i (bodyRun.sl.r_7 c gi) := chk4 _ _ (hfi _)
    set_option sl_exec.stopBefore "k1_cond8" in sl_exec
    iapply (fetch c 1 i (bodyRun.sl.r_7 c gi) (hfi _) V W)
    isplitl [Hs1 Hv1 Hw1 Hc1]
    · isplitl [Hv1]; · iexact Hv1
      isplitl [Hw1]; · iexact Hw1
      isplitl [Hs1]; · iexists _; iexact Hs1
      iexact Hc1
    iintro HF1
    sl_exec
    iapply (land c 0)
    isplitl [HF0 HW]
    · isplitl [HF0]; · iexact HF0
      iexact HW
    iintro ⟨Hs0, Hv0, Hw0, Hc0, ⟨%Ws3, HW⟩⟩
    sl_exec
    have hc5 : k1_chk5 i (bodyRun.sl.r_10 c gi) := chk5 _ _ (hfi _)
    set_option sl_exec.stopBefore "k1_cond10" in sl_exec
    iapply (fetch c 0 i (bodyRun.sl.r_10 c gi) (hfi _) V W)
    isplitl [Hs0 Hv0 Hw0 Hc0]
    · isplitl [Hv0]; · iexact Hv0
      isplitl [Hw0]; · iexact Hw0
      isplitl [Hs0]; · iexists _; iexact Hs0
      iexact Hc0
    iintro HF0
    sl_exec
    iapply (land c 1)
    isplitl [HF1 HW]
    · isplitl [HF1]; · iexact HF1
      iexact HW
    iintro ⟨Hs1, Hv1, Hw1, Hc1, ⟨%Ws4, HW⟩⟩
    sl_exec
    have hc6 : k1_chk6 i (bodyRun.sl.r_13 c gi) := chk6 _ _ (hfi _)
    set_option sl_exec.stopBefore "k1_cond12" in sl_exec
    iapply (fetch c 1 i (bodyRun.sl.r_13 c gi) (hfi _) V W)
    isplitl [Hs1 Hv1 Hw1 Hc1]
    · isplitl [Hv1]; · iexact Hv1
      isplitl [Hw1]; · iexact Hw1
      isplitl [Hs1]; · iexists _; iexact Hs1
      iexact Hc1
    iintro HF1
    sl_exec
    iapply (land c 0)
    isplitl [HF0 HW]
    · isplitl [HF0]; · iexact HF0
      iexact HW
    iintro ⟨Hs0, Hv0, Hw0, Hc0, ⟨%Ws5, HW⟩⟩
    sl_exec
    have hc7 : k1_chk7 i (bodyRun.sl.r_16 c gi) := chk7 _ _ (hfi _)
    set_option sl_exec.stopBefore "k1_cond14" in sl_exec
    iapply (fetch c 0 i (bodyRun.sl.r_16 c gi) (hfi _) V W)
    isplitl [Hs0 Hv0 Hw0 Hc0]
    · isplitl [Hv0]; · iexact Hv0
      isplitl [Hw0]; · iexact Hw0
      isplitl [Hs0]; · iexists _; iexact Hs0
      iexact Hc0
    iintro HF0
    sl_exec
    iapply (land c 1)
    isplitl [HF1 HW]
    · isplitl [HF1]; · iexact HF1
      iexact HW
    iintro ⟨Hs1, Hv1, Hw1, Hc1, ⟨%Ws6, HW⟩⟩
    sl_exec
    have hc8 : k1_chk8 i (bodyRun.sl.r_19 c gi) := chk8 _ _ (hfi _)
    set_option sl_exec.stopBefore "k1_cond16" in sl_exec
    iapply (fetch c 1 i (bodyRun.sl.r_19 c gi) (hfi _) V W)
    isplitl [Hs1 Hv1 Hw1 Hc1]
    · isplitl [Hv1]; · iexact Hv1
      isplitl [Hw1]; · iexact Hw1
      isplitl [Hs1]; · iexists _; iexact Hs1
      iexact Hc1
    iintro HF1
    sl_exec
    iapply (land c 0)
    isplitl [HF0 HW]
    · isplitl [HF0]; · iexact HF0
      iexact HW
    iintro ⟨Hs0, Hv0, Hw0, Hc0, ⟨%Ws7, HW⟩⟩
    sl_exec
    iapply (land c 1)
    isplitl [HF1 HW]
    · isplitl [HF1]; · iexact HF1
      iexact HW
    iintro ⟨Hs1, Hv1, Hw1, Hc1, ⟨%Ws8, HW⟩⟩
    sl_exec
    sl_step
    iapply Hk
    isplitl [Hin]; · iexact Hin
    isplitl [Hi]; · iexact Hi
    isplitl [Hw]; · iexact Hw
    isplitl [HO]; · iexact HO
    isplitl [Hs0 Hv0 Hw0 Hc0]
    · isplitl [Hv0]; · iexact Hv0
      isplitl [Hw0]; · iexact Hw0
      isplitl [Hs0]; · iexists _; iexact Hs0
      iexact Hc0
    isplitl [Hs1 Hv1 Hw1 Hc1]
    · isplitl [Hv1]; · iexact Hv1
      isplitl [Hw1]; · iexact Hw1
      isplitl [Hs1]; · iexists _; iexact Hs1
      iexact Hc1
    iexists _; iexact HW

end

end Autocorr.AggI

end
end
-- ==== Proof.BoundI.lean ====
/- The shifts the first grid point chooses are positions of the sequence, or its length. -/
module

public import proofs.«01_k».proof.Proof.BodyI
public import proofs.«01_k».proof.Proof.MinWord

@[expose] public section

set_option maxRecDepth 16384

noncomputable section

namespace Autocorr.AggI

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-- The least position where the mask `b` is set, or the sequence's length. -/
def leastAt (b : IVec S64x64 1) : BitVec 32 :=
  extractAt ![0, 0, 0] (shapeCast S1x1x1 (multiReductionI .minsi [1, 2] S1 (shapeCast S1x64x64 (select b k1_pay29 (broadcast S64x64 4096#32)) shapeCasts_S64x64_S1x64x64)
    2147483647#32 reduces_S1x64x64_S1 rfl) shapeCasts_S1_S1x1x1) inpos_S1x1x1_p0_0_0

theorem pos_le : ∀ a b : Fin 64, (BitVec.ofNat 32 a.val * 64#32 + BitVec.ofNat 32 b.val).toNat = 64 * a.val + b.val := by decide +kernel

theorem pay29_at (y : S64x64.Idx) : (k1_pay29 y).toNat = 64 * (y 0).val + (y 1).val := by
  refine Eq.trans ?_ (pos_le (y 0) (y 1))
  unfold k1_pay29
  pointwise
  rfl

theorem sel_le (b : IVec S64x64 1) (y : S64x64.Idx) : (select b k1_pay29 (broadcast S64x64 4096#32) y).toNat ≤ 4096 := by
  have h := pay29_at y
  have h0 : (y 0).val < 64 := (y 0).isLt
  have h1 : (y 1).val < 64 := (y 1).isLt
  unfold select
  unfold Scalar.select
  split
  · omega
  · exact le_refl _

theorem s1_eq (x y : S1.Idx) : x = y := by
  funext a
  fin_cases a
  have h0 : (x 0).val < 1 := (x 0).isLt
  have h1 : (y 0).val < 1 := (y 0).isLt
  exact Fin.ext (by show (x 0).val = (y 0).val; omega)

theorem leastAt_spec (b : IVec S64x64 1) :
    (∀ y, (leastAt b).toNat ≤ (select b k1_pay29 (broadcast S64x64 4096#32) y).toNat) ∧ ∃ y, leastAt b = select b k1_pay29 (broadcast S64x64 4096#32) y := by
  have e : leastAt b = Finset.univ.fold IntOp.minsi 2147483647#32
      (fun i : S1x64x64.Idx => select b k1_pay29 (broadcast S64x64 4096#32) (Shape.reshapeEquiv shapeCasts_S64x64_S1x64x64 i)) := by
    refine (multiReductionI_eq_fold IKind.minsi _ _ reduces_S1x64x64_S1 rfl _).trans ?_
    rw [Finset.filter_true_of_mem fun i _ => s1_eq _ _]
    rfl
  haveI : Nonempty S1x64x64.Idx := ⟨(Shape.reshapeEquiv shapeCasts_S64x64_S1x64x64).symm fun a => ⟨0, by fin_cases a <;> decide⟩⟩
  obtain ⟨h1, i, hi⟩ := fold_min_univ (fun i : S1x64x64.Idx => select b k1_pay29 (broadcast S64x64 4096#32) (Shape.reshapeEquiv shapeCasts_S64x64_S1x64x64 i)) fun i => sel_le b _
  rw [← e] at h1 hi
  exact ⟨fun y => by have := h1 ((Shape.reshapeEquiv shapeCasts_S64x64_S1x64x64).symm y); rwa [Equiv.apply_symm_apply] at this, _, hi⟩

theorem leastAt_le (b : IVec S64x64 1) : (leastAt b).toNat ≤ 4096 := by
  obtain ⟨-, y, h⟩ := leastAt_spec b
  rw [h]; exact sel_le b y

theorem choose_le (c i arg2 harg2 arg3 harg3 arg4 harg4 arg5 harg5 arg6 harg6 arg9 harg9) (x0 : Vec F S2x2x64x64 .f32) (x1 x2 x3 x4 : Vec F S64x64 .f32) :
    ∀ p ∈ (choose c i arg2 harg2 arg3 harg3 arg4 harg4 arg5 harg5 arg6 harg6 arg9 harg9 x0 x1 x2 x3 x4).1.1, ∀ x, (p.2 x : BitVec 32).toNat ≤ 4096 := by
  unfold choose
  simp only [List.forall_mem_cons]
  refine ⟨fun _ => leastAt_le _, fun _ => leastAt_le _, fun _ => leastAt_le _, fun _ => leastAt_le _, fun _ => leastAt_le _, fun _ => leastAt_le _, fun _ => leastAt_le _, fun _ => leastAt_le _, fun _ h => absurd h List.not_mem_nil⟩

theorem choose_cover (c i arg2 harg2 arg3 harg3 arg4 harg4 arg5 harg5 arg6 harg6 arg9 harg9) (x0 : Vec F S2x2x64x64 .f32) (x1 x2 x3 x4 : Vec F S64x64 .f32) (y : S8.Idx) :
    ∃ p ∈ (choose c i arg2 harg2 arg3 harg3 arg4 harg4 arg5 harg5 arg6 harg6 arg9 harg9 x0 x1 x2 x3 x4).1.1, y ∈ p.1.set :=
  View.cover_of_tiledL (choose c i arg2 harg2 arg3 harg3 arg4 harg4 arg5 harg5 arg6 harg6 arg9 harg9 x0 x1 x2 x3 x4).1.1 S1.size (by sl_kernel_rfl) y

theorem choose_cover2 (c i arg2 harg2 arg3 harg3 arg4 harg4 arg5 harg5 arg6 harg6 arg9 harg9) (x0 : Vec F S2x2x64x64 .f32) (x1 x2 x3 x4 : Vec F S64x64 .f32) (y : S2x8.Idx) :
    ∃ p ∈ (choose c i arg2 harg2 arg3 harg3 arg4 harg4 arg5 harg5 arg6 harg6 arg9 harg9 x0 x1 x2 x3 x4).1.2, y ∈ p.1.set :=
  View.cover_of_tiledL (choose c i arg2 harg2 arg3 harg3 arg4 harg4 arg5 harg5 arg6 harg6 arg9 harg9 x0 x1 x2 x3 x4).1.2 S1x1.size (by sl_kernel_rfl) y

theorem body_cover (c i arg2 harg2 arg3 harg3 arg4 harg4 arg5 harg5 arg6 harg6 arg9 harg9 V W gi gw h) (y : S1x512x768.Idx) :
    ∃ p ∈ (bodyRun (F := F) c i arg2 harg2 arg3 harg3 arg4 harg4 arg5 harg5 arg6 harg6 arg9 harg9 V W gi gw h).1, y ∈ p.1.set :=
  View.cover_of_tiledL (bodyRun (F := F) c i arg2 harg2 arg3 harg3 arg4 harg4 arg5 harg5 arg6 harg6 arg9 harg9 V W gi gw h).1 S1x512x768.size (by sl_kernel_rfl) y

end Autocorr.AggI

end

end
-- ==== Proof.Picks.lean ====
/- What the first grid point computes, named: the inverse transform of a batch, the eight rounds that take the greatest
   mean and cross it out, and the weights' softmax. -/
module

public import proofs.«01_k».proof.Proof.BoundI

@[expose] public section

set_option maxRecDepth 16384

noncomputable section

namespace Autocorr.AggI

open Cert.KernelIdeal Cert.KernelIdeal.Gen
open Idealize.ShloMosaic
open Idealize.ShloMosaic.TcCoe Idealize.ShloMosaic.Tactic
open Idealize.ShloMosaic.Rounds

variable {F : FTy → Type} [FloatOps F] [Named F]

/-- The means at every shift, of one batch: the tables `f₁ … f₄` and the two halves of the batch's spectrum. -/
def meansOf (f1 f2 f3 f4 : Vec F S64x64 .f32) (p q : Vec F S1x1x64x64 .f32) : FVec F S64x64 .f32 :=
  k1_pay16 (k1_pay12 (k1_pay2 f1) (k1_pay3 f2) (k1_pay4 f3) (k1_pay5 f4) (k1_pay6 p) (k1_pay7 q) (k1_pay8 f1 p) (k1_pay9 f2 q))
    (k1_pay13 (k1_pay2 f1) (k1_pay3 f2) (k1_pay4 f3) (k1_pay5 f4) (k1_pay6 p) (k1_pay7 q) (k1_pay8 f1 p) (k1_pay9 f2 q))
    (k1_pay14 (k1_pay3 f2)) (k1_pay15 (k1_pay3 f2))

/-- The mean over the two batches. -/
def avgOf (a b : FVec F S64x64 .f32) : FVec F S64x64 .f32 := mulf (addf a b) (broadcast S64x64 (Scalar.ofBits .f32 0x3F000000#32))

/-- The greatest entry. -/
def topOf (g : FVec F S64x64 .f32) : F .f32 :=
  extractAt ![0, 0, 0] (shapeCast S1x1x1 (multiReduction .maximumf [1, 2] S1 (shapeCast S1x64x64 g shapeCasts_S64x64_S1x64x64)
    0xFF800000#32 reduces_S1x64x64_S1 (.inl rfl) rfl) shapeCasts_S1_S1x1x1) inpos_S1x1x1_p0_0_0
/-- The sum of all entries. -/
def sumOf (g : FVec F S64x64 .f32) : F .f32 :=
  extractAt ![0, 0, 0] (shapeCast S1x1x1 (multiReduction .add [1, 2] S1 (shapeCast S1x64x64 g shapeCasts_S64x64_S1x64x64)
    0x00000000#32 reduces_S1x64x64_S1 (.inl rfl) rfl) shapeCasts_S1_S1x1x1) inpos_S1x1x1_p0_0_0
/-- The position of the greatest entry, the earliest of equal ones. -/
def whereTop (g : FVec F S64x64 .f32) : BitVec 32 := leastAt (cmpf .oeq g (broadcast S64x64 (topOf g)))
/-- The mask of that position. -/
def markOf (g : FVec F S64x64 .f32) : IVec S64x64 1 := cmpi .eq k1_pay29 (broadcast S64x64 (whereTop g))
/-- What is left after `k` rounds. -/
def leftOf (g : FVec F S64x64 .f32) : ℕ → FVec F S64x64 .f32
  | 0 => g
  | k + 1 => select (markOf (leftOf g k)) (broadcast S64x64 (Scalar.ofBits .f32 0xFF800000#32)) (leftOf g k)
/-- `m` at the position marked. -/
def valueAt (m g : FVec F S64x64 .f32) : F .f32 := sumOf (select (markOf g) m (broadcast S64x64 (Scalar.ofBits .f32 0x00000000#32)))
/-- The lanes' numbers. -/
def lanes : IVec S1x128 32 := iota .tc S1x128 32 [1] iota_S1x128_d1_w32
/-- The eight values taken, one to a lane. -/
def takenOf (m g : FVec F S64x64 .f32) : ℕ → FVec F S1x128 .f32
  | 0 => broadcast S1x128 (Scalar.ofBits .f32 0x00000000#32)
  | k + 1 => addf (takenOf m g k) (select (cmpi .eq lanes (broadcast S1x128 (BitVec.ofNat 32 k))) (broadcast S1x128 (valueAt m (leftOf g k)))
      (broadcast S1x128 (Scalar.ofBits .f32 0x00000000#32)))

/-- The greatest lane. -/
def topLane (w : FVec F S1x128 .f32) : F .f32 :=
  extractAt ![0, 0, 0] (shapeCast S1x1x1 (multiReduction .maximumf [1, 2] S1 (shapeCast S1x1x128 w shapeCasts_S1x128_S1x1x128)
    0xFF800000#32 reduces_S1x1x128_S1 (.inl rfl) rfl) shapeCasts_S1_S1x1x1) inpos_S1x1x1_p0_0_0
/-- The sum of the lanes. -/
def sumLane (w : FVec F S1x128 .f32) : F .f32 :=
  extractAt ![0, 0, 0] (shapeCast S1x1x1 (multiReduction .add [1, 2] S1 (shapeCast S1x1x128 w shapeCasts_S1x128_S1x1x128)
    0x00000000#32 reduces_S1x1x128_S1 (.inl rfl) rfl) shapeCasts_S1_S1x1x1) inpos_S1x1x1_p0_0_0
/-- Lanes past the eighth put out of the way. -/
def eightOf (w : FVec F S1x128 .f32) : FVec F S1x128 .f32 :=
  select (cmpi .slt lanes (broadcast S1x128 8#32)) w (broadcast S1x128 (Scalar.ofBits .f32 0xFF800000#32))
/-- The softmax over lanes. -/
def softOf (w : FVec F S1x128 .f32) : FVec F S1x128 .f32 :=
  divf (exp (subf w (broadcast S1x128 (topLane w)))) (broadcast S1x128 (sumLane (exp (subf w (broadcast S1x128 (topLane w))))))
/-- The entry of lane `k`. -/
def laneOf (w : FVec F S1x128 .f32) (k : BitVec 32) : F .f32 :=
  sumLane (select (cmpi .eq lanes (broadcast S1x128 k)) w (broadcast S1x128 (Scalar.ofBits .f32 0x00000000#32)))
/-- The weight of the `k`-th shift taken from `g`, in the batch of means `m`. -/
def weightOf (m g : FVec F S64x64 .f32) (k : ℕ) : F .f32 := laneOf (softOf (eightOf (takenOf m g 8))) (BitVec.ofNat 32 k)

section
variable (c : Dev nD) (i : grid1.Coords)
  (arg2 : Memref sig .tc .vmem S2x2x64x64 .f32) (harg2 : arg2.IsWhole) (arg3 : Memref sig .tc .vmem S64x64 .f32) (harg3 : arg3.IsWhole)
  (arg4 : Memref sig .tc .vmem S64x64 .f32) (harg4 : arg4.IsWhole) (arg5 : Memref sig .tc .vmem S64x64 .f32) (harg5 : arg5.IsWhole)
  (arg6 : Memref sig .tc .vmem S64x64 .f32) (harg6 : arg6.IsWhole) (arg9 : Memref sig .tc .vmem S1x512x768 .f32) (harg9 : arg9.IsWhole)
  (x0 : Vec F S2x2x64x64 .f32) (x1 x2 x3 x4 : Vec F S64x64 .f32)

/-- A table as it is loaded. -/
abbrev tabLd (a : Memref sig .tc .vmem S64x64 .f32) (ha : a.IsWhole) (x : Vec F S64x64 .f32) : Vec F S64x64 .f32 :=
  View.readAt (Elt F) a.view (Rect.unit (s := S64x64) ![0, 0] S64x64.size inb_S64x64_S64x64_0_0).toLoadRect (ha.unread x)

/-- The means of the first batch, from the loads. -/
def means0 : FVec F S64x64 .f32 :=
  meansOf (tabLd arg3 harg3 x1) (tabLd arg4 harg4 x2) (tabLd arg5 harg5 x3) (tabLd arg6 harg6 x4)
    (View.readAt (Elt F) arg2.view (Rect.unit (s := S2x2x64x64) ![0, 0, 0, 0] S1x1x64x64.size inb_S2x2x64x64_S1x1x64x64_0_0_0_0).toLoadRect (harg2.unread x0))
    (View.readAt (Elt F) arg2.view (Rect.unit (s := S2x2x64x64) ![0, 1, 0, 0] S1x1x64x64.size inb_S2x2x64x64_S1x1x64x64_0_1_0_0).toLoadRect (harg2.unread x0))
/-- The means of the second batch, from the loads. -/
def means1 : FVec F S64x64 .f32 :=
  meansOf (tabLd arg3 harg3 x1) (tabLd arg4 harg4 x2) (tabLd arg5 harg5 x3) (tabLd arg6 harg6 x4)
    (View.readAt (Elt F) arg2.view (Rect.unit (s := S2x2x64x64) ![1, 0, 0, 0] S1x1x64x64.size inb_S2x2x64x64_S1x1x64x64_1_0_0_0).toLoadRect (harg2.unread x0))
    (View.readAt (Elt F) arg2.view (Rect.unit (s := S2x2x64x64) ![1, 1, 0, 0] S1x1x64x64.size inb_S2x2x64x64_S1x1x64x64_1_1_0_0).toLoadRect (harg2.unread x0))

/-- The mean over the batches, from the loads. -/
def avg : FVec F S64x64 .f32 := avgOf (means0 arg2 harg2 arg3 harg3 arg4 harg4 arg5 harg5 arg6 harg6 x0 x1 x2 x3 x4) (means1 arg2 harg2 arg3 harg3 arg4 harg4 arg5 harg5 arg6 harg6 x0 x1 x2 x3 x4)
/-- The means of batch `b`. -/
def meansAt (b : ℕ) : FVec F S64x64 .f32 := if b = 0 then means0 arg2 harg2 arg3 harg3 arg4 harg4 arg5 harg5 arg6 harg6 x0 x1 x2 x3 x4 else means1 arg2 harg2 arg3 harg3 arg4 harg4 arg5 harg5 arg6 harg6 x0 x1 x2 x3 x4

theorem idx_at (g : FVec F S64x64 .f32) (n k : ℕ) (w : BitVec 32) (h : n = k) (e : w = whereTop (leftOf g k)) : w = whereTop (leftOf g n) := h ▸ e
theorem wt_at (m : ℕ → FVec F S64x64 .f32) (g : FVec F S64x64 .f32) (a b n k : ℕ) (w : F .f32) (h1 : a = b) (h : n = k) (e : w = weightOf (m b) g k) :
    w = weightOf (m a) g n := h1 ▸ h ▸ e

theorem emb8 (k : ℕ) (hk : ∀ a, (![k] : Fin 1 → ℕ) a + S1.size a ≤ S8.size a) (x : S1.Idx) :
    ((Rect.unit (s := S8) ![k] S1.size hk).emb x 0).val = k := by
  have h0 : (x 0).val < 1 := (x 0).isLt
  show k + 1 * (x 0).val = k
  omega
theorem emb28 (b k : ℕ) (hk : ∀ a, (![b, k] : Fin 2 → ℕ) a + S1x1.size a ≤ S2x8.size a) (x : S1x1.Idx) :
    ((Rect.unit (s := S2x8) ![b, k] S1x1.size hk).emb x 0).val = b ∧ ((Rect.unit (s := S2x8) ![b, k] S1x1.size hk).emb x 1).val = k := by
  have h0 : (x 0).val < 1 := (x 0).isLt
  have h1 : (x 1).val < 1 := (x 1).isLt
  constructor
  · show b + 1 * (x 0).val = b; omega
  · show k + 1 * (x 1).val = k; omega

theorem picked_idx : ∀ p ∈ (choose c i arg2 harg2 arg3 harg3 arg4 harg4 arg5 harg5 arg6 harg6 arg9 harg9 x0 x1 x2 x3 x4).1.1, ∀ x,
    p.2 x = whereTop (leftOf (avg arg2 harg2 arg3 harg3 arg4 harg4 arg5 harg5 arg6 harg6 x0 x1 x2 x3 x4) (p.1.emb x 0).val) := by
  unfold choose
  simp only [List.forall_mem_cons]
  refine ⟨fun x => idx_at _ _ 7 _ (emb8 _ _ x) rfl,
    fun x => idx_at _ _ 6 _ (emb8 _ _ x) rfl,
    fun x => idx_at _ _ 5 _ (emb8 _ _ x) rfl,
    fun x => idx_at _ _ 4 _ (emb8 _ _ x) rfl,
    fun x => idx_at _ _ 3 _ (emb8 _ _ x) rfl,
    fun x => idx_at _ _ 2 _ (emb8 _ _ x) rfl,
    fun x => idx_at _ _ 1 _ (emb8 _ _ x) rfl,
    fun x => idx_at _ _ 0 _ (emb8 _ _ x) rfl, fun _ h => absurd h List.not_mem_nil⟩

theorem picked_wt : ∀ p ∈ (choose c i arg2 harg2 arg3 harg3 arg4 harg4 arg5 harg5 arg6 harg6 arg9 harg9 x0 x1 x2 x3 x4).1.2, ∀ x,
    p.2 x = weightOf (meansAt arg2 harg2 arg3 harg3 arg4 harg4 arg5 harg5 arg6 harg6 x0 x1 x2 x3 x4 (p.1.emb x 0).val) (avg arg2 harg2 arg3 harg3 arg4 harg4 arg5 harg5 arg6 harg6 x0 x1 x2 x3 x4) (p.1.emb x 1).val := by
  unfold choose
  simp only [List.forall_mem_cons]
  refine ⟨fun x => wt_at (meansAt arg2 harg2 arg3 harg3 arg4 harg4 arg5 harg5 arg6 harg6 x0 x1 x2 x3 x4) _ _ 1 _ 7 _ (emb28 _ _ _ x).1 (emb28 _ _ _ x).2 rfl,
    fun x => wt_at (meansAt arg2 harg2 arg3 harg3 arg4 harg4 arg5 harg5 arg6 harg6 x0 x1 x2 x3 x4) _ _ 1 _ 6 _ (emb28 _ _ _ x).1 (emb28 _ _ _ x).2 rfl,
    fun x => wt_at (meansAt arg2 harg2 arg3 harg3 arg4 harg4 arg5 harg5 arg6 harg6 x0 x1 x2 x3 x4) _ _ 1 _ 5 _ (emb28 _ _ _ x).1 (emb28 _ _ _ x).2 rfl,
    fun x => wt_at (meansAt arg2 harg2 arg3 harg3 arg4 harg4 arg5 harg5 arg6 harg6 x0 x1 x2 x3 x4) _ _ 1 _ 4 _ (emb28 _ _ _ x).1 (emb28 _ _ _ x).2 rfl,
    fun x => wt_at (meansAt arg2 harg2 arg3 harg3 arg4 harg4 arg5 harg5 arg6 harg6 x0 x1 x2 x3 x4) _ _ 1 _ 3 _ (emb28 _ _ _ x).1 (emb28 _ _ _ x).2 rfl,
    fun x => wt_at (meansAt arg2 harg2 arg3 harg3 arg4 harg4 arg5 harg5 arg6 harg6 x0 x1 x2 x3 x4) _ _ 1 _ 2 _ (emb28 _ _ _ x).1 (emb28 _ _ _ x).2 rfl,
    fun x => wt_at (meansAt arg2 harg2 arg3 harg3 arg4 harg4 arg5 harg5 arg6 harg6 x0 x1 x2 x3 x4) _ _ 1 _ 1 _ (emb28 _ _ _ x).1 (emb28 _ _ _ x).2 rfl,
    fun x => wt_at (meansAt arg2 harg2 arg3 harg3 arg4 harg4 arg5 harg5 arg6 harg6 x0 x1 x2 x3 x4) _ _ 1 _ 0 _ (emb28 _ _ _ x).1 (emb28 _ _ _ x).2 rfl,
    fun x => wt_at (meansAt arg2 harg2 arg3 harg3 arg4 harg4 arg5 harg5 arg6 harg6 x0 x1 x2 x3 x4) _ _ 0 _ 7 _ (emb28 _ _ _ x).1 (emb28 _ _ _ x).2 rfl,
    fun x => wt_at (meansAt arg2 harg2 arg3 harg3 arg4 harg4 arg5 harg5 arg6 harg6 x0 x1 x2 x3 x4) _ _ 0 _ 6 _ (emb28 _ _ _ x).1 (emb28 _ _ _ x).2 rfl,
    fun x => wt_at (meansAt arg2 harg2 arg3 harg3 arg4 harg4 arg5 harg5 arg6 harg6 x0 x1 x2 x3 x4) _ _ 0 _ 5 _ (emb28 _ _ _ x).1 (emb28 _ _ _ x).2 rfl,
    fun x => wt_at (meansAt arg2 harg2 arg3 harg3 arg4 harg4 arg5 harg5 arg6 harg6 x0 x1 x2 x3 x4) _ _ 0 _ 4 _ (emb28 _ _ _ x).1 (emb28 _ _ _ x).2 rfl,
    fun x => wt_at (meansAt arg2 harg2 arg3 harg3 arg4 harg4 arg5 harg5 arg6 harg6 x0 x1 x2 x3 x4) _ _ 0 _ 3 _ (emb28 _ _ _ x).1 (emb28 _ _ _ x).2 rfl,
    fun x => wt_at (meansAt arg2 harg2 arg3 harg3 arg4 harg4 arg5 harg5 arg6 harg6 x0 x1 x2 x3 x4) _ _ 0 _ 2 _ (emb28 _ _ _ x).1 (emb28 _ _ _ x).2 rfl,
    fun x => wt_at (meansAt arg2 harg2 arg3 harg3 arg4 harg4 arg5 harg5 arg6 harg6 x0 x1 x2 x3 x4) _ _ 0 _ 1 _ (emb28 _ _ _ x).1 (emb28 _ _ _ x).2 rfl,
    fun x => wt_at (meansAt arg2 harg2 arg3 harg3 arg4 harg4 arg5 harg5 arg6 harg6 x0 x1 x2 x3 x4) _ _ 0 _ 0 _ (emb28 _ _ _ x).1 (emb28 _ _ _ x).2 rfl, fun _ h => absurd h List.not_mem_nil⟩

end

end Autocorr.AggI

end

end
-- ==== Proof.Inverse.lean ====
/- The inverse transform of a spectrum of real numbers as the aggregation call computes it: the same two stages with the
   angles' signs turned, and its payloads on tables and blocks of finite numbers. -/
module

public import proofs.«01_k».proof.Proof.Spectrum
public import proofs.«01_k».proof.Proof.Consts
public import proofs.«01_k».proof.Proof.Picks

@[expose] public section

set_option maxRecDepth 16384

noncomputable section

namespace Autocorr.AggI

open Cert.KernelIdeal Cert.KernelIdeal.Gen Idealize.ShloMosaic
open scoped BigOperators

section
variable (fr fi wr wi p q : Fin 64 → Fin 64 → ℝ)

/-- The first stage, over the high part of the frequency. -/
def gR (k1 n2 : Fin 64) : ℝ := (∑ k2, p k2 k1 * fr k2 n2) + ∑ k2, q k2 k1 * fi k2 n2
def gI' (k1 n2 : Fin 64) : ℝ := (∑ k2, q k2 k1 * fr k2 n2) - ∑ k2, p k2 k1 * fi k2 n2
/-- The twiddles, turned the other way. -/
def hR (k1 n2 : Fin 64) : ℝ := gR fr fi p q k1 n2 * wr k1 n2 + gI' fr fi p q k1 n2 * wi k1 n2
def hI (k1 n2 : Fin 64) : ℝ := gI' fr fi p q k1 n2 * wr k1 n2 - gR fr fi p q k1 n2 * wi k1 n2
/-- The second stage, over the low part of the frequency; real part. -/
def inv2 (n1 n2 : Fin 64) : ℝ := (∑ k1, fr n1 k1 * hR fr fi wr wi p q k1 n2) + ∑ k1, fi n1 k1 * hI fr fi wr wi p q k1 n2
end

/-- The correlation at the shift `t`, times the sequence's length: the inverse transform's real part. -/
def cor (P Q : Fin 4096 → ℝ) (t : Fin 4096) : ℝ := (∑ f, P f * cs 4096 (f.val * t.val)) - ∑ f, Q f * sn 4096 (f.val * t.val)

theorem cor_term (n1 n2 k2 k1 : Fin 64) (P Q : ℝ) :
    P * cs 4096 ((glue k2 k1).val * (glue n1 n2).val) - Q * sn 4096 ((glue k2 k1).val * (glue n1 n2).val)
      = tFr n1 k1 * ((P * tFr k2 n2 + Q * tFi k2 n2) * tWr k1 n2 + (Q * tFr k2 n2 - P * tFi k2 n2) * tWi k1 n2)
        + tFi n1 k1 * ((Q * tFr k2 n2 - P * tFi k2 n2) * tWr k1 n2 - (P * tFr k2 n2 + Q * tFi k2 n2) * tWi k1 n2) := by
  have h := cis_glue n1 n2 k2 k1
  rw [cis_64, cis_64, mul_comm (glue n1 n2).val, mul_comm n2.val] at h
  have hr := congrArg Complex.re h
  have hi := congrArg Complex.im h
  simp only [cis, Complex.mul_re, Complex.mul_im] at hr hi
  rw [hr, show sn 4096 ((glue k2 k1).val * (glue n1 n2).val) = -(-sn 4096 ((glue k2 k1).val * (glue n1 n2).val)) by ring, hi]
  simp only [tFr, tFi, tWr, tWi]
  ring

/-- The two-stage inverse is the inverse by its definition. -/
theorem inv2_cor (P Q : Fin 4096 → ℝ) (n1 n2 : Fin 64) :
    inv2 tFr tFi tWr tWi (fun k2 k1 => P (glue k2 k1)) (fun k2 k1 => Q (glue k2 k1)) n1 n2 = cor P Q (glue n1 n2) := by
  unfold cor inv2
  rw [← Finset.sum_sub_distrib, sum_glue, ← Finset.sum_add_distrib]
  refine Finset.sum_congr rfl fun k1 _ => ?_
  rw [Finset.sum_congr rfl fun k2 _ => cor_term n1 n2 k2 k1 (P (glue k2 k1)) (Q (glue k2 k1))]
  simp only [hR, hI, gR, gI', ← Finset.sum_add_distrib, ← Finset.sum_sub_distrib, Finset.sum_mul, Finset.mul_sum]

/-- A channel of a batch's spectrum. -/
def sl4 (f : Fin 64 → Fin 64 → ℝ) : S1x1x64x64.Idx → EReal := fun j => ((f (j 2) (j 3) : ℝ) : EReal)

variable (fr fi wr wi p q : Fin 64 → Fin 64 → ℝ)

theorem e2 : k1_pay2 (F := Ideal) (m2 fr) = m2 fr := by funext j; idx_vars j; pointwise [k1_pay2, m2]
theorem e3 : k1_pay3 (F := Ideal) (m2 fr) = m2 fr := by funext j; idx_vars j; pointwise [k1_pay3, m2]
theorem e4 : k1_pay4 (F := Ideal) (m2 fr) = m2 fr := by funext j; idx_vars j; pointwise [k1_pay4, m2]
theorem e5 : k1_pay5 (F := Ideal) (m2 fr) = m2 fr := by funext j; idx_vars j; pointwise [k1_pay5, m2]
theorem e6 : k1_pay6 (F := Ideal) (sl4 fr) = m2 fr := by funext j; idx_vars j; pointwise [k1_pay6, m2, sl4]
theorem e7 : k1_pay7 (F := Ideal) (sl4 fr) = m2 fr := by funext j; idx_vars j; pointwise [k1_pay7, m2, sl4]

/-- A sum over the first axis of both factors. -/
def dT (x f : Fin 64 → Fin 64 → ℝ) (a b : Fin 64) : ℝ := ∑ k, x k a * f k b
/-- A matrix product. -/
def dN (f x : Fin 64 → Fin 64 → ℝ) (a b : Fin 64) : ℝ := ∑ k, f a k * x k b

theorem e8 : k1_pay8 (F := Ideal) (m2 fr) (sl4 p) = m2 (dT p fr) := by
  unfold k1_pay8; rw [e2, e6]
  funext j; idx_vars j
  pointwise [m2, dT]
  simp only [coe_sub_self, mul_zero, zero_mul, Finset.sum_const_zero, zero_add, add_zero, EReal.coe_mul, coe_sum]
theorem e9 : k1_pay9 (F := Ideal) (m2 fr) (sl4 p) = m2 (dT p fr) := by
  unfold k1_pay9; rw [e3, e7]
  funext j; idx_vars j
  pointwise [m2, dT]
  simp only [coe_sub_self, mul_zero, zero_mul, Finset.sum_const_zero, zero_add, add_zero, EReal.coe_mul, coe_sum]
theorem e11 : k1_pay11 (F := Ideal) (m2 fr) (m2 fi) (m2 p) (m2 q) = m2 (gI' fr fi p q) := by
  unfold k1_pay11
  funext j; idx_vars j
  pointwise [m2, gI']
  simp only [coe_sub_self, mul_zero, zero_mul, Finset.sum_const_zero, zero_add, add_zero, EReal.coe_mul, EReal.coe_sub, coe_sum]
theorem e10 : k1_pay10 (F := Ideal) (m2 (dT p fr)) (m2 (dT q fi)) = m2 (gR fr fi p q) := by
  unfold k1_pay10
  funext j; idx_vars j
  pointwise [m2, gR, dT]
  simp only [EReal.coe_add]
theorem e12 : k1_pay12 (F := Ideal) (m2 fr) (m2 fi) (m2 wr) (m2 wi) (m2 p) (m2 q) (m2 (dT p fr)) (m2 (dT q fi)) = m2 (hI fr fi wr wi p q) := by
  unfold k1_pay12; rw [e10, e11]
  funext j; idx_vars j
  pointwise [m2, hI]
  simp only [EReal.coe_mul, EReal.coe_sub]
theorem e13 : k1_pay13 (F := Ideal) (m2 fr) (m2 fi) (m2 wr) (m2 wi) (m2 p) (m2 q) (m2 (dT p fr)) (m2 (dT q fi)) = m2 (dN fr (hR fr fi wr wi p q)) := by
  unfold k1_pay13; rw [e10, e11]
  funext j; idx_vars j
  pointwise [m2, dN, hR]
  simp only [← EReal.coe_mul, ← EReal.coe_add, coe_sub_self, mul_zero, zero_mul, Finset.sum_const_zero, zero_add, add_zero, coe_sum]
theorem e14 : k1_pay14 (F := Ideal) (m2 fi) = m2 fi := by funext j; idx_vars j; pointwise [k1_pay14, m2]
theorem e15 : k1_pay15 (F := Ideal) (m2 fi) = z2 := by
  funext j; idx_vars j; pointwise [k1_pay15, k1_pay14, m2]; exact coe_sub_self _
theorem inv_n : Named.named (F := Ideal) (φ := .f32) κ "inv_n" 0x34AAAAAB#32 = ((1 / 3145728 : ℝ) : EReal) :=
  IdealRules.named_const.ideal_named_scalar κ "inv_n" _ _ rfl
theorem e16 : k1_pay16 (F := Ideal) (m2 p) (m2 q) (m2 fi) z2 = m2 (fun a b => (q a b + dN fi p a b) * (1 / 3145728)) := by
  unfold k1_pay16
  funext j; idx_vars j
  pointwise [m2, z2, dN]
  simp only [inv_n, coe_sub_self, mul_zero, zero_mul, Finset.sum_const_zero, zero_add, add_zero, EReal.coe_mul, EReal.coe_add, coe_sum]

/-- The means of a batch are the correlations over the sequence's length and the number of heads' channels. -/
theorem means_eq (P Q : Fin 4096 → ℝ) :
    meansOf (F := Ideal) (m2 tFr) (m2 tFi) (m2 tWr) (m2 tWi) (sl4 fun k2 k1 => P (glue k2 k1)) (sl4 fun k2 k1 => Q (glue k2 k1))
      = m2 fun n1 n2 => cor P Q (glue n1 n2) * (1 / 3145728) := by
  unfold meansOf
  rw [e2, e3, e4, e5, e6, e7, e8, e9, e12, e13, e14, e15, e16]
  congr 1
  funext n1 n2
  rw [← inv2_cor]
  rfl

end Autocorr.AggI

end

end
-- ==== Proof.LaunchI.lean ====
/- The aggregation at every grid point: the run's data and what each point needs and leaves. -/
module

public import proofs.«01_k».proof.Proof.BoundI

@[expose] public section

set_option maxRecDepth 16384

noncomputable section

namespace Autocorr.AggI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

-- the buffers' contents where the call begins
variable (m : (c : Dev nD) → (b : Ref sig .tc) → Buf (Elt F) ((c : Thread nD τ).loc b))

/-- A buffer's contents where the call begins. -/
abbrev V (c : Dev nD) (b : Ref sig .tc) : Buf (Elt F) ((c : Thread nD τ).loc b) := m c b

/-- A window's block at a grid point. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

abbrev osem : Fin 2 → SemLoc sig := fun s => .dma (csm s).sem
theorem ownSemFacts : Pipeline.OwnSemFacts spec1 osem := by decide

/-! ## The row buffer's two slots -/

abbrev slotS (s : Fin 2) : Finset S2x520x768.Idx := (Rect.unit (s := S2x520x768) (slotOff s) S1x520x768.size (slotOff_inb s)).set
theorem rslot_set (s : Fin 2) : (rslot s).view.set = slotS s := (View.set_reshape _ _).trans (View.set_slice_whole _ _)
theorem mem_slotS (s : Fin 2) (y : S2x520x768.Idx) : y ∈ slotS s ↔ (y 0).val = s.val := by
  rw [Rect.mem_set_unit]
  have h1 : (y 1).val < 520 := (y 1).isLt
  have h2 : (y 2).val < 768 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 520; omega
    · show 0 ≤ (y 2).val ∧ (y 2).val < 0 + 768; omega
theorem slotS_disjoint : ∀ s s' : Fin 2, s ≠ s' → Disjoint (slotS s) (slotS s') := by
  intro s s' hne; rw [Finset.disjoint_left]; intro y hy hy'; rw [mem_slotS] at hy hy'; exact hne (Fin.ext (hy.symm.trans hy'))
theorem slotS_cover : (Finset.univ : Finset (Fin 2)).biUnion slotS = Finset.univ := by
  ext y; simp only [Finset.mem_biUnion, Finset.mem_univ, true_and, iff_true]; exact ⟨(y 0).cast (by decide), by rw [mem_slotS]; rfl⟩

theorem bigSep_two (Φ : Fin 2 → sProp 𝕄) : bigSep Finset.univ Φ = iprop(Φ 0 ∗ Φ 1) :=
  bigSep_univ_eq_bigSepL [(0 : Fin 2), (1 : Fin 2)] (by decide) (by decide) Φ

theorem slotP_eq (c : Dev nD) (s : Fin 2) (f) : slotP c s f = (((c : Thread nD τ).loc cc1_scratch0) ↦[slotS s]{fullShare} f : sProp 𝕄) :=
  congrArg (fun S => (_ ↦[S]{fullShare} f : sProp 𝕄)) (rslot_set s)
theorem buf_split (c : Dev nD) :
    iprop(∃ f : Buf (Elt F) ((c : Thread nD τ).loc cc1_scratch0), ((c : Thread nD τ).loc cc1_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc1_scratch0) slotS slotS_disjoint slotS_cover f).trans (bigSep_two _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc1_scratch0), ((c : Thread nD τ).loc cc1_scratch0) ↦{fullShare} f) : sProp 𝕄) := by
  iintro ⟨⟨%f0, H0⟩, ⟨%f1, H1⟩⟩
  iapply (Ring.pointsTo_blocks_join_exists (ℓ := (c : Thread nD τ).loc cc1_scratch0) slotS slotS_disjoint slotS_cover f0)
  irw [bigSep_two]
  isplitl [H0]
  · iexists f0; iapply (entails_of_eq (slotP_eq c 0 f0)); iexact H0
  · iexists f1; iapply (entails_of_eq (slotP_eq c 1 f1)); iexact H1
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_two]

theorem idx_whole : idxM.view.set = Finset.univ := View.set_whole _
theorem wt_whole : wtM.view.set = Finset.univ := View.set_whole _

/-! ## The shifts and the weights chosen -/

abbrev hst0 (t : Fin cfg1.N) : (st1_0 t).IsWhole := hstage1_0 ((cfg1.slots t 0).cast nbuf1_0)
abbrev hst1 (t : Fin cfg1.N) : (st1_1 t).IsWhole := hstage1_1 ((cfg1.slots t 1).cast nbuf1_1)
abbrev hst2 (t : Fin cfg1.N) : (st1_2 t).IsWhole := hstage1_2 ((cfg1.slots t 2).cast nbuf1_2)
abbrev hst3 (t : Fin cfg1.N) : (st1_3 t).IsWhole := hstage1_3 ((cfg1.slots t 3).cast nbuf1_3)
abbrev hst4 (t : Fin cfg1.N) : (st1_4 t).IsWhole := hstage1_4 ((cfg1.slots t 4).cast nbuf1_4)
abbrev hst5 (t : Fin cfg1.N) : (st1_5 t).IsWhole := hstage1_5 ((cfg1.slots t 5).cast nbuf1_5)

/-- What the choice writes at the first grid point. -/
abbrev chosen (c : Dev nD) := choose c (grid1.coords t1_0) (st1_0 t1_0) (hst0 t1_0) (st1_1 t1_0) (hst1 t1_0) (st1_2 t1_0) (hst2 t1_0) (st1_3 t1_0) (hst3 t1_0)
  (st1_4 t1_0) (hst4 t1_0) (st1_5 t1_0) (hst5 t1_0) (iblk m c 0 t1_0) (iblk m c 1 t1_0) (iblk m c 2 t1_0) (iblk m c 3 t1_0) (iblk m c 4 t1_0)
def gI (c : Dev nD) : Buf (Elt F) (idxM.view.loc (c : Thread nD τ)) := idxM.view.writes (Elt F) (fun _ => (0#32 : BitVec 32)) (chosen m c).1.1
def gW (c : Dev nD) : Buf (Elt F) (wtM.view.loc (c : Thread nD τ)) := wtM.view.writes (Elt F) (fun _ => (FloatOps.ofBits (F := F) .f32 0#32)) (chosen m c).1.2

theorem idx_le (c : Dev nD) (f : Buf (Elt F) (idxM.view.loc (c : Thread nD τ))) (L : List (View.Piece (Elt F) S8 .i32))
    (hL : ∀ p ∈ L, ∀ x, (p.2 x : BitVec 32).toNat ≤ 4096) (hc : ∀ y, ∃ p ∈ L, y ∈ p.1.set) (j : S8.Idx) :
    (idxM.view.writes (Elt F) f L j : BitVec 32).toNat ≤ 4096 :=
  of_writes idxM.view f (fun w : Elt F .i32 => BitVec.toNat (w := 32) w ≤ 4096) j L hL (hc j)
theorem gI_le (c : Dev nD) (j) : (gI m c j : BitVec 32).toNat ≤ 4096 := by
  have h1 := choose_le c (grid1.coords t1_0) (st1_0 t1_0) (hst0 t1_0) (st1_1 t1_0) (hst1 t1_0) (st1_2 t1_0) (hst2 t1_0) (st1_3 t1_0) (hst3 t1_0)
    (st1_4 t1_0) (hst4 t1_0) (st1_5 t1_0) (hst5 t1_0) (iblk m c 0 t1_0) (iblk m c 1 t1_0) (iblk m c 2 t1_0) (iblk m c 3 t1_0) (iblk m c 4 t1_0)
  have h2 := choose_cover c (grid1.coords t1_0) (st1_0 t1_0) (hst0 t1_0) (st1_1 t1_0) (hst1 t1_0) (st1_2 t1_0) (hst2 t1_0) (st1_3 t1_0) (hst3 t1_0)
    (st1_4 t1_0) (hst4 t1_0) (st1_5 t1_0) (hst5 t1_0) (iblk m c 0 t1_0) (iblk m c 1 t1_0) (iblk m c 2 t1_0) (iblk m c 3 t1_0) (iblk m c 4 t1_0)
  exact idx_le c _ _ h1 h2 j

theorem gI_of (c : Dev nD) (f) : idxM.view.writes (Elt F) f (chosen m c).1.1 = gI m c :=
  idxM.view.contents_ext (fun y => View.read_writes_apply_eq _ _ _ _ y _ (choose_cover _ _ _ _ _ _ _ _ _ _ _ _ _ _ _ _ _ _ _ y)) fun i h => absurd rfl (h i)
theorem gW_of (c : Dev nD) (f) : wtM.view.writes (Elt F) f (chosen m c).1.2 = gW m c :=
  wtM.view.contents_ext (fun y => View.read_writes_apply_eq _ _ _ _ y _ (choose_cover2 _ _ _ _ _ _ _ _ _ _ _ _ _ _ _ _ _ _ _ y)) fun i h => absurd rfl (h i)

theorem first_iff : ∀ t : Fin grid1.N, firstW (grid1.coords t) = 1#1 ↔ t.val = 0 := by decide +kernel

/-! ## The run's data -/

/-- The first call's staging buffers, which this call leaves alone. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- Between grid points: the shifts and the weights (anything before the first point), both slots and their arrays, and the
    buffers of the other call. -/
def Φ (c : Dev nD) (n : Nat) : sProp 𝕄 :=
  iprop((∃ f, idxP c f ∗ ⌜n ≠ 0 → f = gI m c⌝) ∗ (∃ f, wtP c f ∗ ⌜n ≠ 0 → f = gW m c⌝)
    ∗ readyP c 0 (V m c main_call0_v26) (V m c main_call0_v29) ∗ readyP c 1 (V m c main_call0_v26) (V m c main_call0_v29) ∗ others c)

/-- The body's run at grid point `t`. -/
abbrev runAt (c : Dev nD) (t : Fin cfg1.N) := bodyRun c (grid1.coords t) (st1_0 t) (hst0 t) (st1_1 t) (hst1 t) (st1_2 t) (hst2 t) (st1_3 t) (hst3 t)
  (st1_4 t) (hst4 t) (st1_5 t) (hst5 t) (V m c main_call0_v26) (V m c main_call0_v29) (gI m c) (gW m c) (gI_le m c)
/-- What it leaves in the result's block. -/
def outAt (c : Dev nD) (t : Fin cfg1.N) : (cfg1.win 5).block.Idx → Elt F (cfg1.win 5).elt :=
  (st1_5 t).view.read (Elt F) ((st1_5 t).view.writes (Elt F) ((st1_5 t).view.rep fun _ => (FloatOps.ofBits (F := F) .f32 0#32)) (runAt m c t).1)

def dats (_ : Fin 1) (c : Dev nD) : Dat τ (Elt F) Unit ℕ (UU nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Φ m c t.val
  q _ := fullShare
  owed _ := 0

section
variable (c : Dev nD) (t : Fin cfg1.N)
theorem after_w0 : (dats m 0 c).after 0 t = iblk m c 0 t := by dsimp only [dats]
theorem after_w1 : (dats m 0 c).after 1 t = iblk m c 1 t := by dsimp only [dats]
theorem after_w2 : (dats m 0 c).after 2 t = iblk m c 2 t := by dsimp only [dats]
theorem after_w3 : (dats m 0 c).after 3 t = iblk m c 3 t := by dsimp only [dats]
theorem after_w4 : (dats m 0 c).after 4 t = iblk m c 4 t := by dsimp only [dats]
theorem after_w5 : (dats m 0 c).after 5 t = outAt m c t := by dsimp only [dats]
theorem before_w0 (d) : (dats m 0 c).before 0 t d = iblk m c 0 t :=
  ((dats m 0 c).before_in_eq_fetched 0 rfl (fun _ => rfl) (fun _ _ _ => rfl) (fun t => by rw [after_w0]; unfold Dat.blockOf iblk; rfl) t d).trans (by unfold Dat.fetched Dat.blockOf iblk; rfl)
theorem before_w1 (d) : (dats m 0 c).before 1 t d = iblk m c 1 t :=
  ((dats m 0 c).before_in_eq_fetched 1 rfl (fun _ => rfl) (fun _ _ _ => rfl) (fun t => by rw [after_w1]; unfold Dat.blockOf iblk; rfl) t d).trans (by unfold Dat.fetched Dat.blockOf iblk; rfl)
theorem before_w2 (d) : (dats m 0 c).before 2 t d = iblk m c 2 t :=
  ((dats m 0 c).before_in_eq_fetched 2 rfl (fun _ => rfl) (fun _ _ _ => rfl) (fun t => by rw [after_w2]; unfold Dat.blockOf iblk; rfl) t d).trans (by unfold Dat.fetched Dat.blockOf iblk; rfl)
theorem before_w3 (d) : (dats m 0 c).before 3 t d = iblk m c 3 t :=
  ((dats m 0 c).before_in_eq_fetched 3 rfl (fun _ => rfl) (fun _ _ _ => rfl) (fun t => by rw [after_w3]; unfold Dat.blockOf iblk; rfl) t d).trans (by unfold Dat.fetched Dat.blockOf iblk; rfl)
theorem before_w4 (d) : (dats m 0 c).before 4 t d = iblk m c 4 t :=
  ((dats m 0 c).before_in_eq_fetched 4 rfl (fun _ => rfl) (fun _ _ _ => rfl) (fun t => by rw [after_w4]; unfold Dat.blockOf iblk; rfl) t d).trans (by unfold Dat.fetched Dat.blockOf iblk; rfl)
end

theorem defs_tc : (defs₀ (F := F)) .tc cfg1.body
    = fun a => bodyG (grid1.coords a.1) (win1_0.stage (a.2 0)) (hstage1_0 ((a.2 0).cast nbuf1_0)) (win1_1.stage (a.2 1)) (hstage1_1 ((a.2 1).cast nbuf1_1))
        (win1_2.stage (a.2 2)) (hstage1_2 ((a.2 2).cast nbuf1_2)) (win1_3.stage (a.2 3)) (hstage1_3 ((a.2 3).cast nbuf1_3))
        (win1_4.stage (a.2 4)) (hstage1_4 ((a.2 4).cast nbuf1_4)) (win1_5.stage (a.2 5)) (hstage1_5 ((a.2 5).cast nbuf1_5)) := rfl
theorem prog_eq (t : Fin cfg1.N) : (defs₀ (F := F)) .tc cfg1.body (cfg1.bodyArgs t (cfg1.slots t))
    = bodyG (grid1.coords t) (st1_0 t) (hst0 t) (st1_1 t) (hst1 t) (st1_2 t) (hst2 t) (st1_3 t) (hst3 t) (st1_4 t) (hst4 t) (st1_5 t) (hst5 t) :=
  (congrFun defs_tc _).trans rfl

/-- The shifts after the point's choice, if the earlier points left them chosen. -/
theorem idx_next (c : Dev nD) (t : Fin cfg1.N) (f) (h : t.val ≠ 0 → f = gI m c) :
    idxAfter c (grid1.coords t) (st1_0 t) (hst0 t) (st1_1 t) (hst1 t) (st1_2 t) (hst2 t) (st1_3 t) (hst3 t) (st1_4 t) (hst4 t) (st1_5 t) (hst5 t)
      (iblk m c 0 t) (iblk m c 1 t) (iblk m c 2 t) (iblk m c 3 t) (iblk m c 4 t) f = gI m c := by
  unfold idxAfter
  by_cases ht : t.val = 0
  · obtain rfl : t = t1_0 := Fin.ext ht
    rw [if_pos ((first_iff _).mpr ht)]; exact gI_of m c f
  · rw [if_neg fun hh => ht ((first_iff _).mp hh)]; exact h ht
theorem wt_next (c : Dev nD) (t : Fin cfg1.N) (f) (h : t.val ≠ 0 → f = gW m c) :
    wtAfter c (grid1.coords t) (st1_0 t) (hst0 t) (st1_1 t) (hst1 t) (st1_2 t) (hst2 t) (st1_3 t) (hst3 t) (st1_4 t) (hst4 t) (st1_5 t) (hst5 t)
      (iblk m c 0 t) (iblk m c 1 t) (iblk m c 2 t) (iblk m c 3 t) (iblk m c 4 t) f = gW m c := by
  unfold wtAfter
  by_cases ht : t.val = 0
  · obtain rfl : t = t1_0 := Fin.ext ht
    rw [if_pos ((first_iff _).mpr ht)]; exact gW_of m c f
  · rw [if_neg fun hh => ht ((first_iff _).mp hh)]; exact h ht

theorem out_of (c : Dev nD) (t : Fin cfg1.N) (fo) :
    (st1_5 t).view.read (Elt F) ((st1_5 t).view.writes (Elt F) fo (runAt m c t).1) = outAt m c t :=
  View.read_writes_of_cover _ _ _ _ _ fun y => body_cover _ _ _ _ _ _ _ _ _ _ _ _ _ _ _ _ _ _ _ y

set_option backward.isDefEq.respectTransparency.types false in
theorem body_obligation (c : Dev nD) : BodyObligation (dats (F := F) m 0 c) (defs₀ (F := F)) 𝒱₀ () Set.univ := fun t => by
  rw [bigSep_W1, bigSep_W1]
  dsimp only
  simp only [before_w0, before_w1, before_w2, before_w3, before_w4, after_w0, after_w1, after_w2, after_w3, after_w4, after_w5]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  iintro ⟨⟨⟨%fi, Hi, %hi⟩, ⟨%fw, Hw, %hw⟩, H0, H1, HS⟩, ⟨%Ws, -, HW⟩, ⟨%d0, G0⟩, ⟨%d1, G1⟩, ⟨%d2, G2⟩, ⟨%d3, G3⟩, ⟨%d4, G4⟩, ⟨%d5, G5⟩⟩
  unfold owns
  icases G5 with ⟨%fo, -, G5⟩
  sl_rw [prog_eq t]
  iapply ((runAt m c t).2 (iblk m c 0 t) (iblk m c 1 t) (iblk m c 2 t) (iblk m c 3 t) (iblk m c 4 t) fi fw fo Ws _ (idx_next m c t fi hi) (wt_next m c t fw hw))
  unfold insP owns
  isplitl [Hi Hw H0 H1 HW G0 G1 G2 G3 G4 G5]
  · isplitl [G0 G1 G2 G3 G4]
    · isplitl [G0]; · iexact G0
      isplitl [G1]; · iexact G1
      isplitl [G2]; · iexact G2
      isplitl [G3]; · iexact G3
      iexact G4
    isplitl [Hi]; · iexact Hi
    isplitl [Hw]; · iexact Hw
    isplitl [G5]; · iexact G5
    isplitl [H0]; · iexact H0
    isplitl [H1]; · iexact H1
    iexact HW
  · iintro ⟨⟨G0, G1, G2, G3, G4⟩, Hi, Hw, HO, H0, H1, ⟨%W', HW⟩⟩
    isplitl [Hi Hw H0 H1 HS]
    · isplitl [Hi]
      · iexists _; isplitl [Hi]; · iexact Hi
        ipureintro; exact fun _ => rfl
      isplitl [Hw]
      · iexists _; isplitl [Hw]; · iexact Hw
        ipureintro; exact fun _ => rfl
      isplitl [H0]; · iexact H0
      isplitl [H1]; · iexact H1
      iexact HS
    isplitl [HW]
    · iexists W'; isplitr; · ipureintro; exact fun _ _ => Or.inl trivial
      iexact HW
    isplitl [G0]; · iexact G0
    isplitl [G1]; · iexact G1
    isplitl [G2]; · iexact G2
    isplitl [G3]; · iexact G3
    isplitl [G4]; · iexact G4
    iexists _; isplitr; · ipureintro; exact out_of m c t fo
    iexact HO

theorem halves (c : Dev nD) (b : Ref sig .tc) (f) : (((c : Thread nD τ).loc b) ↦{fullShare} f : sProp 𝕄)
    ⊢ iprop((((c : Thread nD τ).loc b) ↦{half 0} f) ∗ (((c : Thread nD τ).loc b) ↦{half 1} f)) :=
  (pointsTo_share (PosShare.mem_left_op_right fullShare)).1

end Autocorr.AggI

end
-- ==== Proof.RunI.lean ====
/- The whole kernel's run: the host operations, the two calls, and what the memory holds at the end. -/
module

public import proofs.«01_k».proof.Proof.SpecFrameI
public import proofs.«01_k».proof.Proof.LaunchI
public import proofs.«01_k».proof.Proof.Gen.KernelIdeal.Regions
public import Idealize.ShloMosaic.Lib.Pipeline.RegionsLoop

@[expose] public section

set_option maxRecDepth 16384

noncomputable section

namespace Autocorr.AggI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The memory between the calls -/

/-- The spectrum, as the first call leaves it. -/
def spectrumOut (c : Dev nD) : Buf (Elt F) ((c : Thread nD τ).loc main_call0_v25) := (SpecI.dats (fun c b => V1 m c b) 0 c).arrAt 6 cfg0.N
/-- The memory after the first call. -/
abbrev W2 (c : Dev nD) : Valuation τ sig (Elt F) := Function.update (V1 m c) main_call0_v25 (spectrumOut m c)
/-- The memory where the second call begins. -/
abbrev W3 (c : Dev nD) : Valuation τ sig (Elt F) := StableHlo.after hostOps1 (W2 m c)
/-- The weighted sum, as the second call leaves it. -/
def sumOut (c : Dev nD) : Buf (Elt F) ((c : Thread nD τ).loc main_call0_v30) := (dats (fun c b => W3 m c b) 0 c).arrAt 5 cfg1.N
/-- The memory after the second call. -/
abbrev W4 (c : Dev nD) : Valuation τ sig (Elt F) := Function.update (W3 m c) main_call0_v30 (sumOut m c)
/-- The memory at the end. -/
abbrev W5 (c : Dev nD) : Valuation τ sig (Elt F) := StableHlo.after hostOps2 (W4 m c)

theorem W2_of (c : Dev nD) (r : Ref sig .tc) (h : r ≠ main_call0_v25) : W2 m c r = V1 m c r :=
  Function.update_of_ne (StableHlo.devRef_ne_of_ne h) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_call0_v30) : W4 m c r = W3 m c r :=
  Function.update_of_ne (StableHlo.devRef_ne_of_ne h) _ _
theorem W5_of (c : Dev nD) (r : Ref sig .tc) (h : r ∉ hostOps2_W) : W5 m c r = W4 m c r :=
  StableHlo.after_of_writes_sub hostOps2 _ hostOps2_writes h

/-- What no stretch of the program writes ends as launched. -/
theorem W5_kept (c : Dev nD) (r : Ref sig .tc) (h0 : r ∉ hostOps0_W) (h1 : r ≠ main_call0_v25) (h2 : r ∉ hostOps1_W)
    (h3 : r ≠ main_call0_v30) (h4 : r ∉ hostOps2_W) : W5 m c r = m ((c : Thread nD τ).loc r) :=
  (W5_of m c r h4).trans <| (W4_of m c r h3).trans <| (W3_of m c r h2).trans <| (W2_of m c r h1).trans <| (V1_of m c r h0).trans rfl

/-! ## The two calls as segments -/

/-- Each call's run data. -/
def pdats : (p : Fin 2) → (c : Dev nD) → Dat τ (Elt F) Unit ℕ (UU nD τ) ℕ (cfgs p) c
  | ⟨0, _⟩ => fun c => SpecI.dats (fun c b => V1 m c b) 0 c
  | ⟨1, _⟩ => fun c => dats (fun c b => W3 m c b) 0 c

abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)

set_option backward.isDefEq.respectTransparency.types false in
/-- The first call. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (SpecI.body_obligation (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X _ := BI.emp
  Y _ := BI.emp
  Z c := Pipeline.unscopedRest (Ix := Unit) (Name := ℕ) (U := UU nD τ) (Lvl := ℕ) spec0 c (fun b => V1 m c b)
  hentry c := by
    rw [Pipeline.ownSems0_none, ← Pipeline.unscopedBufs_held c (V1 m c)]
    have hsplit := Pipeline.arrays_of_unscopedBufs (p := 0) (pcfgs (F := F)) adm (pdats m) launch0.win launch0.arr_whole c
      ((pdats m 0 c).share_full fun _ => rfl) (fun b => V1 m c b) (SpecI.A_eq (fun c b => V1 m c b) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    rw [← Pipeline.unscopedBufs_held c (W2 m c)]
    have hjoin := Pipeline.unscopedBufs_of_arrays (p := 0) (pcfgs (F := F)) adm (Ix := Unit) (Name := ℕ) (U := UU nD τ) (Lvl := ℕ) launch0.win launch0.arr_whole c
      (pdats m) ((pdats m 0 c).share_full fun _ => rfl) (fun b => V1 m c b) (fun b => W2 m c b) ((pdats m 0 c).arrAt · cfg0.N)
      (fun w => by
        fin_cases w
        · exact ((pdats m 0 c).arrAt_in 0 rfl _).trans ((SpecI.A_eq (fun c b => V1 m c b) c 0).trans (W2_of m c _ (by decide)).symm)
        · exact ((pdats m 0 c).arrAt_in 1 rfl _).trans ((SpecI.A_eq (fun c b => V1 m c b) c 1).trans (W2_of m c _ (by decide)).symm)
        · exact ((pdats m 0 c).arrAt_in 2 rfl _).trans ((SpecI.A_eq (fun c b => V1 m c b) c 2).trans (W2_of m c _ (by decide)).symm)
        · exact ((pdats m 0 c).arrAt_in 3 rfl _).trans ((SpecI.A_eq (fun c b => V1 m c b) c 3).trans (W2_of m c _ (by decide)).symm)
        · exact ((pdats m 0 c).arrAt_in 4 rfl _).trans ((SpecI.A_eq (fun c b => V1 m c b) c 4).trans (W2_of m c _ (by decide)).symm)
        · exact ((pdats m 0 c).arrAt_in 5 rfl _).trans ((SpecI.A_eq (fun c b => V1 m c b) c 5).trans (W2_of m c _ (by decide)).symm)
        · exact (Function.update_self (β := fun b : DevRef τ sig => Buf (Elt F) ((c, b) : Loc nD τ sig)) (Proc.devRef .tc main_call0_v25) (spectrumOut m c) (V1 m c)).symm)
      (fun b hb => W2_of m c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ### The arrays the second call's fetches read -/

abbrev HH : Finset (Ref sig .tc) := {main_call0_v26, main_call0_v29}
theorem HH_sub : HH ⊆ Pipeline.restRefs sig spec1 := by
  intro b hb
  simp only [HH, Finset.mem_insert, Finset.mem_singleton] at hb
  rcases hb with rfl | rfl
  · exact Pipeline.mem_restRefs_of _ (by decide) (by decide)
  · exact Pipeline.mem_restRefs_of _ (by decide) (by decide)
theorem HH_two (Ψ : Ref sig .tc → sProp 𝕄) : bigSep HH Ψ = iprop(Ψ main_call0_v26 ∗ Ψ main_call0_v29) := by
  rw [bigSep_insert (by decide)]; congr 1; exact bigSep_singleton

theorem rest_split (c : Dev nD) (U : (b : Ref sig .tc) → Buf (Elt F) ((c : Thread nD τ).loc b)) :
    (Pipeline.unscopedRest (Ix := Unit) (Name := ℕ) (U := UU nD τ) (Lvl := ℕ) spec1 c U : sProp 𝕄)
      = iprop(((((c : Thread nD τ).loc main_call0_v26) ↦{fullShare} U main_call0_v26) ∗ (((c : Thread nD τ).loc main_call0_v29) ↦{fullShare} U main_call0_v29))
          ∗ bigSep (Pipeline.restRefs sig spec1 \ HH) fun b => ((c : Thread nD τ).loc b) ↦{fullShare} U b) := by
  rw [← HH_two fun b => ((c : Thread nD τ).loc b) ↦{fullShare} U b]
  unfold Pipeline.unscopedRest; exact BI.bigSep_sdiff_split HH_sub

theorem joined (c : Dev nD) (b : Ref sig .tc) (f) : iprop((((c : Thread nD τ).loc b) ↦{half 0} f) ∗ (((c : Thread nD τ).loc b) ↦{half 1} f))
    ⊢ (((c : Thread nD τ).loc b) ↦{fullShare} f : sProp 𝕄) :=
  (pointsTo_share (PosShare.mem_left_op_right fullShare)).2

/-- The two arrays, held whole. -/
def both (c : Dev nD) : sProp 𝕄 :=
  iprop((((c : Thread nD τ).loc main_call0_v26) ↦{fullShare} W3 m c main_call0_v26) ∗ (((c : Thread nD τ).loc main_call0_v29) ↦{fullShare} W3 m c main_call0_v29))

set_option maxHeartbeats 1000000 in
set_option backward.isDefEq.respectTransparency.types false in
/-- The second call. -/
def reg1 : RegionSeg (pcfgs (F := F)) adm (pdats m) () defs₀ 𝒱₀ L lv 1 where
  win := launch1.win.to₀
  block_pos := launch1.block_pos
  stage_whole := launch1.stage_whole
  K := Fin 2
  osem := osem
  ho := ownSemFacts
  hbody c := (body_obligation (fun c b => W3 m c b) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(both m c ∗ cellP c 0 ∗ cellP c 1)
  Y c := both m c
  Z c := bigSep (Pipeline.restRefs sig spec1 \ HH) fun b => ((c : Thread nD τ).loc b) ↦{fullShare} W3 m c b
  hentry c := by
    rw [ownSems0_eq, ← Pipeline.unscopedBufs_held c (W3 m c)]
    have hsplit := (Pipeline.arrays_of_unscopedBufs (p := 1) (pcfgs (F := F)) adm (pdats m) launch1.win launch1.arr_whole c
      ((pdats m 1 c).share_full fun _ => rfl) (fun b => W3 m c b) (fun _ => rfl)).trans (sep_mono .rfl (Entails.of_eq (rest_split c (fun b => W3 m c b))))
    iintro ⟨⟨Hub, HO⟩, ⟨Hc0, Hc1⟩, -⟩
    ihave H := hsplit $$ Hub
    icases H with ⟨Ha, Hb, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hb Hc0 Hc1]
    · isplitl [Hb]; · unfold both; iexact Hb
      isplitl [Hc0]; · iexact Hc0
      iexact Hc1
    iexact Hrest
  hin c := by
    rw [show (Pipeline.scopedRest (pcfgs (F := F) 1).spec c : sProp 𝕄) = Pipeline.scopedRest spec1 c from rfl, scopedRest1_eq,
      show (pdats m 1 c).Φ 0 = Φ (fun c b => W3 m c b) c 0 from rfl]
    unfold both Φ readyP others
    iintro ⟨⟨⟨HV, HW⟩, Hc0, Hc1⟩, -, G0, G1, G2, G3, G4, G5, G6, G7, G8, G9, Hb, ⟨%fi, Hi⟩, ⟨%fw, Hw⟩⟩
    ihave Hs := (buf_split c) $$ Hb
    icases Hs with ⟨Hs0, Hs1⟩
    ihave HV2 := (halves c main_call0_v26 _) $$ HV
    icases HV2 with ⟨HV0, HV1⟩
    ihave HW2 := (halves c main_call0_v29 _) $$ HW
    icases HW2 with ⟨HW0, HW1⟩
    isplitl [Hi]
    · iexists fi; isplitl [Hi]
      · unfold idxP; rw [idx_whole]; iexact Hi
      ipureintro; exact fun h => absurd rfl h
    isplitl [Hw]
    · iexists fw; isplitl [Hw]
      · unfold wtP; rw [wt_whole]; iexact Hw
      ipureintro; exact fun h => absurd rfl h
    isplitl [HV0 HW0 Hs0 Hc0]
    · isplitl [HV0]; · iexact HV0
      isplitl [HW0]; · iexact HW0
      isplitl [Hs0]; · iexact Hs0
      iexact Hc0
    isplitl [HV1 HW1 Hs1 Hc1]
    · isplitl [HV1]; · iexact HV1
      isplitl [HW1]; · iexact HW1
      isplitl [Hs1]; · iexact Hs1
      iexact Hc1
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    iexact G9
  hout c := by
    rw [show (Pipeline.scopedRest (pcfgs (F := F) 1).spec c : sProp 𝕄) = Pipeline.scopedRest spec1 c from rfl, scopedRest1_eq,
      show (pdats m 1 c).Φ (Fin.last _) = Φ (fun c b => W3 m c b) c cfg1.N from rfl, ownSems0_eq]
    unfold both Φ readyP others
    iintro ⟨⟨%fi, Hi, -⟩, ⟨%fw, Hw, -⟩, ⟨HV0, HW0, Hs0, Hc0⟩, ⟨HV1, HW1, Hs1, Hc1⟩, G0, G1, G2, G3, G4, G5, G6, G7, G8, G9⟩
    isplitl [HV0 HW0 HV1 HW1]
    · isplitl [HV0 HV1]
      · iapply (joined c main_call0_v26 _)
        isplitl [HV0]; · iexact HV0
        iexact HV1
      iapply (joined c main_call0_v29 _)
      isplitl [HW0]; · iexact HW0
      iexact HW1
    isplitl [Hc0 Hc1]
    · isplitl [Hc0]; · iexact Hc0
      iexact Hc1
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [Hs0 Hs1]
    · iapply (buf_join c)
      isplitl [Hs0]; · iexact Hs0
      iexact Hs1
    isplitl [Hi]
    · iexists fi; unfold idxP; rw [idx_whole]; iexact Hi
    iexists fw; unfold wtP; rw [wt_whole]; iexact Hw
  hexit c := by
    rw [← Pipeline.unscopedBufs_held c (W4 m c)]
    have hjoin := Pipeline.unscopedBufs_of_arrays (p := 1) (pcfgs (F := F)) adm (Ix := Unit) (Name := ℕ) (U := UU nD τ) (Lvl := ℕ) launch1.win launch1.arr_whole c
      (pdats m) ((pdats m 1 c).share_full fun _ => rfl) (fun b => W3 m c b) (fun b => W4 m c b) ((pdats m 1 c).arrAt · cfg1.N)
      (fun w => by
        fin_cases w
        · exact ((pdats m 1 c).arrAt_in 0 rfl _).trans (W4_of m c main_call0_v25 (by decide)).symm
        · exact ((pdats m 1 c).arrAt_in 1 rfl _).trans (W4_of m c main_call0_v19 (by decide)).symm
        · exact ((pdats m 1 c).arrAt_in 2 rfl _).trans (W4_of m c main_call0_v21 (by decide)).symm
        · exact ((pdats m 1 c).arrAt_in 3 rfl _).trans (W4_of m c main_call0_v22 (by decide)).symm
        · exact ((pdats m 1 c).arrAt_in 4 rfl _).trans (W4_of m c main_call0_v24 (by decide)).symm
        · exact (Function.update_self (β := fun b : DevRef τ sig => Buf (Elt F) ((c, b) : Loc nD τ sig)) (Proc.devRef .tc main_call0_v30) (sumOut m c) (W3 m c)).symm)
      (fun b hb => W4_of m c b fun h => hb (h ▸ Finset.mem_image.mpr ⟨5, Finset.mem_univ _, rfl⟩))
    have hre := Entails.of_eq (rest_split c (fun b => W3 m c b)).symm
    iintro ⟨Ha, HO, HY, HZ⟩
    imodintro
    isplitl [Ha HY HZ]
    · iapply hjoin
      isplitl [Ha]; · iexact Ha
      iapply hre
      isplitl [HY]; · unfold both; iexact HY
      iexact HZ
    unfold Pipeline.Dat.owesAt Pipeline.owesWithin
    icases HO with ⟨%W, -, HO⟩; iexists W; iexact HO

/-! ## The run -/

/-- A stretch of host operations, from the buffers at `U`. -/
def hseg0 : HostSeg (Ix := Unit) (Name := ℕ) (U := UU nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def hseg1 : HostSeg (Ix := Unit) (Name := ℕ) (U := UU nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def hseg2 : HostSeg (Ix := Unit) (Name := ℕ) (U := UU nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R

abbrev stretches (c : Dev nD) : List (Seg (pcfgs (F := F)) adm (pdats m) () defs₀ 𝒱₀ L lv) :=
  [.host (hseg0 m), .region (reg0 m), .host (hseg1 m), .region (reg1 m), .host (hseg2 m)]

def u₀ : UU nD τ := (initOf (Pipeline.cells cfgs cellOf_inj) (Pipeline.launchToks cfgs cellOf_inj), 1)

theorem uc_mem (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option maxHeartbeats 1000000 in
set_option backward.isDefEq.respectTransparency.types false in
/-- Every run of the kernel ends with each buffer as the stretches left it and every counter at zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W5 m c b) ∧ r.2.sem = fun _ => 0) := by
  refine Pipeline.θ_run_regions_kit_dev_sems (pcfgs (F := F)) adm (pdats m) () cellOf_inj EP defs₀ 𝒱₀ L lv m ρ main
    (stretches m)
    (fun c Q => by
      rewrite [main_chain c, Seg.run_eq_chain,
        show (stretches m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [stretches, Seg.pipes_host, Seg.pipes_region, Seg.pipes_nil]; decide) (0 : Dev nD → CellTallies nD τ sig Unit) (fun _ _ => rfl)
    (fun _ => iprop(emp)) u₀ ?hu
    (T₀ := fun c => iprop(StableHlo.held (c : Thread nD τ) (Pipeline.ucRefs τ sig) (V0 m c) ∗ R c))
    (Tₙ := fun c => StableHlo.held (c : Thread nD τ) (Pipeline.ucRefs τ sig) (W5 m c))
    (hch := fun c => ⟨.rfl, .rfl, .rfl, .rfl, .rfl, .rfl⟩)
    (hinit := ?_) (QY := fun c s => ∀ b ∈ Pipeline.ucRefs τ sig, s.mem ((c : Thread nD τ).1, b) = W5 m c b)
    (hfin := fun c s' => ?_) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    iexact HSI

/-- The run keeps its arguments, leaves its result as the last stretch wrote it, and ends with every counter at zero. -/
theorem run_result : θ_run defs (onTc (τ := τ) (main (F := F))) ⟨m, fun _ => 0, ρ⟩ (fun r =>
    (∀ c : Dev nD, r.2.mem ((c.tc : Thread nD τ).loc main_v0) = W5 m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨h.1 c _ (uc_mem main_v0 rfl),
    (h.1 c _ (uc_mem main_arg0 rfl)).trans (W5_kept m c main_arg0 (by decide) (by decide) (by decide) (by decide) (by decide)),
    (h.1 c _ (uc_mem main_arg1 rfl)).trans (W5_kept m c main_arg1 (by decide) (by decide) (by decide) (by decide) (by decide)),
    (h.1 c _ (uc_mem main_arg2 rfl)).trans (W5_kept m c main_arg2 (by decide) (by decide) (by decide) (by decide) (by decide))⟩, h.2⟩) (run_main m ρ)

end Autocorr.AggI

end
-- ==== Proof.Blocks2.lean ====
/- What the aggregation's windows hold at the first grid point, and the shifts and weights chosen from them. -/
module

public import proofs.«01_k».proof.Proof.Inverse
public import proofs.«01_k».proof.Proof.RunI
public import proofs.«01_k».proof.Proof.Blocks
public import Idealize.ShloMosaic.Lib.StableHlo.ReadAt
public import Idealize.ShloMosaic.Lib.Pipeline.ValueKit

@[expose] public section

set_option maxRecDepth 16384

noncomputable section

namespace Autocorr.AggI

open Cert.KernelIdeal Cert.KernelIdeal.Gen Idealize.ShloMosaic Idealize.ShloMosaic.TcCoe
open scoped BigOperators

variable (m : (ℓ : Loc nD τ sig) → Buf (Elt Ideal) ℓ) (c : Dev nD)

/-- A spectrum of finite entries as the argument's array: its real part and its imaginary part, by frequency. -/
def spec (S : Fin 2 → Fin 2 → Fin 4096 → ℝ) : S2x2x64x64.Idx → EReal := fun j => ((S (j 0) (j 1) (glue (j 2) (j 3)) : ℝ) : EReal)

theorem idx0 : ∀ t, win1_0.index t = ![0, 0, 0, 0] := by decide +kernel
theorem idx1 : ∀ t, win1_1.index t = ![0, 0] := by decide +kernel
theorem idx2 : ∀ t, win1_2.index t = ![0, 0] := by decide +kernel
theorem idx3 : ∀ t, win1_3.index t = ![0, 0] := by decide +kernel
theorem idx4 : ∀ t, win1_4.index t = ![0, 0] := by decide +kernel

theorem kept (r : Ref sig .tc) (h1 : r ∉ hostOps1_W) (h2 : r ≠ main_call0_v25) : W3 m c r = V1 m c r :=
  (W3_of m c r h1).trans (W2_of m c r h2)
theorem ent19 : V (fun c b => W3 m c b) c main_call0_v19 = m2 tFr := (kept m c _ (by decide) (by decide)).trans (Autocorr.ent19 m c)
theorem ent21 : V (fun c b => W3 m c b) c main_call0_v21 = m2 tFi := (kept m c _ (by decide) (by decide)).trans (Autocorr.ent21 m c)
theorem ent22 : V (fun c b => W3 m c b) c main_call0_v22 = m2 tWr := (kept m c _ (by decide) (by decide)).trans (Autocorr.ent22 m c)
theorem ent24 : V (fun c b => W3 m c b) c main_call0_v24 = m2 tWi := (kept m c _ (by decide) (by decide)).trans (Autocorr.ent24 m c)
theorem ent0 (S : Fin 2 → Fin 2 → Fin 4096 → ℝ) (h : spectrumOut m c = spec S) : V (fun c b => W3 m c b) c main_call0_v25 = spec S :=
  (W3_of m c _ (by decide)).trans ((Function.update_self (β := fun b : DevRef τ sig => Buf (Elt Ideal) ((c, b) : Loc nD τ sig)) (Proc.devRef .tc main_call0_v25) (spectrumOut m c) (V1 m c)).trans h)

theorem blk0 (S : Fin 2 → Fin 2 → Fin 4096 → ℝ) (h : spectrumOut m c = spec S) (t : Fin cfg1.N) : iblk (fun c b => W3 m c b) c 0 t = spec S := by
  funext j
  idx_vars j
  blk_simp [iblk]
  rw [ent0 m c S h]
  blk_ext [idx0 t]
theorem blk1 (t : Fin cfg1.N) : iblk (fun c b => W3 m c b) c 1 t = m2 tFr := by
  funext j
  idx_vars j
  blk_simp [iblk]
  rw [ent19]
  blk_ext [idx1 t]
theorem blk2 (t : Fin cfg1.N) : iblk (fun c b => W3 m c b) c 2 t = m2 tFi := by
  funext j
  idx_vars j
  blk_simp [iblk]
  rw [ent21]
  blk_ext [idx2 t]
theorem blk3 (t : Fin cfg1.N) : iblk (fun c b => W3 m c b) c 3 t = m2 tWr := by
  funext j
  idx_vars j
  blk_simp [iblk]
  rw [ent22]
  blk_ext [idx3 t]
theorem blk4 (t : Fin cfg1.N) : iblk (fun c b => W3 m c b) c 4 t = m2 tWi := by
  funext j
  idx_vars j
  blk_simp [iblk]
  rw [ent24]
  blk_ext [idx4 t]

end Autocorr.AggI

end

end
-- ==== Proof.TopRounds.lean ====
/- Taking the greatest of a sequence again and again, each time crossing it out, is sorting it: the first eight entries of
   the stable sort by "greater" are the eight positions taken. -/
module

public import Idealize.ShloMosaic.Lib.SortPrefix
public import Mathlib.Data.EReal.Basic

@[expose] public section

noncomputable section

namespace Autocorr

open Idealize.ShloMosaic

/-- Two relations that agree on every later element against every earlier one sort a list alike. -/
theorem sort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sorted_agree {n : Nat} (R R' : Fin n → Fin n → Bool) (h : ∀ a b, a < b → R b a = R' b a) (k : Fin n) :
    sortedFrom R k = sortedFrom R' k := by
  have e : sortPositions n R = sortPositions n R' :=
    sort_agree R R' _ ((List.pairwise_lt_finRange n).imp fun hab => h _ _ hab)
  unfold sortedFrom
  rw [List.get_of_eq e]
  rfl

section
variable {n : Nat} (g : Fin n → EReal) (cur : ℕ → Fin n → EReal) (σ : ℕ → Fin n)

/-- Greater first, of equal ones the earlier first. -/
def firstOf (p q : Fin n) : Bool := decide (g q < g p) || (decide (g p = g q) && decide (p < q))

theorem firstOf_total : StrictTotalBefore (firstOf g) :=
  StrictTotalBefore.of_key_then_position (fun a b : EReal => decide (b < a)) g (fun a => by simp)
    (fun a b c h1 h2 => by simp only [decide_eq_true_eq] at *; exact h2.trans h1)
    (fun a b => by
      rcases lt_trichotomy a b with h | h | h
      · exact Or.inr (Or.inr (by simpa using h))
      · exact Or.inr (Or.inl h)
      · exact Or.inl (by simpa using h))

variable (h0 : cur 0 = g) (hs : ∀ k p, cur (k + 1) p = if p = σ k then ⊥ else cur k p)
  (hmax : ∀ k p, cur k p ≤ cur k (σ k)) (hfst : ∀ k p, cur k p = cur k (σ k) → σ k ≤ p) (hg : ∀ p, g p ≠ ⊥)

include h0 hs in
theorem cur_eq (k : ℕ) (p : Fin n) : (∃ j < k, σ j = p) ∧ cur k p = ⊥ ∨ (∀ j < k, σ j ≠ p) ∧ cur k p = g p := by
  induction k with
  | zero => exact Or.inr ⟨fun j hj => absurd hj (Nat.not_lt_zero _), by rw [h0]⟩
  | succ k ih =>
    rw [hs]
    by_cases hp : p = σ k
    · rw [if_pos hp]; exact Or.inl ⟨⟨k, Nat.lt_succ_self k, hp.symm⟩, rfl⟩
    · rw [if_neg hp]
      rcases ih with ⟨⟨j, hj, e⟩, h⟩ | ⟨h1, h⟩
      · exact Or.inl ⟨⟨j, Nat.lt_succ_of_lt hj, e⟩, h⟩
      · refine Or.inr ⟨fun j hj => ?_, h⟩
        rcases Nat.lt_succ_iff_lt_or_eq.mp hj with hj | rfl
        · exact h1 j hj
        · exact fun e => hp e.symm

include h0 hs hmax hg in
/-- A position is taken once. -/
theorem taken_once (k : ℕ) (hk : k < n) : (∀ j < k, σ j ≠ σ k) ∧ cur k (σ k) = g (σ k) := by
  classical
  obtain ⟨p, hp⟩ : ∃ p : Fin n, p ∉ (Finset.range k).image σ := by
    by_contra hc
    push Not at hc
    have h1 : (Finset.univ : Finset (Fin n)).card ≤ ((Finset.range k).image σ).card := Finset.card_le_card fun p _ => hc p
    have h2 : ((Finset.range k).image σ).card ≤ k := Finset.card_image_le.trans (by simp)
    simp at h1; omega
  have hp' : ∀ j < k, σ j ≠ p := fun j hj e => hp (Finset.mem_image.mpr ⟨j, Finset.mem_range.mpr hj, e⟩)
  rcases cur_eq g cur σ h0 hs k p with ⟨⟨j, hj, e⟩, -⟩ | ⟨-, h⟩
  · exact absurd e (hp' j hj)
  have hlt : cur k (σ k) ≠ ⊥ := by
    intro hb
    have := hmax k p
    rw [hb, h] at this
    exact hg p (le_bot_iff.mp this)
  rcases cur_eq g cur σ h0 hs k (σ k) with ⟨-, h⟩ | h
  · exact absurd h hlt
  · exact h

include h0 hs hmax hfst hg in
theorem sorted_taken (m : ℕ) (hm : m ≤ n) (i : Fin m) :
    sortedFrom (fun p q => decide (g q < g p)) (i.castLE hm) = σ i.val := by
  have hn : ∀ k : Fin m, k.val < n := fun k => lt_of_lt_of_le k.isLt hm
  have once := fun k : Fin m => taken_once g cur σ h0 hs hmax hg k.val (hn k)
  rw [sorted_agree (fun p q => decide (g q < g p)) (firstOf g) fun a b hab => ?_]
  · have later : ∀ (k : Fin m) (p : Fin n), (∀ j < k.val, σ j ≠ p) → firstOf g p (σ k.val) = false := by
      intro k p hp
      have hc : cur k.val p = g p := by
        rcases cur_eq g cur σ h0 hs k.val p with ⟨⟨j, hj, e⟩, -⟩ | ⟨-, h⟩
        · exact absurd e (hp j hj)
        · exact h
      have h1 := hmax k.val p
      have h2 := hfst k.val p
      rw [(once k).2, hc] at h1 h2
      unfold firstOf
      simp only [Bool.or_eq_false_iff, Bool.and_eq_false_iff, decide_eq_false_iff_not, not_lt]
      refine ⟨h1, ?_⟩
      by_cases e : g p = g (σ k.val)
      · exact Or.inr (h2 e)
      · exact Or.inl e
    refine (firstOf_total g).sortedFrom_eq_of_prefix hm (fun k : Fin m => σ k.val) ?_ ?_ ?_ i
    · intro a b hab
      by_contra hne
      rcases lt_or_gt_of_ne hne with h | h
      · exact (once b).1 a.val h hab
      · exact (once a).1 b.val h hab.symm
    · intro a b hab
      refine later a (σ b.val) fun j hj => (once b).1 j (hj.trans hab)
    · intro k p hp
      exact later k p fun j hj => hp ⟨j, hj.trans k.isLt⟩
  · unfold firstOf
    have : ¬ b < a := not_lt.mpr hab.le
    simp [this]

end

end Autocorr

end
-- ==== Proof.Tops.lean ====
/- The rounds over the extended reals: the shifts taken are those a stable sort of the means puts first. -/
module

public import proofs.«01_k».proof.Proof.TopRounds
public import proofs.«01_k».proof.Proof.Inverse

@[expose] public section

set_option maxRecDepth 16384

noncomputable section

namespace Autocorr.AggI

open Cert.KernelIdeal Cert.KernelIdeal.Gen Idealize.ShloMosaic
open scoped BigOperators

theorem fold_max_spec {ι : Type} [Fintype ι] [Nonempty ι] (f : ι → EReal) :
    (∀ i, f i ≤ Finset.univ.fold max ⊥ f) ∧ ∃ i, Finset.univ.fold max ⊥ f = f i := by
  have hle : ∀ i, f i ≤ Finset.univ.fold max ⊥ f := fun i => Finset.le_fold_max _ |>.mpr (Or.inr ⟨i, Finset.mem_univ i, le_refl _⟩)
  refine ⟨hle, ?_⟩
  rcases (Finset.le_fold_max (Finset.univ.fold max ⊥ f)).mp (le_refl _) with h | ⟨i, -, h⟩
  · obtain ⟨i⟩ := ‹Nonempty ι›
    exact ⟨i, le_antisymm (h.trans bot_le) (hle i)⟩
  · exact ⟨i, le_antisymm h (hle i)⟩

instance : Nonempty S1x64x64.Idx := ⟨ix3 0 0 0⟩
instance : Nonempty S1x1x128.Idx := ⟨ix3 0 0 0⟩

theorem topOf_fold (g : FVec Ideal S64x64 .f32) :
    topOf g = Finset.univ.fold max ⊥ (fun i : S1x64x64.Idx => g (Shape.reshapeEquiv shapeCasts_S64x64_S1x64x64 i)) := by
  refine (multiReduction_maximumf_eq_fold _ _ reduces_S1x64x64_S1 (.inl rfl) rfl _).trans ?_
  rw [Finset.filter_true_of_mem fun i _ => s1_eq _ _]
  exact congrArg (fun b => Finset.univ.fold max b _) bits_bot

theorem topOf_spec (g : FVec Ideal S64x64 .f32) : (∀ y, g y ≤ topOf g) ∧ ∃ y, topOf g = g y := by
  rw [topOf_fold]
  obtain ⟨h1, i, h2⟩ := fold_max_spec fun i : S1x64x64.Idx => g (Shape.reshapeEquiv shapeCasts_S64x64_S1x64x64 i)
  exact ⟨fun y => by simpa using h1 ((Shape.reshapeEquiv shapeCasts_S64x64_S1x64x64).symm y), _, h2⟩

theorem sumOf_sum (g : FVec Ideal S64x64 .f32) : sumOf g = ∑ y : S64x64.Idx, g y := by
  refine (Ideal.multiReduction_add_total _ _ reduces_S1x64x64_S1 (fun b => by fin_cases b; rfl) (.inl rfl) rfl _).trans ?_
  exact Equiv.sum_comp (Shape.reshapeEquiv shapeCasts_S64x64_S1x64x64) g

/-- The position `p` of the sequence as an entry's index. -/
def ixOf (p : Fin 4096) : S64x64.Idx := ix2 (⟨p.val / 64, by omega⟩ : Fin 64) (⟨p.val % 64, by omega⟩ : Fin 64)
theorem ix_val (y : S64x64.Idx) : 64 * (y 0).val + (y 1).val < 4096 := by
  have h0 : (y 0).val < 64 := (y 0).isLt
  have h1 : (y 1).val < 64 := (y 1).isLt
  omega
/-- And back. -/
def posOf (y : S64x64.Idx) : Fin 4096 := ⟨64 * (y 0).val + (y 1).val, ix_val y⟩
theorem pos_ix (p : Fin 4096) : posOf (ixOf p) = p := Fin.ext (by show 64 * (p.val / 64) + p.val % 64 = p.val; omega)
theorem ix_pos (y : S64x64.Idx) : ixOf (posOf y) = y := by
  have h0 : (y 0).val < 64 := (y 0).isLt
  have h1 : (y 1).val < 64 := (y 1).isLt
  funext a
  fin_cases a
  · exact Fin.ext (by show (64 * (y 0).val + (y 1).val) / 64 = (y 0).val; omega)
  · exact Fin.ext (by show (64 * (y 0).val + (y 1).val) % 64 = (y 1).val; omega)
theorem pay29_pos (y : S64x64.Idx) : (k1_pay29 y).toNat = (posOf y).val := pay29_at y

theorem bool_one (b : Bool) : BitVec.ofBool b = 1#1 ↔ b = true := by cases b <;> decide

theorem hit_iff (g : FVec Ideal S64x64 .f32) (x : EReal) (y : S64x64.Idx) :
    cmpf .oeq g (broadcast S64x64 x) y = 1#1 ↔ g y = x := by
  show BitVec.ofBool (decide (g y = x)) = 1#1 ↔ _
  rw [bool_one, decide_eq_true_eq]

/-- The position taken is that of a greatest entry, and the least of those. -/
theorem whereTop_spec (g : FVec Ideal S64x64 .f32) : ∃ p : Fin 4096, (whereTop g).toNat = p.val ∧ (∀ y, g y ≤ g (ixOf p))
    ∧ ∀ q : Fin 4096, g (ixOf q) = g (ixOf p) → p ≤ q := by
  obtain ⟨hle, y0, hy0⟩ := topOf_spec g
  obtain ⟨h1, y, hy⟩ := leastAt_spec (cmpf .oeq g (broadcast S64x64 (topOf g)))
  have hsel : ∀ z, g z = topOf g → select (cmpf .oeq g (broadcast S64x64 (topOf g))) k1_pay29 (broadcast S64x64 4096#32) z = k1_pay29 z := by
    intro z hz
    exact if_pos ((hit_iff g _ z).mpr hz)
  have hhit : g y = topOf g := by
    by_contra hne
    have e : select (cmpf .oeq g (broadcast S64x64 (topOf g))) k1_pay29 (broadcast S64x64 4096#32) y = 4096#32 :=
      if_neg fun h => hne ((hit_iff g _ y).mp h)
    have h2 := h1 y0
    rw [hsel y0 hy0.symm, hy, e, pay29_pos] at h2
    have := (posOf y0).isLt
    have h3 : (4096#32 : BitVec 32).toNat = 4096 := rfl
    omega
  refine ⟨posOf y, ?_, ?_, ?_⟩
  · show (leastAt _).toNat = _
    rw [hy, hsel y hhit, pay29_pos]
  · intro z; rw [ix_pos, hhit]; exact hle z
  · intro q hq
    rw [ix_pos, hhit] at hq
    have h2 := h1 (ixOf q)
    rw [hsel _ hq, hy, hsel y hhit, pay29_pos, pay29_pos, pos_ix] at h2
    exact h2

theorem mark_at (g : FVec Ideal S64x64 .f32) (p : Fin 4096) (hp : (whereTop g).toNat = p.val) (y : S64x64.Idx) :
    markOf g y = 1#1 ↔ posOf y = p := by
  unfold markOf
  revert hp
  generalize whereTop g = w
  intro hp
  rw [show cmpi .eq k1_pay29 (broadcast S64x64 w) y = BitVec.ofBool (k1_pay29 y == w) from rfl, bool_one, beq_iff_eq]
  constructor
  · intro h; exact Fin.ext (by rw [← pay29_pos, h]; exact hp)
  · intro h; exact BitVec.eq_of_toNat_eq (by rw [pay29_pos, h]; exact hp.symm)

theorem choose_at (c : IVec S64x64 1) (x z : FVec Ideal S64x64 .f32) (y : S64x64.Idx) : select c x z y = if c y = 1#1 then x y else z y := rfl

/-- The shift taken in round `k`. -/
def nth (g : FVec Ideal S64x64 .f32) (k : ℕ) : Fin 4096 := (whereTop_spec (leftOf g k)).choose
theorem nth_spec (g : FVec Ideal S64x64 .f32) (k : ℕ) : (whereTop (leftOf g k)).toNat = (nth g k).val
    ∧ (∀ y, leftOf g k y ≤ leftOf g k (ixOf (nth g k))) ∧ ∀ q : Fin 4096, leftOf g k (ixOf q) = leftOf g k (ixOf (nth g k)) → nth g k ≤ q :=
  (whereTop_spec (leftOf g k)).choose_spec
attribute [irreducible] nth
theorem nth_word (g : FVec Ideal S64x64 .f32) (k : ℕ) : whereTop (leftOf g k) = BitVec.ofNat 32 (nth g k).val := by
  rw [← (nth_spec g k).1]; simp

theorem left_succ (g : FVec Ideal S64x64 .f32) (k : ℕ) (p : Fin 4096) :
    leftOf g (k + 1) (ixOf p) = if p = nth g k then ⊥ else leftOf g k (ixOf p) := by
  have e : leftOf g (k + 1) = select (markOf (leftOf g k)) (broadcast S64x64 (Ideal.ofBits .f32 0xFF800000#32)) (leftOf g k) := rfl
  rw [e, choose_at]
  have hm := mark_at (leftOf g k) (nth g k) (nth_spec g k).1 (ixOf p)
  rw [pos_ix] at hm
  by_cases h : p = nth g k
  · rw [if_pos h, if_pos (hm.mpr h)]; exact bits_bot
  · rw [if_neg h, if_neg fun h' => h (hm.mp h')]

/-- The value read at the mark. -/
theorem value_of (m g : FVec Ideal S64x64 .f32) (p : Fin 4096) (hp : (whereTop g).toNat = p.val) : valueAt m g = m (ixOf p) := by
  have e : valueAt m g = sumOf (select (markOf g) m (broadcast S64x64 (Ideal.ofBits .f32 0x00000000#32))) := rfl
  rw [e, sumOf_sum, Finset.sum_eq_single (ixOf p)]
  · rw [choose_at, if_pos ((mark_at g p hp _).mpr (pos_ix _))]
  · intro y _ hy
    rw [choose_at, if_neg fun hm => hy (by rw [← (mark_at g p hp y).mp hm, ix_pos])]
    exact Ideal.ofBits_zero_f32
  · intro h; exact absurd (Finset.mem_univ _) h
theorem value_at (m g : FVec Ideal S64x64 .f32) (k : ℕ) : valueAt m (leftOf g k) = m (ixOf (nth g k)) := value_of m _ _ (nth_spec g k).1

/-- The first eight of the stable sort are the eight shifts taken. -/
theorem sorted_nth (g : FVec Ideal S64x64 .f32) (hg : ∀ y, g y ≠ ⊥) (i : Fin 8) :
    sortedFrom (fun p q : Fin 4096 => decide (g (ixOf q) < g (ixOf p))) (i.castLE (by decide)) = nth g i.val :=
  sorted_taken (fun p => g (ixOf p)) (fun k p => leftOf g k (ixOf p)) (nth g) rfl (left_succ g)
    (fun k p => (nth_spec g k).2.1 (ixOf p)) (fun k p => (nth_spec g k).2.2 p)
    (fun p => hg _) 8 (by decide) i

end Autocorr.AggI

end

end
-- ==== Proof.Weights.lean ====
/- The weights over the extended reals: a softmax of the eight means taken. -/
module

public import proofs.«01_k».proof.Proof.Tops

@[expose] public section

set_option maxRecDepth 16384

noncomputable section

namespace Autocorr.AggI

open Cert.KernelIdeal Cert.KernelIdeal.Gen Idealize.ShloMosaic
open scoped BigOperators

/-- The greatest of eight, and the softmax of eight. -/
def top8 (a : Fin 8 → EReal) : EReal := Finset.univ.fold max ⊥ a
def soft8 (a : Fin 8 → EReal) (k : Fin 8) : EReal :=
  Ideal.div (Ideal.exp (a k - top8 a)) (∑ i, Ideal.exp (a i - top8 a))

theorem lane_word (w : S1x128.Idx) : lanes w = BitVec.ofNat 32 (w 1).val := by
  have h0 : w = ix2 (w 0) (w 1) := by funext a; fin_cases a <;> rfl
  rw [h0]
  unfold lanes
  pointwise

theorem sumLane_sum (g : FVec Ideal S1x128 .f32) : sumLane g = ∑ l : Fin 128, g (ix2 0 l) := by
  refine (Ideal.multiReduction_add_total _ _ reduces_S1x1x128_S1 (fun b => by fin_cases b; rfl) (.inl rfl) rfl _).trans ?_
  refine (Equiv.sum_comp (Shape.reshapeEquiv shapeCasts_S1x128_S1x1x128) g).trans ?_
  exact Fintype.sum_equiv ⟨fun y => y 1, fun l => ix2 0 l, fun y => by funext a; fin_cases a; exact Fin.ext (by have : (y 0).val < 1 := (y 0).isLt; show 0 = (y 0).val; omega); rfl, fun l => rfl⟩ _ _
    fun y => congrArg g (by funext a; fin_cases a; exact Fin.ext (by have : (y 0).val < 1 := (y 0).isLt; show (y 0).val = 0; omega); rfl)

theorem lane_ix (l : Fin 128) : lanes (ix2 0 l) = BitVec.ofNat 32 l.val := lane_word _

theorem topLane_spec (g : FVec Ideal S1x128 .f32) : (∀ l : Fin 128, g (ix2 0 l) ≤ topLane g) ∧ ∃ l : Fin 128, topLane g = g (ix2 0 l) := by
  have e : topLane g = Finset.univ.fold max ⊥ (fun i : S1x1x128.Idx => g (Shape.reshapeEquiv shapeCasts_S1x128_S1x1x128 i)) := by
    refine (multiReduction_maximumf_eq_fold _ _ reduces_S1x1x128_S1 (.inl rfl) rfl _).trans ?_
    rw [Finset.filter_true_of_mem fun i _ => s1_eq _ _]
    exact congrArg (fun b => Finset.univ.fold max b _) bits_bot
  rw [e]
  obtain ⟨h1, i, h2⟩ := fold_max_spec fun i : S1x1x128.Idx => g (Shape.reshapeEquiv shapeCasts_S1x128_S1x1x128 i)
  have hy : ∀ y : S1x128.Idx, y = ix2 0 (y 1) := fun y => by
    funext a; fin_cases a
    · exact Fin.ext (by have : (y 0).val < 1 := (y 0).isLt; show (y 0).val = 0; omega)
    · rfl
  refine ⟨fun l => by simpa using h1 ((Shape.reshapeEquiv shapeCasts_S1x128_S1x1x128).symm (ix2 0 l)), (Shape.reshapeEquiv shapeCasts_S1x128_S1x1x128 i) 1, ?_⟩
  rw [h2]; exact congrArg g (hy _)

theorem top8_spec (a : Fin 8 → EReal) : (∀ k, a k ≤ top8 a) ∧ ∃ k, top8 a = a k := fold_max_spec a

theorem small_word (a b : ℕ) (ha : a < 128) (hb : b < 128) : BitVec.ofNat 32 a = BitVec.ofNat 32 b ↔ a = b := by
  constructor
  · intro h
    have := congrArg BitVec.toNat h
    simp only [BitVec.toNat_ofNat] at this
    omega
  · rintro rfl; rfl

theorem at_lane (k : ℕ) (hk : k < 128) (x z : EReal) (l : Fin 128) :
    (if cmpi .eq lanes (broadcast S1x128 (BitVec.ofNat 32 k)) (ix2 0 l) = 1#1 then x else z) = if l.val = k then x else z := by
  refine if_congr ?_ rfl rfl
  rw [show cmpi .eq lanes (broadcast S1x128 (BitVec.ofNat 32 k)) (ix2 0 l) = BitVec.ofBool (lanes (ix2 0 l) == BitVec.ofNat 32 k) from rfl, bool_one, beq_iff_eq, lane_ix]
  exact small_word _ _ l.isLt hk

theorem taken_at (m g : FVec Ideal S64x64 .f32) (n : ℕ) (hn : n ≤ 8) (l : Fin 128) :
    takenOf m g n (ix2 0 l) = if l.val < n then m (ixOf (nth g l.val)) else 0 := by
  induction n with
  | zero => rw [if_neg (by omega)]; exact Ideal.ofBits_zero_f32
  | succ n ih =>
    have e : takenOf m g (n + 1) (ix2 0 l) = takenOf m g n (ix2 0 l)
        + (if cmpi .eq lanes (broadcast S1x128 (BitVec.ofNat 32 n)) (ix2 0 l) = 1#1 then valueAt m (leftOf g n) else Ideal.ofBits .f32 0x00000000#32) := rfl
    rw [e, ih (by omega), at_lane n (by omega), value_at, Ideal.ofBits_zero_f32]
    by_cases h : l.val = n
    · rw [if_neg (by omega), if_pos h, if_pos (by omega), zero_add, h]
    · rw [if_neg h, add_zero]
      exact if_congr (by omega) rfl rfl

/-- The eight means taken. -/
def took (m g : FVec Ideal S64x64 .f32) (k : Fin 8) : EReal := m (ixOf (nth g k.val))

theorem slt8 : ∀ l : Fin 128, ((BitVec.ofNat 32 l.val).slt 8#32 = true) ↔ l.val < 8 := by decide +kernel

theorem eight_at (m g : FVec Ideal S64x64 .f32) (l : Fin 128) :
    eightOf (takenOf m g 8) (ix2 0 l) = if h : l.val < 8 then took m g ⟨l.val, h⟩ else ⊥ := by
  have e : eightOf (takenOf m g 8) (ix2 0 l) = if BitVec.ofBool ((lanes (ix2 0 l)).slt 8#32) = 1#1 then takenOf m g 8 (ix2 0 l) else Ideal.ofBits .f32 0xFF800000#32 := rfl
  rw [e, lane_ix, taken_at m g 8 (le_refl _)]
  by_cases h : l.val < 8
  · rw [if_pos ((bool_one _).mpr ((slt8 l).mpr h)), if_pos h, dif_pos h]; rfl
  · rw [if_neg fun h' => h ((slt8 l).mp ((bool_one _).mp h')), dif_neg h]; exact bits_bot

theorem top_lane (m g : FVec Ideal S64x64 .f32) : topLane (eightOf (takenOf m g 8)) = top8 (took m g) := by
  obtain ⟨h1, l, h2⟩ := topLane_spec (eightOf (takenOf m g 8))
  obtain ⟨h3, k, h4⟩ := top8_spec (took m g)
  apply le_antisymm
  · rw [h2, eight_at]
    split
    · exact h3 _
    · exact bot_le
  · rw [h4]
    have := h1 ⟨k.val, by omega⟩
    rw [eight_at, dif_pos k.isLt] at this
    exact this

theorem exp_at (m g : FVec Ideal S64x64 .f32) (l : Fin 128) :
    Ideal.exp (eightOf (takenOf m g 8) (ix2 0 l) - top8 (took m g)) = if h : l.val < 8 then Ideal.exp (took m g ⟨l.val, h⟩ - top8 (took m g)) else 0 := by
  rw [eight_at]
  split
  · rfl
  · rw [sub_eq_add_neg, EReal.bot_add]; rfl

theorem sum_eight (f : Fin 8 → EReal) : (∑ l : Fin 128, if h : l.val < 8 then f ⟨l.val, h⟩ else 0) = ∑ k, f k := by
  rw [← Finset.sum_subset (Finset.subset_univ (Finset.univ.map (Fin.castLEEmb (by decide : 8 ≤ 128))))]
  · rw [Finset.sum_map]
    exact Finset.sum_congr rfl fun k _ => dif_pos k.isLt
  · intro l _ hl
    exact dif_neg fun h => hl (Finset.mem_map.mpr ⟨⟨l.val, h⟩, Finset.mem_univ _, rfl⟩)

theorem div_at (a b : FVec Ideal S1x128 .f32) (y : S1x128.Idx) : divf a b y = Ideal.div (a y) (b y) := rfl
theorem exp_sub_at (a : FVec Ideal S1x128 .f32) (t : EReal) (y : S1x128.Idx) : exp (F := Ideal) (subf a (broadcast S1x128 t)) y = Ideal.exp (a y - t) := rfl
theorem bc_at (t : EReal) (y : S1x128.Idx) : broadcast S1x128 t y = t := rfl

theorem soft_at (m g : FVec Ideal S64x64 .f32) (k : Fin 8) : softOf (eightOf (takenOf m g 8)) (ix2 0 (⟨k.val, by omega⟩ : Fin 128)) = soft8 (took m g) k := by
  unfold softOf
  rw [div_at, bc_at, exp_sub_at, sumLane_sum, top_lane]
  simp only [exp_sub_at, exp_at]
  rw [dif_pos k.isLt]
  exact congrArg (Ideal.div _) (sum_eight fun i => Ideal.exp (took m g i - top8 (took m g)))

theorem lane_at (w : FVec Ideal S1x128 .f32) (k : ℕ) (hk : k < 128) : laneOf w (BitVec.ofNat 32 k) = w (ix2 0 (⟨k, hk⟩ : Fin 128)) := by
  have e : laneOf w (BitVec.ofNat 32 k) = sumLane (fun y => if cmpi .eq lanes (broadcast S1x128 (BitVec.ofNat 32 k)) y = 1#1
      then w y else Ideal.ofBits .f32 0x00000000#32) := rfl
  rw [e, sumLane_sum, Ideal.ofBits_zero_f32]
  simp only [at_lane k hk]
  rw [Finset.sum_eq_single (⟨k, hk⟩ : Fin 128)]
  · rw [if_pos rfl]
  · intro l _ hl; exact if_neg fun h => hl (Fin.ext h)
  · intro h; exact absurd (Finset.mem_univ _) h

/-- The weight of a shift is the softmax of the eight means. -/
theorem weight_at (m g : FVec Ideal S64x64 .f32) (k : Fin 8) : weightOf m g k.val = soft8 (took m g) k := by
  unfold weightOf
  rw [lane_at _ k.val (by omega)]
  exact soft_at m g k

end Autocorr.AggI

end

end
-- ==== Proof.Chosen.lean ====
/- The shifts and the weights the aggregation chooses, over the extended reals. -/
module

public import proofs.«01_k».proof.Proof.Blocks2
public import proofs.«01_k».proof.Proof.Weights
public import Idealize.ShloMosaic.Lib.VecWindow

@[expose] public section

set_option maxRecDepth 16384

noncomputable section

namespace Autocorr.AggI

open Cert.KernelIdeal Cert.KernelIdeal.Gen Idealize.ShloMosaic Idealize.ShloMosaic.TcCoe
open scoped BigOperators

/-- The mean of batch `b` at shift `t`, and the mean over the batches. -/
def mu (S : Fin 2 → Fin 2 → Fin 4096 → ℝ) (b : Fin 2) (t : Fin 4096) : ℝ := cor (S b 0) (S b 1) t * (1 / 3145728)
def gmu (S : Fin 2 → Fin 2 → Fin 4096 → ℝ) (t : Fin 4096) : ℝ := (mu S 0 t + mu S 1 t) / 2
/-- A sequence as an array of positions. -/
def byPos (f : Fin 4096 → ℝ) : S64x64.Idx → EReal := m2 fun n1 n2 => f (glue n1 n2)

theorem byPos_at (f : Fin 4096 → ℝ) (p : Fin 4096) : byPos f (ixOf p) = ((f p : ℝ) : EReal) := by
  have e : glue (⟨p.val / 64, by omega⟩ : Fin 64) (⟨p.val % 64, by omega⟩ : Fin 64) = p := Fin.ext (by simp only [glue]; omega)
  show ((f (glue (⟨p.val / 64, by omega⟩ : Fin 64) (⟨p.val % 64, by omega⟩ : Fin 64)) : ℝ) : EReal) = _
  rw [e]

theorem bits_half : Ideal.ofBits .f32 0x3F000000#32 = ((1 / 2 : ℝ) : EReal) := by
  simp [Ideal.ofBits, Ideal.ieee, -EReal.coe_mul]; norm_num

theorem avg_at (a b : Fin 4096 → ℝ) : avgOf (F := Ideal) (byPos a) (byPos b) = byPos fun t => (a t + b t) / 2 := by
  funext j
  show ((a (glue (j 0) (j 1)) : ℝ) + (b (glue (j 0) (j 1)) : ℝ) : EReal) * Ideal.ofBits .f32 0x3F000000#32 = (((a (glue (j 0) (j 1)) + b (glue (j 0) (j 1))) / 2 : ℝ) : EReal)
  rw [bits_half, ← EReal.coe_add, ← EReal.coe_mul]
  congr 1
  ring

section
variable
  (arg2 : Memref sig .tc .vmem S2x2x64x64 .f32) (harg2 : arg2.IsWhole) (arg3 : Memref sig .tc .vmem S64x64 .f32) (harg3 : arg3.IsWhole)
  (arg4 : Memref sig .tc .vmem S64x64 .f32) (harg4 : arg4.IsWhole) (arg5 : Memref sig .tc .vmem S64x64 .f32) (harg5 : arg5.IsWhole)
  (arg6 : Memref sig .tc .vmem S64x64 .f32) (harg6 : arg6.IsWhole)
  (S : Fin 2 → Fin 2 → Fin 4096 → ℝ)

theorem tabLd_eq (a : Memref sig .tc .vmem S64x64 .f32) (ha : a.IsWhole) (x : Vec Ideal S64x64 .f32) : tabLd a ha x = x :=
  (View.readAt_full a.view _ _).trans (ha.read_unread x)

theorem half_at (off : Fin 4 → ℕ) (h) (b ch : Fin 2) (e : off = ![b.val, ch.val, 0, 0]) :
    View.readAt (Elt Ideal) arg2.view (Rect.unit (s := S2x2x64x64) off S1x1x64x64.size h).toLoadRect (harg2.unread (spec S))
      = sl4 fun k2 k1 => S b ch (glue k2 k1) := by
  subst e
  funext j
  rw [View.readAt_apply]
  refine (congrFun (harg2.read_unread (Val := Elt Ideal) (spec S)) _).trans ?_
  have h0 : (j 0).val < 1 := (j 0).isLt
  have h1 : (j 1).val < 1 := (j 1).isLt
  have e : (Rect.unit (s := S2x2x64x64) ![b.val, ch.val, 0, 0] S1x1x64x64.size h).toLoadRect.idx j = ix4 b ch (j 2) (j 3) := by
    funext a
    fin_cases a
    · exact Fin.ext (by show b.val + 1 * (j 0).val = b.val; omega)
    · exact Fin.ext (by show ch.val + 1 * (j 1).val = ch.val; omega)
    · exact Fin.ext (by show 0 + 1 * (j 2).val = (j 2).val; omega)
    · exact Fin.ext (by show 0 + 1 * (j 3).val = (j 3).val; omega)
  rw [e]
  rfl

theorem means0_eq : means0 (F := Ideal) arg2 harg2 arg3 harg3 arg4 harg4 arg5 harg5 arg6 harg6 (spec S) (m2 tFr) (m2 tFi) (m2 tWr) (m2 tWi) = byPos (mu S 0) := by
  unfold means0
  rw [tabLd_eq, tabLd_eq, tabLd_eq, tabLd_eq, half_at arg2 harg2 S ![0, 0, 0, 0] inb_S2x2x64x64_S1x1x64x64_0_0_0_0 0 0 rfl, half_at arg2 harg2 S ![0, 1, 0, 0] inb_S2x2x64x64_S1x1x64x64_0_1_0_0 0 1 rfl]
  exact means_eq (S 0 0) (S 0 1)
theorem means1_eq : means1 (F := Ideal) arg2 harg2 arg3 harg3 arg4 harg4 arg5 harg5 arg6 harg6 (spec S) (m2 tFr) (m2 tFi) (m2 tWr) (m2 tWi) = byPos (mu S 1) := by
  unfold means1
  rw [tabLd_eq, tabLd_eq, tabLd_eq, tabLd_eq, half_at arg2 harg2 S ![1, 0, 0, 0] inb_S2x2x64x64_S1x1x64x64_1_0_0_0 1 0 rfl, half_at arg2 harg2 S ![1, 1, 0, 0] inb_S2x2x64x64_S1x1x64x64_1_1_0_0 1 1 rfl]
  exact means_eq (S 1 0) (S 1 1)
theorem avg_eq : avg (F := Ideal) arg2 harg2 arg3 harg3 arg4 harg4 arg5 harg5 arg6 harg6 (spec S) (m2 tFr) (m2 tFi) (m2 tWr) (m2 tWi) = byPos (gmu S) := by
  unfold avg
  rw [means0_eq, means1_eq]
  exact avg_at _ _
theorem meansAt_eq (b : Fin 2) : meansAt (F := Ideal) arg2 harg2 arg3 harg3 arg4 harg4 arg5 harg5 arg6 harg6 (spec S) (m2 tFr) (m2 tFi) (m2 tWr) (m2 tWi) b.val = byPos (mu S b) := by
  unfold meansAt
  rw [means0_eq, means1_eq]
  fin_cases b
  · exact if_pos rfl
  · exact if_neg (by decide)
end

/-- The shift taken in round `k`, and its weight in batch `b`. -/
def shift (S : Fin 2 → Fin 2 → Fin 4096 → ℝ) (k : Fin 8) : Fin 4096 := nth (byPos (gmu S)) k.val
def weight (S : Fin 2 → Fin 2 → Fin 4096 → ℝ) (b : Fin 2) (k : Fin 8) : EReal := soft8 (fun i => ((mu S b (shift S i) : ℝ) : EReal)) k

section
variable (m : (ℓ : Loc nD τ sig) → Buf (Elt Ideal) ℓ) (c : Dev nD) (S : Fin 2 → Fin 2 → Fin 4096 → ℝ) (h : spectrumOut m c = spec S)

include h in
theorem gI_at (k : Fin 8) : gI (fun c b => W3 m c b) c (ix1 k) = BitVec.ofNat 32 (shift S k).val := by
  have e := View.read_writes_apply_of_pieces (Val := Elt Ideal) idxM.view (fun _ => (0#32 : BitVec 32)) (fun j : S8.Idx => (whereTop (F := Ideal) (leftOf (F := Ideal) (byPos (gmu S)) (j 0).val) : BitVec 32)) (chosen (fun c b => W3 m c b) c).1.1
    (fun p hp x => by
      have := picked_idx (F := Ideal) _ _ _ _ _ _ _ _ _ _ _ _ _ _ _ _ _ _ _ p hp x
      rw [blk0 m c S h, blk1, blk2, blk3, blk4, avg_eq] at this
      exact this) (ix1 k) (choose_cover _ _ _ _ _ _ _ _ _ _ _ _ _ _ _ _ _ _ _ _)
  exact e.trans (nth_word _ _)

include h in
theorem gW_at (b : Fin 2) (k : Fin 8) : gW (fun c b => W3 m c b) c (ix2 b k) = (weight S b k : EReal) := by
  have e := View.read_writes_apply_of_pieces (Val := Elt Ideal) wtM.view (fun _ => (FloatOps.ofBits (F := Ideal) .f32 0#32))
    (fun j : S2x8.Idx => weightOf (F := Ideal) (byPos (mu S (j 0))) (byPos (gmu S)) (j 1).val) (chosen (fun c b => W3 m c b) c).1.2
    (fun p hp x => by
      have := picked_wt (F := Ideal) _ _ _ _ _ _ _ _ _ _ _ _ _ _ _ _ _ _ _ p hp x
      rw [blk0 m c S h, blk1, blk2, blk3, blk4, avg_eq] at this
      exact this.trans (congrArg (fun y => weightOf (F := Ideal) y _ _) (meansAt_eq _ _ _ _ _ _ _ _ _ _ S (p.1.emb x 0)))) (ix2 b k) (choose_cover2 _ _ _ _ _ _ _ _ _ _ _ _ _ _ _ _ _ _ _ _)
  refine e.trans ((weight_at _ _ k).trans ?_)
  exact congrArg (fun a => soft8 a k) (funext fun i => byPos_at _ _)
end

end Autocorr.AggI

end

end
-- ==== Proof.Rolls.lean ====
/- What the aggregation leaves in a block of the result: the sum over the eight shifts, in their order. -/
module

public import proofs.«01_k».proof.Proof.LaunchI
public import Idealize.ShloMosaic.Lib.VecWindow

@[expose] public section

set_option maxRecDepth 16384

noncomputable section

namespace Autocorr.AggI

open Cert.KernelIdeal Cert.KernelIdeal.Gen Idealize.ShloMosaic Idealize.ShloMosaic.TcCoe

variable {F : FTy → Type} [FloatOps F] [Named F]

/-- 512 rows of a slot's block, rolled to start at the row that the rounding down left over. -/
def rollOf (st : BitVec 32) (Y : Vec F S1x520x768 .f32) : FVec F S512x768 .f32 :=
  extractStridedSlice S512x768 ![0, 0]
    (dynamicRotate 0 (Scalar.subi 520#32 (Scalar.subi st (staW st))) none (shapeCast S520x768 Y shapeCasts_S1x520x768_S520x768) rotates_S520x768_d0)
    slices_S520x768_o0_0_S512x768
/-- The first shift's rows by its weight. -/
def firstT (w : Elt F .f32) (st : BitVec 32) (Y : Vec F S1x520x768 .f32) : FVec F S1x512x768 .f32 :=
  shapeCast S1x512x768 (mulf (broadcast S512x768 w) (rollOf st Y)) shapeCasts_S512x768_S1x512x768
/-- A later shift's added to what is there. -/
def nextT (w : Elt F .f32) (st : BitVec 32) (Y : Vec F S1x520x768 .f32) (A : Vec F S1x512x768 .f32) : FVec F S1x512x768 .f32 :=
  shapeCast S1x512x768 (addf (shapeCast S512x768 A shapeCasts_S1x512x768_S512x768) (mulf (broadcast S512x768 w) (rollOf st Y))) shapeCasts_S512x768_S1x512x768

/-- A slot's block as it is loaded. -/
def ld0 (X : S520x768.Idx → Elt F .f32) : Vec F S1x520x768 .f32 :=
  View.readAt (Elt F) (View.whole cc1_scratch0) (Rect.unit (s := S2x520x768) ![0, 0, 0] S1x520x768.size inb_S2x520x768_S1x520x768_0_0_0).toLoadRect ((rslot 0).view.rep X)
def ld1 (X : S520x768.Idx → Elt F .f32) : Vec F S1x520x768 .f32 :=
  View.readAt (Elt F) (View.whole cc1_scratch0) (Rect.unit (s := S2x520x768) ![1, 0, 0] S1x520x768.size inb_S2x520x768_S1x520x768_1_0_0).toLoadRect ((rslot 1).view.rep X)
theorem ld0_eq (X : S520x768.Idx → Elt F .f32) : shapeCast S520x768 (ld0 X) shapeCasts_S1x520x768_S520x768 = X :=
  (rfl : _ = (rslot 0).view.read (Elt F) ((rslot 0).view.rep X)).trans (View.read_rep _ _)
theorem ld1_eq (X : S520x768.Idx → Elt F .f32) : shapeCast S520x768 (ld1 X) shapeCasts_S1x520x768_S520x768 = X :=
  (rfl : _ = (rslot 1).view.read (Elt F) ((rslot 1).view.rep X)).trans (View.read_rep _ _)

section
variable (c : Dev nD) (i : grid1.Coords)
  (arg2 : Memref sig .tc .vmem S2x2x64x64 .f32) (harg2 : arg2.IsWhole) (arg3 : Memref sig .tc .vmem S64x64 .f32) (harg3 : arg3.IsWhole)
  (arg4 : Memref sig .tc .vmem S64x64 .f32) (harg4 : arg4.IsWhole) (arg5 : Memref sig .tc .vmem S64x64 .f32) (harg5 : arg5.IsWhole)
  (arg6 : Memref sig .tc .vmem S64x64 .f32) (harg6 : arg6.IsWhole) (arg9 : Memref sig .tc .vmem S1x512x768 .f32) (harg9 : arg9.IsWhole)
  (V : Buf (Elt F) ((c : Thread nD τ).loc main_call0_v26)) (W : Buf (Elt F) ((c : Thread nD τ).loc main_call0_v29))
  (gi : Buf (Elt F) (idxM.view.loc (c : Thread nD τ))) (gw : Buf (Elt F) (wtM.view.loc (c : Thread nD τ)))

/-- The word of the shifts at `k`, the word of the weights at `(a, k)`. -/
def sv (k : Fin 8) : BitVec 32 := gi (ix1 k)
def sw (a : Fin 2) (k : Fin 8) : Elt F .f32 := gw (ix2 a k)

theorem sv_at (k : Fin 8) (h : ∀ a, (![k.val] : Fin 1 → ℕ) a + S1.size a ≤ S8.size a) :
    View.readAt (Elt F) idxM.view (Rect.unit (s := S8) ![k.val] S1.size h).toLoadRect gi (Shape.Idx.first (numel1_S1.symm ▸ Nat.one_pos)) = sv c gi k :=
  congrArg gi (funext fun a => by fin_cases a; rfl)
theorem grid_lt : (i 0).val < 2 := (i 0).isLt
theorem sw_at (k : Fin 8) (h) :
    View.readAt (Elt F) wtM.view (Rect.unit (s := S2x8) ![(Scalar.indexCast (BitVec.ofNat 32 (i 0).val) : Index).toNat, k.val] S1x1.size h).toLoadRect gw
      (Shape.Idx.first (numel1_S1x1.symm ▸ Nat.one_pos)) = sw c gw ⟨(i 0).val, grid_lt i⟩ k :=
  congrArg gw (funext fun a => by
    fin_cases a
    · refine Fin.ext ?_
      show (BitVec.ofNat 32 (i 0).val).toNat + 1 * 0 = (i 0).val
      rw [BitVec.toNat_ofNat, Nat.mod_eq_of_lt (lt_trans (grid_lt i) (by norm_num))]
      omega
    · rfl)

/-- The `k`-th shift's weight, first row and block. -/
abbrev swI (k : Fin 8) : Elt F .f32 := sw c gw ⟨(i 0).val, grid_lt i⟩ k
abbrev svI (k : Fin 8) : BitVec 32 := stI i (sv c gi k)
abbrev rwI (k : Fin 8) : S520x768.Idx → Elt F .f32 := rowsI c i (sv c gi k) V W

/-- The sum up to each shift. -/
def acc0 := firstT (swI c i gw 0) (svI c i gi 0) (ld0 (rwI c i V W gi 0))
def acc1 := nextT (swI c i gw 1) (svI c i gi 1) (ld1 (rwI c i V W gi 1)) (acc0 c i V W gi gw)
def acc2 := nextT (swI c i gw 2) (svI c i gi 2) (ld0 (rwI c i V W gi 2)) (acc1 c i V W gi gw)
def acc3 := nextT (swI c i gw 3) (svI c i gi 3) (ld1 (rwI c i V W gi 3)) (acc2 c i V W gi gw)
def acc4 := nextT (swI c i gw 4) (svI c i gi 4) (ld0 (rwI c i V W gi 4)) (acc3 c i V W gi gw)
def acc5 := nextT (swI c i gw 5) (svI c i gi 5) (ld1 (rwI c i V W gi 5)) (acc4 c i V W gi gw)
def acc6 := nextT (swI c i gw 6) (svI c i gi 6) (ld0 (rwI c i V W gi 6)) (acc5 c i V W gi gw)
def acc7 := nextT (swI c i gw 7) (svI c i gi 7) (ld1 (rwI c i V W gi 7)) (acc6 c i V W gi gw)

theorem v99_eq : bodyRun.sl.v99 c i V W gi gw = acc0 c i V W gi gw := by
  unfold acc0 swI svI rwI
  rw [← sv_at c gi 0 inb_S8_S1_0, ← sw_at c i gw 0 (k1_off6_inb i)]
  rfl

theorem v169_eq : bodyRun.sl.v169 c i arg9 V W gi gw = acc1 c i V W gi gw := by
  have e : bodyRun.sl.v162 c i arg9 V W gi gw = acc0 c i V W gi gw := by
    rw [← v99_eq]
    exact View.readCov_full arg9.view _ _ _ _
  unfold acc1 swI svI rwI
  rw [← sv_at c gi 1 inb_S8_S1_1, ← sw_at c i gw 1 (k1_off10_inb i), ← e]
  rfl

theorem v239_eq : bodyRun.sl.v239 c i arg9 V W gi gw = acc2 c i V W gi gw := by
  have e : bodyRun.sl.v232 c i arg9 V W gi gw = acc1 c i V W gi gw := by
    rw [← v169_eq c i arg9 V W gi gw]
    exact View.readCov_full arg9.view _ _ _ _
  unfold acc2 swI svI rwI
  rw [← sv_at c gi 2 inb_S8_S1_2, ← sw_at c i gw 2 (k1_off14_inb i), ← e]
  rfl

theorem v309_eq : bodyRun.sl.v309 c i arg9 V W gi gw = acc3 c i V W gi gw := by
  have e : bodyRun.sl.v302 c i arg9 V W gi gw = acc2 c i V W gi gw := by
    rw [← v239_eq c i arg9 V W gi gw]
    exact View.readCov_full arg9.view _ _ _ _
  unfold acc3 swI svI rwI
  rw [← sv_at c gi 3 inb_S8_S1_3, ← sw_at c i gw 3 (k1_off18_inb i), ← e]
  rfl

theorem v379_eq : bodyRun.sl.v379 c i arg9 V W gi gw = acc4 c i V W gi gw := by
  have e : bodyRun.sl.v372 c i arg9 V W gi gw = acc3 c i V W gi gw := by
    rw [← v309_eq c i arg9 V W gi gw]
    exact View.readCov_full arg9.view _ _ _ _
  unfold acc4 swI svI rwI
  rw [← sv_at c gi 4 inb_S8_S1_4, ← sw_at c i gw 4 (k1_off22_inb i), ← e]
  rfl

theorem v449_eq : bodyRun.sl.v449 c i arg9 V W gi gw = acc5 c i V W gi gw := by
  have e : bodyRun.sl.v442 c i arg9 V W gi gw = acc4 c i V W gi gw := by
    rw [← v379_eq c i arg9 V W gi gw]
    exact View.readCov_full arg9.view _ _ _ _
  unfold acc5 swI svI rwI
  rw [← sv_at c gi 5 inb_S8_S1_5, ← sw_at c i gw 5 (k1_off26_inb i), ← e]
  rfl

theorem v519_eq : bodyRun.sl.v519 c i arg9 V W gi gw = acc6 c i V W gi gw := by
  have e : bodyRun.sl.v512 c i arg9 V W gi gw = acc5 c i V W gi gw := by
    rw [← v449_eq c i arg9 V W gi gw]
    exact View.readCov_full arg9.view _ _ _ _
  unfold acc6 swI svI rwI
  rw [← sv_at c gi 6 inb_S8_S1_6, ← sw_at c i gw 6 (k1_off30_inb i), ← e]
  rfl

theorem body_pieces (h) : ∃ L, (bodyRun (F := F) c i arg2 harg2 arg3 harg3 arg4 harg4 arg5 harg5 arg6 harg6 arg9 harg9 V W gi gw h).1
    = ⟨Rect.unit (s := S1x512x768) ![0, 0, 0] S1x512x768.size inb_S1x512x768_S1x512x768_0_0_0, acc7 c i V W gi gw⟩ :: L := by
  have e : bodyRun.sl.v555 c i arg9 V W gi gw = acc6 c i V W gi gw := by
    rw [← v519_eq c i arg9 V W gi gw]
    exact View.readCov_full arg9.view _ _ _ _
  unfold acc7 swI svI rwI
  rw [← sv_at c gi 7 inb_S8_S1_7, ← sw_at c i gw 7 (k1_off31_inb i), ← e]
  exact ⟨_, rfl⟩
/-- What one grid point leaves in its block. -/
theorem body_out (h) (f) : arg9.view.read (Elt F) (arg9.view.writes (Elt F) f
    (bodyRun (F := F) c i arg2 harg2 arg3 harg3 arg4 harg4 arg5 harg5 arg6 harg6 arg9 harg9 V W gi gw h).1) = acc7 c i V W gi gw := by
  obtain ⟨L, e⟩ := body_pieces c i arg2 harg2 arg3 harg3 arg4 harg4 arg5 harg5 arg6 harg6 arg9 harg9 V W gi gw h
  rw [e]
  exact View.read_writes_full arg9.view f _ _ _
end

end Autocorr.AggI

end

end
-- ==== Proof.Rows2.lean ====
/- Where each row of a block of the result comes from. -/
module

public import proofs.«01_k».proof.Proof.Rolls
public import proofs.«01_k».proof.Proof.RunI
public import proofs.«01_k».proof.Proof.Inverse
public import Idealize.ShloMosaic.Lib.StableHlo.ReadAt

@[expose] public section

set_option maxRecDepth 16384

noncomputable section

namespace Autocorr.AggI

open Cert.KernelIdeal Cert.KernelIdeal.Gen Idealize.ShloMosaic Idealize.ShloMosaic.TcCoe

/-- The values with heads and channels on one axis. -/
def flat (u : S2x4096x12x64.Idx → EReal) : S2x4096x768.Idx → EReal :=
  fun j => u (ix4 (j 0) (j 1) (⟨(j 2).val / 64, by have : (j 2).val < 768 := (j 2).isLt; omega⟩ : Fin 12) (⟨(j 2).val % 64, by omega⟩ : Fin 64))
/-- The copy that runs around the end. -/
def ring (v : S2x4096x768.Idx → EReal) : S2x1040x768.Idx → EReal :=
  fun j => v (ix3 (j 0) (⟨(3576 + (j 1).val) % 4096, by omega⟩ : Fin 4096) (j 2))

section
variable (U : Valuation τ sig (Elt Ideal)) (u : S2x4096x12x64.Idx → EReal) (h : U main_arg2 = u)

include h in
theorem after_v26 : StableHlo.after hostOps1 U main_call0_v26 = flat u := by
  funext j
  idx_vars j
  after_reads_at
  pointwise [flat, h]

include h in
theorem after_v29 : StableHlo.after hostOps1 U main_call0_v29 = ring (flat u) := by
  funext j
  idx_vars j
  after_reads_at
  pointwise [flat, ring, h]
  split
  · after_reads_at
    pointwise [h]
    have e : (⟨3576 + j1.val, by omega⟩ : Fin 4096) = ⟨(3576 + j1.val) % 4096, by omega⟩ := Fin.ext (by show 3576 + j1.val = (3576 + j1.val) % 4096; omega)
    exact congrArg u (congrArg (fun t : Fin 4096 => ix4 j0 t _ _) e)
  · after_reads_at
    pointwise [h]
    have e : (⟨j1.val - 520, by omega⟩ : Fin 4096) = ⟨(3576 + j1.val) % 4096, by omega⟩ := Fin.ext (by show j1.val - 520 = (3576 + j1.val) % 4096; omega)
    exact congrArg u (congrArg (fun t : Fin 4096 => ix4 j0 t _ _) e)
end

section
variable (m : (ℓ : Loc nD τ sig) → Buf (Elt Ideal) ℓ) (c : Dev nD)

theorem W2_arg2 : W2 m c main_arg2 = m ((c : Thread nD τ).loc main_arg2) :=
  (W2_of m c main_arg2 (by decide)).trans (V1_of m c main_arg2 (by decide))
theorem v26_eq (u : S2x4096x12x64.Idx → EReal) (h : m ((c : Thread nD τ).loc main_arg2) = u) : V (fun c b => W3 m c b) c main_call0_v26 = flat u :=
  after_v26 (W2 m c) u ((W2_arg2 m c).trans h)
theorem v29_eq (u : S2x4096x12x64.Idx → EReal) (h : m ((c : Thread nD τ).loc main_arg2) = u) : V (fun c b => W3 m c b) c main_call0_v29 = ring (flat u) :=
  after_v29 (W2 m c) u ((W2_arg2 m c).trans h)
end

section
variable (c : Dev nD) (i : grid1.Coords)

theorem vRows_at (v : S2x4096x768.Idx → EReal) (off h) (r : Fin 520) (D : Fin 768) :
    (vRows off h).view.read (Elt Ideal) v (ix2 r D) = v ((Rect.unit (s := S2x4096x768) off S1x520x768.size h).idx (ix3 (0 : Fin 1) r D)) := by
  have e : (vRows off h).view.read (Elt Ideal) v = shapeCast S520x768 (fun y : S1x520x768.Idx => v ((Rect.unit (s := S2x4096x768) off S1x520x768.size h).idx y)) shapeCasts_S1x520x768_S520x768 := rfl
  rw [e]
  pointwise

theorem wRows_at (v : S2x1040x768.Idx → EReal) (off h) (r : Fin 520) (D : Fin 768) :
    (wRows off h).view.read (Elt Ideal) v (ix2 r D) = v ((Rect.unit (s := S2x1040x768) off S1x520x768.size h).idx (ix3 (0 : Fin 1) r D)) := by
  have e : (wRows off h).view.read (Elt Ideal) v = shapeCast S520x768 (fun y : S1x520x768.Idx => v ((Rect.unit (s := S2x1040x768) off S1x520x768.size h).idx y)) shapeCasts_S1x520x768_S520x768 := rfl
  rw [e]
  pointwise

theorem grid_lt1 : (i 1).val < 8 := (i 1).isLt

/-- The rows a fetch brings start, around the end, at the first row rounded down. -/
theorem rows_at (v : BitVec 32) (hv : v.toNat ≤ 4096) (X : S2x4096x768.Idx → EReal) (r : Fin 520) (D : Fin 768) :
    rowsI (F := Ideal) c i v X (ring X) (ix2 r D)
      = X (ix3 (⟨(i 0).val, grid_lt i⟩ : Fin 2) (⟨((512 * (i 1).val + v.toNat) % 4096 / 8 * 8 + r.val) % 4096, by omega⟩ : Fin 4096) D) := by
  have hi0 : (BitVec.ofNat 32 (i 0).val).toNat = (i 0).val := by
    rw [BitVec.toNat_ofNat, Nat.mod_eq_of_lt (lt_trans (grid_lt i) (by norm_num))]
  have hst := stI_nat i v hv
  have hlt : (stI i v).toNat < 4096 := by rw [hst]; omega
  have hw := words_all ⟨(stI i v).toNat, hlt⟩
  rw [show BitVec.ofNat 32 (⟨(stI i v).toNat, hlt⟩ : Fin 4096).val = stI i v from by simp] at hw
  obtain ⟨h1, h2, -, h4⟩ := hw
  dsimp only at h1 h2 h4
  have hr := r.isLt
  have hi := grid_lt i
  have hD := D.isLt
  by_cases hle : (stI i v).toNat / 8 * 8 ≤ 3576
  · have hb : ∀ a, oV i v a + S1x520x768.size a ≤ S2x4096x768.size a := by
      intro a
      fin_cases a
      · show (BitVec.ofNat 32 (i 0).val).toNat + 1 ≤ 2; omega
      · show (staW (stI i v)).toNat + 520 ≤ 4096; omega
      · show 0 + 768 ≤ 768; omega
    have e : rowsI (F := Ideal) c i v X (ring X) = (vRows (oV i v) hb).view.read (Elt Ideal) X := dif_pos ⟨h2.mpr hle, hb⟩
    rw [e, vRows_at]
    refine congrArg X (funext fun a => ?_)
    fin_cases a
    · exact Fin.ext (by show (BitVec.ofNat 32 (i 0).val).toNat + 1 * 0 = (i 0).val; omega)
    · exact Fin.ext (by show (staW (stI i v)).toNat + 1 * r.val = ((512 * (i 1).val + v.toNat) % 4096 / 8 * 8 + r.val) % 4096; rw [← hst]; omega)
    · exact Fin.ext (by show 0 + 1 * D.val = D.val; omega)
  · have h4' := h4 (by omega)
    have hb : ∀ a, oW i v a + S1x520x768.size a ≤ S2x1040x768.size a := by
      intro a
      fin_cases a
      · show (BitVec.ofNat 32 (i 0).val).toNat + 1 ≤ 2; omega
      · show (ringW (stI i v)).toNat + 520 ≤ 1040; omega
      · show 0 + 768 ≤ 768; omega
    have e : rowsI (F := Ideal) c i v X (ring X) = (wRows (oW i v) hb).view.read (Elt Ideal) (ring X) :=
      (dif_neg fun hh => hle (h2.mp hh.1)).trans (dif_pos hb)
    rw [e, wRows_at]
    refine congrArg X (funext fun a => ?_)
    fin_cases a
    · exact Fin.ext (by show (BitVec.ofNat 32 (i 0).val).toNat + 1 * 0 = (i 0).val; omega)
    · exact Fin.ext (by show (3576 + ((ringW (stI i v)).toNat + 1 * r.val)) % 4096 = ((512 * (i 1).val + v.toNat) % 4096 / 8 * 8 + r.val) % 4096; rw [← hst]; omega)
    · exact Fin.ext (by show 0 + 1 * D.val = D.val; omega)

/-- The number of rows to roll by. -/
theorem back_all : ∀ n : Fin 4096, (Scalar.subi 520#32 (Scalar.subi (BitVec.ofNat 32 n.val) (staW (BitVec.ofNat 32 n.val)))).toNat = 520 - n.val % 8 := by
  decide +kernel

/-- A rolled row is the row of the values that far on, around the end. -/
theorem roll_at (v : BitVec 32) (hv : v.toNat ≤ 4096) (X : S2x4096x768.Idx → EReal) (Y : Vec Ideal S1x520x768 .f32)
    (hY : shapeCast S520x768 Y shapeCasts_S1x520x768_S520x768 = rowsI (F := Ideal) c i v X (ring X)) (r : Fin 512) (D : Fin 768) :
    rollOf (F := Ideal) (stI i v) Y (ix2 r D)
      = X (ix3 (⟨(i 0).val, grid_lt i⟩ : Fin 2) (⟨(512 * (i 1).val + r.val + v.toNat) % 4096, by omega⟩ : Fin 4096) D) := by
  unfold rollOf
  rw [hY]
  have hst := stI_nat i v hv
  have hlt : (stI i v).toNat < 4096 := by rw [hst]; omega
  have hb := back_all ⟨(stI i v).toNat, hlt⟩
  rw [show BitVec.ofNat 32 (⟨(stI i v).toNat, hlt⟩ : Fin 4096).val = stI i v from by simp] at hb
  dsimp only at hb
  have hr := r.isLt
  pointwise
  have e : (⟨(r.val + 520 - (Scalar.subi (520#32) (Scalar.subi (stI i v) (staW (stI i v)))).toNat % 520) % 520, by omega⟩ : Fin 520)
      = ⟨r.val + (stI i v).toNat % 8, by omega⟩ := Fin.ext (by
    show (r.val + 520 - (Scalar.subi (520#32) (Scalar.subi (stI i v) (staW (stI i v)))).toNat % 520) % 520 = r.val + (stI i v).toNat % 8
    rw [hb]; omega)
  refine (congrArg (fun t : Fin 520 => rowsI (F := Ideal) c i v X (ring X) (ix2 t D)) e).trans ?_
  rw [rows_at c i v hv]
  refine congrArg X (funext fun a => ?_)
  fin_cases a
  · rfl
  · exact Fin.ext (by
      show ((512 * (i 1).val + v.toNat) % 4096 / 8 * 8 + (r.val + (stI i v).toNat % 8)) % 4096 = (512 * (i 1).val + r.val + v.toNat) % 4096
      rw [hst]; omega)
  · rfl

end

end Autocorr.AggI

end

end
-- ==== Proof.Outs2.lean ====
/- The whole result of the aggregation: the weighted sum of the shifted values. -/
module

public import proofs.«01_k».proof.Proof.Chosen
public import proofs.«01_k».proof.Proof.Rows2

@[expose] public section

set_option maxRecDepth 16384

noncomputable section

namespace Autocorr.AggI

open Cert.KernelIdeal Cert.KernelIdeal.Gen Idealize.ShloMosaic Idealize.ShloMosaic.TcCoe
open scoped BigOperators

/-- The values `v` at `n` rows after row `t` of batch `b`, around the end. -/
def ahead (v : S2x4096x768.Idx → EReal) (b : Fin 2) (t n : ℕ) (D : Fin 768) : EReal := v (ix3 b (⟨(t + n) % 4096, by omega⟩ : Fin 4096) D)

/-- The result: at each row the eight rows ahead of it by the chosen shifts, weighted. -/
def agg (S : Fin 2 → Fin 2 → Fin 4096 → ℝ) (u : S2x4096x12x64.Idx → EReal) : S2x4096x768.Idx → EReal :=
  fun j => ∑ k : Fin 8, weight S (j 0) k * ahead (flat u) (j 0) (j 1).val (shift S k).val (j 2)

theorem firstT_at (w : EReal) (st : BitVec 32) (Y : Vec Ideal S1x520x768 .f32) (r : Fin 512) (D : Fin 768) :
    firstT (F := Ideal) w st Y (ix3 (0 : Fin 1) r D) = w * rollOf (F := Ideal) st Y (ix2 r D) := by
  unfold firstT
  generalize rollOf (F := Ideal) st Y = R
  pointwise
theorem nextT_at (w : EReal) (st : BitVec 32) (Y : Vec Ideal S1x520x768 .f32) (A : Vec Ideal S1x512x768 .f32) (r : Fin 512) (D : Fin 768) :
    nextT (F := Ideal) w st Y A (ix3 (0 : Fin 1) r D) = A (ix3 (0 : Fin 1) r D) + w * rollOf (F := Ideal) st Y (ix2 r D) := by
  unfold nextT
  generalize rollOf (F := Ideal) st Y = R
  pointwise

section
variable (m : (ℓ : Loc nD τ sig) → Buf (Elt Ideal) ℓ) (c : Dev nD) (S : Fin 2 → Fin 2 → Fin 4096 → ℝ) (h : spectrumOut m c = spec S)

include h in
theorem term_at (i : grid1.Coords) (X : S2x4096x768.Idx → EReal) (Y : Vec Ideal S1x520x768 .f32) (k : Fin 8)
    (hY : shapeCast S520x768 Y shapeCasts_S1x520x768_S520x768 = rwI (F := Ideal) c i X (ring X) (gI (fun c b => W3 m c b) c) k) (r : Fin 512) (D : Fin 768) :
    (swI (F := Ideal) c i (gW (fun c b => W3 m c b) c) k : EReal) * rollOf (F := Ideal) (svI (F := Ideal) c i (gI (fun c b => W3 m c b) c) k) Y (ix2 r D)
      = weight S ⟨(i 0).val, grid_lt i⟩ k * ahead X ⟨(i 0).val, grid_lt i⟩ (512 * (i 1).val + r.val) (shift S k).val D := by
  have e1 : sv (F := Ideal) c (gI (fun c b => W3 m c b) c) k = BitVec.ofNat 32 (shift S k).val := gI_at m c S h k
  have e2 : (swI (F := Ideal) c i (gW (fun c b => W3 m c b) c) k : EReal) = weight S ⟨(i 0).val, grid_lt i⟩ k := gW_at m c S h _ k
  have hl := (shift S k).isLt
  have e3 : (BitVec.ofNat 32 (shift S k).val).toNat = (shift S k).val := by rw [BitVec.toNat_ofNat]; exact Nat.mod_eq_of_lt (by omega)
  unfold svI
  unfold rwI at hY
  rw [e1] at hY ⊢
  rw [e2, roll_at c i _ (by rw [e3]; omega) X Y hY]
  refine congrArg _ (congrArg X ?_)
  refine congrArg (fun t : Fin 4096 => ix3 _ t D) (Fin.ext ?_)
  show (512 * (i 1).val + r.val + (BitVec.ofNat 32 (shift S k).val).toNat) % 4096 = _
  rw [e3]

include h in
theorem acc7_at (i : grid1.Coords) (u : S2x4096x12x64.Idx → EReal) (r : Fin 512) (D : Fin 768) :
    acc7 (F := Ideal) c i (flat u) (ring (flat u)) (gI (fun c b => W3 m c b) c) (gW (fun c b => W3 m c b) c) (ix3 (0 : Fin 1) r D)
      = ∑ k : Fin 8, weight S ⟨(i 0).val, grid_lt i⟩ k * ahead (flat u) ⟨(i 0).val, grid_lt i⟩ (512 * (i 1).val + r.val) (shift S k).val D := by
  have t0 := fun k => term_at m c S h i (flat u) (ld0 (F := Ideal) (rwI (F := Ideal) c i (flat u) (ring (flat u)) (gI (fun c b => W3 m c b) c) k)) k (ld0_eq _) r D
  have t1 := fun k => term_at m c S h i (flat u) (ld1 (F := Ideal) (rwI (F := Ideal) c i (flat u) (ring (flat u)) (gI (fun c b => W3 m c b) c) k)) k (ld1_eq _) r D
  rw [Fin.sum_univ_eight]
  unfold acc7; rw [nextT_at, t1]
  unfold acc6; rw [nextT_at, t0]
  unfold acc5; rw [nextT_at, t1]
  unfold acc4; rw [nextT_at, t0]
  unfold acc3; rw [nextT_at, t1]
  unfold acc2; rw [nextT_at, t0]
  unfold acc1; rw [nextT_at, t1]
  unfold acc0; rw [firstT_at, t0]

theorem idx5 : ∀ t, win1_5.index t = ![((grid1.coords t) 0).val, ((grid1.coords t) 1).val, 0] := by decide +kernel

theorem out_eq (u : S2x4096x12x64.Idx → EReal) (hu : m ((c : Thread nD τ).loc main_arg2) = u) (t : Fin cfg1.N) :
    outAt (fun c b => W3 m c b) c t = acc7 (F := Ideal) c (grid1.coords t) (flat u) (ring (flat u)) (gI (fun c b => W3 m c b) c) (gW (fun c b => W3 m c b) c) := by
  rw [← v29_eq m c u hu, ← v26_eq m c u hu]
  exact body_out _ _ _ _ _ _ _ _ _ _ _ _ _ _ _ _ _ _ _ _

include h in
theorem final (u : S2x4096x12x64.Idx → EReal) (hu : m ((c : Thread nD τ).loc main_arg2) = u) :
    (dats (fun c b => W3 m c b) 0 c).arrAt 5 cfg1.N = agg S u := by
  refine (dats (fun c b => W3 m c b) 0 c).arrAt_eq_of_covers 5 _ (by decide +kernel) fun t hf y => ?_
  have h0 := grid_lt (grid1.coords t)
  have h1 : ((grid1.coords t) 1).val < 8 := ((grid1.coords t) 1).isLt
  blk_simp
  rw [after_w5, out_eq m c u hu]
  have e : ∀ y : S1x512x768.Idx, acc7 (F := Ideal) c (grid1.coords t) (flat u) (ring (flat u)) (gI (fun c b => W3 m c b) c) (gW (fun c b => W3 m c b) c) y
      = agg S u (ix3 (⟨((grid1.coords t) 0).val, h0⟩ : Fin 2) (⟨512 * ((grid1.coords t) 1).val + (y 1).val, by have : (y 1).val < 512 := (y 1).isLt; omega⟩ : Fin 4096) (y 2)) := by
    intro y
    have e0 : y = ix3 (0 : Fin 1) (y 1) (y 2) := funext fun a => by
      fin_cases a
      · exact Fin.ext (by have : (y 0).val < 1 := (y 0).isLt; show (y 0).val = 0; omega)
      · rfl
      · rfl
    refine (congrArg _ e0).trans ((acc7_at m c S h _ u (y 1) (y 2)).trans rfl)
  refine (e y).trans (congrArg (agg S u) ?_)
  funext a
  fin_cases a <;> apply Fin.ext <;> blk_simp [idx5 t]
  all_goals first | rfl | (simp; try omega)
end

end Autocorr.AggI

end

end
-- ==== Proof.Result.lean ====
/- The whole kernel's result: the weighted sum of the shifted values, by batch, time, head and channel. -/
module

public import proofs.«01_k».proof.Proof.Outs2
public import proofs.«01_k».proof.Proof.Outs

@[expose] public section

set_option maxRecDepth 16384

noncomputable section

namespace Autocorr.AggI

open Cert.KernelIdeal Cert.KernelIdeal.Gen Idealize.ShloMosaic Idealize.ShloMosaic.TcCoe
open scoped BigOperators

/-- At each row the eight rows ahead of it by the chosen shifts, weighted. -/
def result (S : Fin 2 → Fin 2 → Fin 4096 → ℝ) (u : S2x4096x12x64.Idx → EReal) : S2x4096x12x64.Idx → EReal :=
  fun j => ∑ k : Fin 8, weight S (j 0) k * u (ix4 (j 0) (⟨((j 1).val + (shift S k).val) % 4096, by omega⟩ : Fin 4096) (j 2) (j 3))

theorem agg_at (S : Fin 2 → Fin 2 → Fin 4096 → ℝ) (u : S2x4096x12x64.Idx → EReal) (b : Fin 2) (t : Fin 4096) (h : Fin 12) (e : Fin 64) (hD : h.val * 64 + e.val < 768) :
    agg S u (ix3 b t (⟨h.val * 64 + e.val, hD⟩ : Fin 768)) = result S u (ix4 b t h e) := by
  refine Finset.sum_congr rfl fun k _ => congrArg _ ?_
  have h1 : (⟨(h.val * 64 + e.val) / 64, by omega⟩ : Fin 12) = h := Fin.ext (by show (h.val * 64 + e.val) / 64 = h.val; omega)
  have h2 : (⟨(h.val * 64 + e.val) % 64, by omega⟩ : Fin 64) = e := Fin.ext (by show (h.val * 64 + e.val) % 64 = e.val; omega)
  show u (ix4 b _ (⟨(h.val * 64 + e.val) / 64, by omega⟩ : Fin 12) (⟨(h.val * 64 + e.val) % 64, by omega⟩ : Fin 64)) = _
  rw [h1, h2]
  rfl

theorem after_v0 (U : Valuation τ sig (Elt Ideal)) (x : S2x4096x768.Idx → EReal) (hx : U main_call0_v30 = x) (b : Fin 2) (t : Fin 4096) (h : Fin 12) (e : Fin 64) :
    StableHlo.after hostOps2 U main_v0 (ix4 b t h e) = x (ix3 b t (⟨h.val * 64 + e.val, by omega⟩ : Fin 768)) := by
  after_reads_at
  pointwise [hx]

variable (m : (ℓ : Loc nD τ sig) → Buf (Elt Ideal) ℓ) (c : Dev nD)

/-- The buffer the kernel returns, from a finite cross-spectrum. -/
theorem result_eq (S : Fin 2 → Fin 2 → Fin 4096 → ℝ) (h : spectrumOut m c = spec S) (u : S2x4096x12x64.Idx → EReal) (hu : m ((c : Thread nD τ).loc main_arg2) = u) :
    W5 m c main_v0 = result S u := by
  have e : W4 m c main_call0_v30 = agg S u :=
    (Function.update_self (β := fun b : DevRef τ sig => Buf (Elt Ideal) ((c, b) : Loc nD τ sig)) (Proc.devRef .tc main_call0_v30) (sumOut m c) (W3 m c)).trans (final m c S h u hu)
  funext j
  idx_vars j
  exact (after_v0 (W4 m c) _ e j0 j1 j2 j3).trans (agg_at S u j0 j1 j2 j3 _)

/-- The spectrum the first call leaves, of finite queries and keys. -/
theorem spectrum_eq (Q K : Fin 2 → Fin 4096 → Fin 12 → Fin 64 → ℝ) (hQ : m ((c : Thread nD τ).loc main_arg0) = arr Q) (hK : m ((c : Thread nD τ).loc main_arg1) = arr K) :
    spectrumOut m c = Autocorr.spec Q K := Autocorr.final Q K m c hQ hK

end Autocorr.AggI

end
-- ==== Proof.Ref.lean ====
/- What the reference computes: the mean correlation by the transforms' definitions, its eight greatest entries, their
   weights, and the shifted values' weighted sum. -/
module

public import proofs.«01_k».proof.Proof.Result
public import proofs.«01_k».proof.Proof.Outs
public import proofs.«01_k».proof.Proof.Gen.ReferenceIdeal.Run
public import Idealize.ShloMosaic.Lib.Routing.Words

@[expose] public section

set_option maxRecDepth 16384

noncomputable section

namespace Autocorr.Ref

open Cert.ReferenceIdeal Cert.ReferenceIdeal.Gen Idealize.ShloMosaic Idealize.ShloMosaic.TcCoe
open scoped BigOperators
open Autocorr.AggI (mu gmu cor nth byPos soft8 top8)

/-! ## The reference's stages -/

def rCos : FVec Ideal S4096x4096 .f32 := Host.cos (mulf (sitofp .f32 (muli (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (Host.divf (mulf (constant S_ .f32 0x40000000#32) (Host.acos (constant S_ .f32 0xBF800000#32))) (constant S_ .f32 0x45800000#32))))
def rSin : FVec Ideal S4096x4096 .f32 := Host.sin (mulf (sitofp .f32 (muli (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (Host.divf (mulf (constant S_ .f32 0x40000000#32) (Host.acos (constant S_ .f32 0xBF800000#32))) (constant S_ .f32 0x45800000#32))))
/-- The parts of the transform over time. -/
def rFtR (x : FVec Ideal S2x4096x12x64 .f32) : FVec Ideal S2x12x64x4096 .f32 := Host.dotGeneral dot_S2x4096x12x64_S4096x4096_S2x12x64x4096_1_0_023_1_n_n none x rCos
def rFtI (x : FVec Ideal S2x4096x12x64 .f32) : FVec Ideal S2x12x64x4096 .f32 := Host.negf (Host.dotGeneral dot_S2x4096x12x64_S4096x4096_S2x12x64x4096_1_0_023_1_n_n none x rSin)
/-- The parts of a product with a conjugate. -/
def rPrR (a b c d : FVec Ideal S2x12x64x4096 .f32) : FVec Ideal S2x12x64x4096 .f32 := addf (mulf a c) (mulf b d)
def rPrI (a b c d : FVec Ideal S2x12x64x4096 .f32) : FVec Ideal S2x12x64x4096 .f32 := subf (mulf b c) (mulf a d)
/-- The real part of the transform back. -/
def rCor (p q : FVec Ideal S2x12x64x4096 .f32) : FVec Ideal S2x12x64x4096 .f32 :=
  Host.divf (subf (Host.dotGeneral dot_S2x12x64x4096_S4096x4096_S2x12x64x4096_3_0_012_1_n_n none p rCos) (Host.dotGeneral dot_S2x12x64x4096_S4096x4096_S2x12x64x4096_3_0_012_1_n_n none q rSin)) (broadcastInDim S2x12x64x4096 ![] bcast_S_S2x12x64x4096 (constant S_ .f32 0x45800000#32))
/-- The means over the heads, then over the channels. -/
def rHeads (x : FVec Ideal S2x12x64x4096 .f32) : FVec Ideal S2x64x4096 .f32 :=
  Host.divf (Host.reduceAdd x (constant S_ .f32 0x00000000#32) reducesTo_S2x12x64x4096_S2x64x4096_d1 h_S_) (broadcastInDim S2x64x4096 ![] bcast_S_S2x64x4096 (constant S_ .f32 0x41400000#32))
def rChannels (x : FVec Ideal S2x64x4096 .f32) : FVec Ideal S2x4096 .f32 :=
  Host.divf (Host.reduceAdd x (constant S_ .f32 0x00000000#32) reducesTo_S2x64x4096_S2x4096_d1 h_S_) (broadcastInDim S2x4096 ![] bcast_S_S2x4096 (constant S_ .f32 0x42800000#32))
def rMean (x y : FVec Ideal S2x4096x12x64 .f32) : FVec Ideal S2x4096 .f32 :=
  rChannels (rHeads (rCor (rPrR (rFtR x) (rFtI x) (rFtR y) (rFtI y)) (rPrI (rFtR x) (rFtI x) (rFtR y) (rFtI y))))
def rAvg (a : FVec Ideal S2x4096 .f32) : FVec Ideal S4096 .f32 :=
  Host.divf (Host.reduceAdd a (constant S_ .f32 0x00000000#32) reducesTo_S2x4096_S4096_d0 h_S_) (broadcastInDim S4096 ![] bcast_S_S4096 (constant S_ .f32 0x40000000#32))
def rTop (g : FVec Ideal S4096 .f32) : IVec S8 32 := (Host.topK S8 0 (FloatOps.cmpfTotal .gt) g sliceFits_S4096_S8).2
def rTook (a : FVec Ideal S2x4096 .f32) (i : IVec S8 32) : FVec Ideal S2x8 .f32 :=
  Host.gather gather_S2x4096_S8x1_S2x8_0_1_n_n_1_1_21 a (broadcastInDim S8x1 ![0] bcast_S8_S8x1_0 i)
def rExp (w : FVec Ideal S2x8 .f32) : FVec Ideal S2x8 .f32 :=
  Host.exp (subf w (broadcastInDim S2x8 ![0, 1] bcast_S2x1_S2x8_0_1 (broadcastInDim S2x1 ![0] bcast_S2_S2x1_0 (maximumf (broadcastInDim S2 ![] bcast_S_S2 (constant S_ .f32 0xFF800000#32)) (Host.reduce FloatOps.maximumf w (constant S_ .f32 0xFF800000#32) reducesTo_S2x8_S2_d1 h_S_)))))
def rSoft (e : FVec Ideal S2x8 .f32) : FVec Ideal S2x8 .f32 :=
  Host.divf e (broadcastInDim S2x8 ![0, 1] bcast_S2x1_S2x8_0_1 (broadcastInDim S2x1 ![0] bcast_S2_S2x1_0 (Host.reduceAdd e (constant S_ .f32 0x00000000#32) reducesTo_S2x8_S2_d1 h_S_)))
def rRow (i : IVec S8 32) : IVec S8x4096 32 :=
  Host.remsi (addi (broadcastInDim S8x4096 ![0, 1] bcast_S1x4096_S8x4096_0_1 (broadcastInDim S1x4096 ![1] bcast_S4096_S1x4096_1 (iotaInDim S4096 32 0))) (broadcastInDim S8x4096 ![0, 1] bcast_S8x1_S8x4096_0_1 (broadcastInDim S8x1 ![0] bcast_S8_S8x1_0 i))) (broadcastInDim S8x4096 ![] bcast_S_S8x4096 (constantI S_ 32 4096#32))
def rRolled (u : FVec Ideal S2x4096x12x64 .f32) (r : IVec S8x4096 32) : FVec Ideal S2x8x4096x12x64 .f32 :=
  Host.gather gather_S2x4096x12x64_S8x4096x1_S2x8x4096x12x64_034_1_n_n_1_2_211264 u (broadcastInDim S8x4096x1 ![0, 1] bcast_S8x4096_S8x4096x1_0_1 r)
def rSum (p : FVec Ideal S2x8x4096x12x64 .f32) (w : FVec Ideal S2x8 .f32) : FVec Ideal S2x4096x12x64 .f32 :=
  Host.reduceAdd (mulf p (broadcastInDim S2x8x4096x12x64 ![0, 1, 2, 3, 4] bcast_S2x8x1x1x1_S2x8x4096x12x64_0_1_2_3_4 (broadcastInDim S2x8x1x1x1 ![0, 1] bcast_S2x8_S2x8x1x1x1_0_1 w))) (constant S_ .f32 0x00000000#32) reducesTo_S2x8x4096x12x64_S2x4096x12x64_d1 h_S_

def rAll (x y u : FVec Ideal S2x4096x12x64 .f32) : FVec Ideal S2x4096x12x64 .f32 :=
  rSum (rRolled u (rRow (rTop (rAvg (rMean x y))))) (rSoft (rExp (rTook (rMean x y) (rTop (rAvg (rMean x y))))))

set_option maxHeartbeats 1000000 in
theorem stages (m : (ℓ : Loc nD τ sig) → Buf (Elt Ideal) ℓ) (c : Dev nD) :
    Value.res_main_v63 m c = rAll (m ((c : Thread nD τ).loc main_arg0)) (m ((c : Thread nD τ).loc main_arg1)) (m ((c : Thread nD τ).loc main_arg2)) := by
  unfold Value.res_main_v63 rAll rSum rRolled rRow rSoft rExp rTook rTop rAvg rMean rChannels rHeads rCor rPrR rPrI rFtR rFtI rCos rSin
  rfl

/-! ## Their values -/

theorem bits_12 : Ideal.ofBits .f32 0x41400000#32 = ((12 : ℝ) : EReal) := by
  simp [Ideal.ofBits, Ideal.ieee, -EReal.coe_mul]; norm_num

theorem cos_at (t f : Fin 4096) : rCos (ix2 t f) = ((cs 4096 (t.val * f.val) : ℝ) : EReal) := by
  unfold rCos
  pointwise
  rw [angle _ _ t.isLt f.isLt 4096 (by decide) _ bits_4096, Ideal.cos_coe]
  rfl
theorem sin_at (t f : Fin 4096) : rSin (ix2 t f) = ((sn 4096 (t.val * f.val) : ℝ) : EReal) := by
  unfold rSin
  pointwise
  rw [angle _ _ t.isLt f.isLt 4096 (by decide) _ bits_4096, Ideal.sin_coe]
  rfl

/-- Real numbers by batch, head, channel and frequency or shift. -/
def a4 (f : Fin 2 → Fin 12 → Fin 64 → Fin 4096 → ℝ) : S2x12x64x4096.Idx → EReal := fun j => ((f (j 0) (j 1) (j 2) (j 3) : ℝ) : EReal)
def a3 (f : Fin 2 → Fin 64 → Fin 4096 → ℝ) : S2x64x4096.Idx → EReal := fun j => ((f (j 0) (j 1) (j 2) : ℝ) : EReal)

section
variable (Q K : Fin 2 → Fin 4096 → Fin 12 → Fin 64 → ℝ) (f g p q : Fin 2 → Fin 12 → Fin 64 → Fin 4096 → ℝ)

theorem ftR_at : rFtR (arr Q) = a4 fun b h e => ftR fun t => Q b t h e := by
  funext j
  idx_vars j
  unfold rFtR
  generalize hc : rCos = c
  pointwise [arr, a4]
  subst hc
  simp only [cos_at, ftR, coe_sum, EReal.coe_mul]
theorem ftI_at : rFtI (arr Q) = a4 fun b h e => ftI fun t => Q b t h e := by
  funext j
  idx_vars j
  unfold rFtI
  generalize hc : rSin = c
  pointwise [arr, a4]
  subst hc
  simp only [sin_at, ftI, coe_sum, EReal.coe_mul, EReal.coe_neg]
theorem prR_at : rPrR (a4 f) (a4 g) (a4 p) (a4 q) = a4 fun b h e t => f b h e t * p b h e t + g b h e t * q b h e t := by
  funext j
  idx_vars j
  unfold rPrR
  pointwise [a4]
  simp only [EReal.coe_mul, EReal.coe_add]
theorem prI_at : rPrI (a4 f) (a4 g) (a4 p) (a4 q) = a4 fun b h e t => g b h e t * p b h e t - f b h e t * q b h e t := by
  funext j
  idx_vars j
  unfold rPrI
  pointwise [a4]
  simp only [EReal.coe_mul, EReal.coe_sub]
theorem cor_at : rCor (a4 p) (a4 q) = a4 fun b h e t => cor (p b h e) (q b h e) t * (1 / 4096) := by
  funext j
  idx_vars j
  unfold rCor
  generalize hc : rCos = c
  generalize hs : rSin = s
  pointwise [a4]
  subst hc hs
  simp only [cos_at, sin_at, cor]
  rw [bits_4096, Ideal.div_coe (by norm_num)]
  simp only [EReal.coe_mul, EReal.coe_sub, coe_sum, one_div]
theorem heads_at : rHeads (a4 p) = a3 fun b e t => (∑ h, p b h e t) * (1 / 12) := by
  funext j
  idx_vars j
  unfold rHeads
  pointwise [a4, a3]
  rw [bits_12, Ideal.div_coe (by norm_num)]
  simp only [EReal.coe_mul, coe_sum, one_div]
theorem channels_at (p : Fin 2 → Fin 64 → Fin 4096 → ℝ) :
    rChannels (a3 p) = fun j => (((∑ e, p (j 0) e (j 1)) * (1 / 64) : ℝ) : EReal) := by
  funext j
  idx_vars j
  unfold rChannels
  pointwise [a3]
  rw [bits_64, Ideal.div_coe (by norm_num)]
  simp only [EReal.coe_mul, coe_sum, one_div]

/-- The transform back of a sum over heads and channels is the sum of the transforms back. -/
theorem cor_sum (p q : Fin 12 → Fin 64 → Fin 4096 → ℝ) (t : Fin 4096) :
    cor (fun f => ∑ h, ∑ e, p h e f) (fun f => ∑ h, ∑ e, q h e f) t = ∑ e, ∑ h, cor (p h e) (q h e) t := by
  unfold cor
  simp only [Finset.sum_mul, Finset.sum_sub_distrib]
  have move : ∀ (r : Fin 12 → Fin 64 → Fin 4096 → ℝ), ∑ f, ∑ h, ∑ e, r h e f = ∑ e, ∑ h, ∑ f, r h e f := fun r => by
    rw [Finset.sum_comm, Finset.sum_comm (s := (Finset.univ : Finset (Fin 64)))]
    exact Finset.sum_congr rfl fun h _ => Finset.sum_comm
  rw [move fun h e f => p h e f * cs 4096 (f.val * t.val), move fun h e f => q h e f * sn 4096 (f.val * t.val)]

/-- The cross-spectrum of queries and keys, real part and imaginary part. -/
def cross (b ch : Fin 2) (f : Fin 4096) : ℝ := if ch.val = 0 then csR Q K b f else csI Q K b f

theorem cross_spec : spec Q K = AggI.spec (cross Q K) := by
  funext j
  show (if (j 1).val = 0 then ((csR Q K (j 0) (glue (j 2) (j 3)) : ℝ) : EReal) else ((csI Q K (j 0) (glue (j 2) (j 3)) : ℝ) : EReal))
    = ((if (j 1).val = 0 then csR Q K (j 0) (glue (j 2) (j 3)) else csI Q K (j 0) (glue (j 2) (j 3)) : ℝ) : EReal)
  split <;> rfl

/-- The mean over heads and channels of the transforms back, at one batch and one lag. -/
theorem mean_point (b : Fin 2) (t : Fin 4096) :
    (∑ e, (∑ h, cor
        (fun f => ftR (fun t => Q b t h e) f * ftR (fun t => K b t h e) f + ftI (fun t => Q b t h e) f * ftI (fun t => K b t h e) f)
        (fun f => ftI (fun t => Q b t h e) f * ftR (fun t => K b t h e) f - ftR (fun t => Q b t h e) f * ftI (fun t => K b t h e) f) t
      * (1 / 4096)) * (1 / 12)) * (1 / 64) = mu (cross Q K) b t := by
  have e : mu (cross Q K) b t = cor (fun f => csR Q K b f) (fun f => csI Q K b f) t * (1 / 3145728) := rfl
  rw [e]
  unfold csR csI
  rw [cor_sum]
  simp only [Finset.sum_mul]
  exact Finset.sum_congr rfl fun e _ => Finset.sum_congr rfl fun h _ => by ring

theorem mean_at : rMean (arr Q) (arr K) = fun j => ((mu (cross Q K) (j 0) (j 1) : ℝ) : EReal) := by
  unfold rMean
  rw [ftR_at, ftI_at, ftR_at, ftI_at, prR_at, prI_at, cor_at, heads_at, channels_at]
  funext j
  exact congrArg _ (mean_point Q K (j 0) (j 1))
end

theorem avg_at (S : Fin 2 → Fin 2 → Fin 4096 → ℝ) :
    rAvg (fun j => ((mu S (j 0) (j 1) : ℝ) : EReal)) = fun j => ((gmu S (j 0) : ℝ) : EReal) := by
  funext j
  idx_vars j
  unfold rAvg
  pointwise
  rw [Fin.sum_univ_two, bits_two, Ideal.div_coe (by norm_num), ← EReal.coe_add, ← EReal.coe_mul]
  congr 1
  unfold gmu
  ring

theorem exp_at (w : FVec Ideal S2x8 .f32) (b : Fin 2) (k : Fin 8) : rExp w (ix2 b k) = Ideal.exp (w (ix2 b k) - top8 fun i => w (ix2 b i)) := by
  unfold rExp
  pointwise
  rw [bits_bot, max_eq_right bot_le]
  rfl

theorem soft_at (e : FVec Ideal S2x8 .f32) (b : Fin 2) (k : Fin 8) : rSoft e (ix2 b k) = Ideal.div (e (ix2 b k)) (∑ i, e (ix2 b i)) := by
  unfold rSoft
  pointwise

theorem row_at (i : IVec S8 32) (k : Fin 8) (t s : Fin 4096) (h : i (ix1 k) = BitVec.ofNat 32 s.val) :
    rRow i (ix2 k t) = BitVec.ofNat 32 ((t.val + s.val) % 4096) := by
  unfold rRow
  pointwise
  have e : IntOp.addi (BitVec.ofNat 32 t.val) (BitVec.ofNat 32 s.val) = BitVec.ofNat 32 (t.val + s.val) := (BitVec.ofNat_add ..).symm
  rw [h, e]
  exact Routing.remsi_word .host (by omega) (by decide) (by decide)

theorem sum_at (p : FVec Ideal S2x8x4096x12x64 .f32) (w : FVec Ideal S2x8 .f32) (b : Fin 2) (t : Fin 4096) (h : Fin 12) (e : Fin 64) :
    rSum p w (ix4 b t h e) = ∑ k : Fin 8, p (ix5 b k t h e) * w (ix2 b k) := by
  unfold rSum
  pointwise

/-- The word at `k` of the sorted positions' first eight. -/
theorem topK_at (gt : EReal → EReal → BitVec 1) (x : S4096.Idx → EReal) (k : Fin 8) :
    (Host.topK S8 0 gt x sliceFits_S4096_S8).2 (ix1 k)
      = BitVec.ofNat 32 (sortedFrom (fun p q : Fin 4096 => gt (x (ix1 p)) (x (ix1 q)) == 1#1) (k.castLE (by decide))).val := by
  have ha : ∀ (j : S4096.Idx) (p : Fin 4096), j.along (0 : Fin 1) p = ix1 p := fun j p => funext fun a => by
    fin_cases a; rfl
  unfold Host.topK Host.sort2
  pointwise
  simp only [ha]
  rfl

theorem top_at (g : Fin 4096 → ℝ) (k : Fin 8) : rTop (fun j => ((g (j 0) : ℝ) : EReal)) (ix1 k) = BitVec.ofNat 32 (nth (byPos g) k.val).val := by
  have e : (fun p q : Fin 4096 => FloatOps.cmpfTotal (F := Ideal) (φ := .f32) .gt ((g p : ℝ) : EReal) ((g q : ℝ) : EReal) == 1#1)
      = fun p q => decide (byPos g (AggI.ixOf q) < byPos g (AggI.ixOf p)) := by
    funext p q
    rw [AggI.byPos_at, AggI.byPos_at]
    show (BitVec.ofBool (decide (((g q : ℝ) : EReal) < ((g p : ℝ) : EReal))) == 1#1) = _
    cases decide (((g q : ℝ) : EReal) < ((g p : ℝ) : EReal)) <;> rfl
  have hs := AggI.sorted_nth (byPos g) (fun y => EReal.coe_ne_bot _) k
  rw [← e] at hs
  rw [← hs]
  unfold rTop
  exact topK_at _ _ k

theorem took_at (a : FVec Ideal S2x4096 .f32) (i : IVec S8 32) (b : Fin 2) (k : Fin 8) (s : Fin 4096) (h : i (ix1 k) = BitVec.ofNat 32 s.val) :
    rTook a i (ix2 b k) = a (ix2 b s) := by
  have hs : (BitVec.ofNat 32 s.val).toInt.toNat = s.val := by
    have : s.val < 4096 := s.isLt
    rw [BitVec.toInt_eq_toNat_of_lt (by rw [BitVec.toNat_ofNat]; omega), BitVec.toNat_ofNat]
    omega
  unfold rTook Host.gather
  refine congrArg a (funext fun x => ?_)
  fin_cases x
  · exact Fin.ext (by show 0 + 0 + b.val = b.val; omega)
  · refine Fin.ext ?_
    refine (congrArg (fun w : BitVec 32 => min w.toInt.toNat 4095 + 0 + 0) ((congrArg i (?_ : _ = ix1 k)).trans h)).trans ?_
    · funext y; fin_cases y <;> rfl
    · show min (BitVec.ofNat 32 s.val).toInt.toNat 4095 + 0 + 0 = s.val
      rw [hs]
      omega

theorem rolled_at (u : FVec Ideal S2x4096x12x64 .f32) (r : IVec S8x4096 32) (b : Fin 2) (k : Fin 8) (t : Fin 4096) (h : Fin 12) (e : Fin 64) (s : Fin 4096)
    (hr : r (ix2 k t) = BitVec.ofNat 32 s.val) : rRolled u r (ix5 b k t h e) = u (ix4 b s h e) := by
  have hs : (BitVec.ofNat 32 s.val).toInt.toNat = s.val := by
    have : s.val < 4096 := s.isLt
    rw [BitVec.toInt_eq_toNat_of_lt (by rw [BitVec.toNat_ofNat]; omega), BitVec.toNat_ofNat]
    omega
  unfold rRolled Host.gather
  refine congrArg u (funext fun x => ?_)
  fin_cases x
  · exact Fin.ext (by show 0 + 0 + b.val = b.val; omega)
  · refine Fin.ext ?_
    refine (congrArg (fun w : BitVec 32 => min w.toInt.toNat 4095 + 0 + 0) ((congrArg r (?_ : _ = ix2 k t)).trans hr)).trans ?_
    · funext y; fin_cases y <;> rfl
    · show min (BitVec.ofNat 32 s.val).toInt.toNat 4095 + 0 + 0 = s.val
      rw [hs]
      omega
  · exact Fin.ext (by show 0 + 0 + h.val = h.val; omega)
  · exact Fin.ext (by show 0 + 0 + e.val = e.val; omega)

/-- The reference's result: the weighted sum of the values ahead by the chosen shifts. -/
theorem ref_eq (Q K : Fin 2 → Fin 4096 → Fin 12 → Fin 64 → ℝ) (u : S2x4096x12x64.Idx → EReal) (m : (ℓ : Loc nD τ sig) → Buf (Elt Ideal) ℓ) (c : Dev nD)
    (hQ : m ((c : Thread nD τ).loc main_arg0) = arr Q) (hK : m ((c : Thread nD τ).loc main_arg1) = arr K) (hu : m ((c : Thread nD τ).loc main_arg2) = u) :
    Value.res_main_v63 m c = AggI.result (cross Q K) u := by
  rw [stages, hQ, hK, hu]
  unfold rAll
  rw [mean_at]
  generalize cross Q K = S
  rw [avg_at]
  have hi := top_at (gmu S)
  generalize rTop (fun j => ((gmu S (j 0) : ℝ) : EReal)) = i at hi ⊢
  have hw : ∀ b k, rSoft (rExp (rTook (fun j => ((mu S (j 0) (j 1) : ℝ) : EReal)) i)) (ix2 b k) = AggI.weight S b k := by
    intro b k
    have ht : ∀ k, rTook (fun j => ((mu S (j 0) (j 1) : ℝ) : EReal)) i (ix2 b k) = ((mu S b (AggI.shift S k) : ℝ) : EReal) :=
      fun k => took_at _ i b k _ (hi k)
    rw [soft_at]
    simp only [exp_at, ht]
    rfl
  funext j
  idx_vars j
  rw [sum_at]
  refine Finset.sum_congr rfl fun k _ => ?_
  rw [hw, rolled_at u _ j0 k j1 _ _ (⟨(j1.val + (AggI.shift S k).val) % 4096, by omega⟩ : Fin 4096) (row_at i k j1 _ (hi k)), mul_comm]
  rfl

end Autocorr.Ref

end

end
-- ==== Proof.One.lean ====
/- The first call as a program of its own: it leaves the cross-spectrum that its reference computes. -/
module

public import proofs.«01_k».proof.Proof.Finite
public import proofs.«01_k».proof.Proof.Gen.Pre_finite1
public import proofs.«01_k».proof.Proof.Gen.SpectrumIdeal.Value
public import proofs.«01_k».proof.Proof.Gen.SpectrumReferenceIdeal.Run
public import Idealize.ShloMosaic.Lib.StableHlo.ReadAt

@[expose] public section

set_option maxRecDepth 16384

noncomputable section

namespace Autocorr.One

open Idealize.ShloMosaic Idealize.ShloMosaic.TcCoe
open scoped BigOperators

section
open Cert.SpectrumIdeal Cert.SpectrumIdeal.Gen

/-! ## One grid point leaves what the same point leaves in the whole kernel -/

section
variable (fr fi wr wi : Fin 64 → Fin 64 → ℝ) (X Y : Fin 64 → Fin 128 → Fin 64 → ℝ)

theorem outA (c : Dev nD) (pt : Fin cfg0.N) (h0 h1) :
    out0_A_6 (F := Ideal) c (grid0.coords pt) (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) h0 h1 (mb X) (mb Y) (m2 fr) (m2 fi) (m2 wr) (m2 wi)
      = ox (ptR fr fi wr wi X Y) (ptI fr fi wr wi X Y) := by
  refine Eq.trans ?_ (Autocorr.outA fr fi wr wi X Y c pt h0 h1)
  funext j
  frame_out
  rfl

theorem outB (c : Dev nD) (pt : Fin cfg0.N) (h0 h1) (f g : Fin 64 → Fin 64 → ℝ) :
    out0_B_6 (F := Ideal) c (grid0.coords pt) (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) h0 h1 (mb X) (mb Y) (m2 fr) (m2 fi) (m2 wr) (m2 wi) (ox f g)
      = ox (fun a e => f a e + ptR fr fi wr wi X Y a e) (fun a e => g a e + ptI fr fi wr wi X Y a e) := by
  refine Eq.trans ?_ (Autocorr.outB fr fi wr wi X Y c pt h0 h1 f g)
  funext j
  frame_out
  rfl
end

/-! ## The blocks -/

variable (m : (ℓ : Loc nD τ sig) → Buf (Elt Ideal) ℓ) (c : Dev nD)

theorem idx0 : ∀ t, win0_0.index t = ![t.val / 6, 0, t.val % 6, 0] := by decide +kernel
theorem idx1 : ∀ t, win0_1.index t = ![t.val / 6, 0, t.val % 6, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel

/-- The queries as the call takes them: the channels one after another, the times split in two. -/
theorem ent1 (Q : Fin 2 → Fin 4096 → Fin 12 → Fin 64 → ℝ) (h : m ((c : Thread nD τ).loc main_arg0) = arr Q) :
    V m c main_call0_v1 = arr4 Q := by
  funext j
  idx_vars j
  unfold V
  after_reads_at
  pointwise [chan, arr, arr4, h]
  have e : (⟨j3.val * 64 + j1.val, by omega⟩ : Fin 4096) = glue j3 j1 := Fin.ext (by simp only [glue]; omega)
  rw [e]

theorem blk0 (Q : Fin 2 → Fin 4096 → Fin 12 → Fin 64 → ℝ) (h : m ((c : Thread nD τ).loc main_arg0) = arr Q) (t : Fin cfg0.N) :
    iblk m c 0 t = mb (fun a d b => chan Q (pb t) (pd t d) (glue b a)) := by
  funext j
  idx_vars j
  blk_simp [iblk]
  rw [ent1 m c Q h]
  have e : mb (fun a d b => chan Q (pb t) (pd t d) (glue b a)) (ix4 j0 j1 j2 j3) = arr4 Q (ix4 (pb t) j1 (pd t j2) j3) := rfl
  rw [e]
  blk_ext [idx0 t, pb, pd]

theorem ent3 (Q : Fin 2 → Fin 4096 → Fin 12 → Fin 64 → ℝ) (h : m ((c : Thread nD τ).loc main_arg1) = arr Q) :
    V m c main_call0_v3 = arr4 Q := by
  funext j
  idx_vars j
  unfold V
  after_reads_at
  pointwise [chan, arr, arr4, h]
  have e : (⟨j3.val * 64 + j1.val, by omega⟩ : Fin 4096) = glue j3 j1 := Fin.ext (by simp only [glue]; omega)
  rw [e]

theorem blk1 (Q : Fin 2 → Fin 4096 → Fin 12 → Fin 64 → ℝ) (h : m ((c : Thread nD τ).loc main_arg1) = arr Q) (t : Fin cfg0.N) :
    iblk m c 1 t = mb (fun a d b => chan Q (pb t) (pd t d) (glue b a)) := by
  funext j
  idx_vars j
  blk_simp [iblk]
  rw [ent3 m c Q h]
  have e : mb (fun a d b => chan Q (pb t) (pd t d) (glue b a)) (ix4 j0 j1 j2 j3) = arr4 Q (ix4 (pb t) j1 (pd t j2) j3) := rfl
  rw [e]
  blk_ext [idx1 t, pb, pd]

theorem ent19 : V m c main_call0_v19 = m2 tFr := by
  funext j
  idx_vars j
  unfold V
  after_reads_at
  pointwise [m2]
  rw [angle j0 j1 (by omega) (by omega) 64 (by decide) _ bits_64]
  rfl

theorem blk2 (t : Fin cfg0.N) : iblk m c 2 t = m2 tFr := by
  funext j
  idx_vars j
  blk_simp [iblk]
  rw [ent19]
  blk_ext [idx2 t]

theorem ent21 : V m c main_call0_v21 = m2 tFi := by
  funext j
  idx_vars j
  unfold V
  after_reads_at
  pointwise [m2]
  rw [angle j0 j1 (by omega) (by omega) 64 (by decide) _ bits_64]
  rfl

theorem blk3 (t : Fin cfg0.N) : iblk m c 3 t = m2 tFi := by
  funext j
  idx_vars j
  blk_simp [iblk]
  rw [ent21]
  blk_ext [idx3 t]

theorem ent22 : V m c main_call0_v22 = m2 tWr := by
  funext j
  idx_vars j
  unfold V
  after_reads_at
  pointwise [m2]
  rw [angle j0 j1 (by omega) (by omega) 4096 (by decide) _ bits_4096]
  rfl

theorem blk4 (t : Fin cfg0.N) : iblk m c 4 t = m2 tWr := by
  funext j
  idx_vars j
  blk_simp [iblk]
  rw [ent22]
  blk_ext [idx4 t]

theorem ent24 : V m c main_call0_v24 = m2 tWi := by
  funext j
  idx_vars j
  unfold V
  after_reads_at
  pointwise [m2]
  rw [angle j0 j1 (by omega) (by omega) 4096 (by decide) _ bits_4096]
  rfl

theorem blk5 (t : Fin cfg0.N) : iblk m c 5 t = m2 tWi := by
  funext j
  idx_vars j
  blk_simp [iblk]
  rw [ent24]
  blk_ext [idx5 t]

variable (Q K : Fin 2 → Fin 4096 → Fin 12 → Fin 64 → ℝ)

theorem xb_eq (t : Fin cfg0.N) : (fun a d b => chan Q (pb t) (pd t d) (glue b a)) = xb Q (t.val / 6) (t.val % 6) := by
  have hN : t.val < 12 := t.isLt
  funext a d b
  have h0 : pb t = (⟨t.val / 6 % 2, by omega⟩ : Fin 2) := Fin.ext (by simp only [pb]; omega)
  have h1 : (pd t d).val = (128 * (t.val % 6) + d.val) % 768 := by simp only [pd]; omega
  simp only [xb, chn, chan, h0, h1]

/-- What the accumulator's block holds after point `n`: the cross-spectrum of its sequence's blocks so far. -/
theorem outs_eq (hQ : m ((c : Thread nD τ).loc main_arg0) = arr Q) (hK : m ((c : Thread nD τ).loc main_arg1) = arr K) :
    ∀ (n : ℕ) (h : n < cfg0.N), outsAt0 m c n h = ox (paR Q K (n / 6) (n % 6 + 1)) (paI Q K (n / 6) (n % 6 + 1)) := by
  intro n
  induction n with
  | zero =>
    intro h
    refine (outsAt0_A m c ⟨0, h⟩ rfl (by dsimp only; omega)).trans ?_
    rw [blk0 m c Q hQ, blk1 m c K hK, blk2, blk3, blk4, blk5, outA, xb_eq, xb_eq]
    refine congrArg₂ ox ?_ ?_ <;> funext a e <;> simp [paR, paI]
  | succ n ih =>
    intro h
    by_cases h0 : (n + 1) % 6 = 0
    · refine (outsAt0_A m c ⟨n + 1, h⟩ h0 (by dsimp only; omega)).trans ?_
      rw [blk0 m c Q hQ, blk1 m c K hK, blk2, blk3, blk4, blk5, outA, xb_eq, xb_eq]
      refine congrArg₂ ox ?_ ?_ <;> funext a e <;> simp [paR, paI, h0]
    · refine (outsAt0_B m c ⟨n + 1, h⟩ h0 (by dsimp only; omega)).trans ?_
      have hp : ∀ hh, outsAt0 m c ((⟨n + 1, h⟩ : Fin cfg0.N).val - 1) hh = ox (paR Q K (n / 6) (n % 6 + 1)) (paI Q K (n / 6) (n % 6 + 1)) := fun hh => ih hh
      rw [hp, blk0 m c Q hQ, blk1 m c K hK, blk2, blk3, blk4, blk5, outB, xb_eq, xb_eq]
      have h1 : (n + 1) / 6 = n / 6 := by omega
      have h2 : (n + 1) % 6 = n % 6 + 1 := by omega
      refine congrArg₂ ox ?_ ?_ <;> funext a e <;> simp only [paR, paI, h1, h2] <;> rw [Finset.sum_range_succ _ (n % 6 + 1)]

theorem idx6 : ∀ t, win0_6.index t = ![t.val / 6, 0, 0, 0] := by decide +kernel

/-- The call's result array ends as the cross-spectrum. -/
theorem final (hQ : m ((c : Thread nD τ).loc main_arg0) = arr Q) (hK : m ((c : Thread nD τ).loc main_arg1) = arr K) :
    (dats m 0 c).arrAt 6 cfg0.N = spec Q K := by
  refine (dats m 0 c).arrAt_eq_of_covers 6 _ (by decide +kernel) fun t hf y => ?_
  have hN : t.val < 12 := t.isLt
  have h5 : t.val % 6 = 5 := (flush0_6 t).mp hf
  blk_simp
  rw [after0_6, outs_eq m c Q K hQ hK, h5]
  have hb : t.val / 6 < 2 := by omega
  have e : ∀ y : S1x2x64x64.Idx, ox (paR Q K (t.val / 6) 6) (paI Q K (t.val / 6) 6) y = spec Q K (ix4 ⟨t.val / 6, hb⟩ (y 1) (y 2) (y 3)) := by
    intro y
    idx_vars y
    change (if y1.val = 0 then ((paR Q K (t.val / 6) 6 y2 y3 : ℝ) : EReal) else ((paI Q K (t.val / 6) 6 y2 y3 : ℝ) : EReal))
      = if y1.val = 0 then ((csR Q K ⟨t.val / 6, hb⟩ (glue y2 y3) : ℝ) : EReal) else ((csI Q K ⟨t.val / 6, hb⟩ (glue y2 y3) : ℝ) : EReal)
    rw [← paR_all Q K ⟨t.val / 6, hb⟩ y2 y3, ← paI_all Q K ⟨t.val / 6, hb⟩ y2 y3]
  refine (e y).trans (congrArg (spec Q K) ?_)
  funext a
  fin_cases a <;> apply Fin.ext <;> blk_simp [idx6 t]
  all_goals rfl

end

/-- The reference's two sums over time are the parts of the transform. -/
theorem sum_cos (y : Fin 4096 → ℝ) (a b : Fin 64) :
    ∑ t : Fin 4096, ((y t : ℝ) : EReal) * Ideal.cos (FloatOps.sitofp (F := Ideal) FTy.f32 (IntOp.muli (BitVec.ofNat 32 t.val) (BitVec.ofNat 32 (a.val * 64 + b.val))) *
        Ideal.div (Ideal.ofBits FTy.f32 1073741824#32 * Ideal.acos (Ideal.ofBits FTy.f32 3212836864#32)) (Ideal.ofBits FTy.f32 1166016512#32))
      = ((ftR y (glue a b) : ℝ) : EReal) := by
  rw [ftR, coe_sum]
  refine Finset.sum_congr rfl fun t _ => ?_
  have e : a.val * 64 + b.val = (glue a b).val := by simp only [glue]; omega
  rw [e, angle _ _ t.isLt (glue a b).isLt 4096 (by decide) _ bits_4096, Ideal.cos_coe, EReal.coe_mul]
  rfl

theorem sum_sin (y : Fin 4096 → ℝ) (a b : Fin 64) :
    -∑ t : Fin 4096, ((y t : ℝ) : EReal) * Ideal.sin (FloatOps.sitofp (F := Ideal) FTy.f32 (IntOp.muli (BitVec.ofNat 32 t.val) (BitVec.ofNat 32 (a.val * 64 + b.val))) *
        Ideal.div (Ideal.ofBits FTy.f32 1073741824#32 * Ideal.acos (Ideal.ofBits FTy.f32 3212836864#32)) (Ideal.ofBits FTy.f32 1166016512#32))
      = ((ftI y (glue a b) : ℝ) : EReal) := by
  rw [ftI, EReal.coe_neg, coe_sum]
  refine congrArg _ (Finset.sum_congr rfl fun t _ => ?_)
  have e : a.val * 64 + b.val = (glue a b).val := by simp only [glue]; omega
  rw [e, angle _ _ t.isLt (glue a b).isLt 4096 (by decide) _ bits_4096, Ideal.sin_coe, EReal.coe_mul]
  rfl

open Cert.SpectrumReferenceIdeal Cert.SpectrumReferenceIdeal.Value in
/-- The reference's result is the cross-spectrum. -/
theorem ref_eq (m : (ℓ : Loc nD τ sig) → Buf (Elt Ideal) ℓ) (c : Dev nD) (Q K : Fin 2 → Fin 4096 → Fin 12 → Fin 64 → ℝ)
    (hQ : m ((c : Thread nD τ).loc main_arg0) = arr Q) (hK : m ((c : Thread nD τ).loc main_arg1) = arr K) :
    res_out0 m c = spec Q K := by
  unfold res_out0 res_main_v33
  rw [hQ, hK]
  clean_types
  funext j
  idx_vars j
  pointwise [arr, spec]
  simp only [csR, csI, coe_sum, EReal.coe_add, EReal.coe_sub, EReal.coe_mul, ← sum_cos, ← sum_sin, Nat.lt_one_iff, dite_eq_ite]

/-- Under the precondition each argument is an array of real numbers. -/
theorem finite_args (x y : Cert.Pre_finite1.S2x4096x12x64.Idx → EReal) (h : Cert.Pre_finite1.fn (F := Ideal) x y = fun _ => 1#1) :
    (∃ Q, x = arr Q) ∧ ∃ K, y = arr K := by
  have h0 := congrFun h (fun a => a.elim0)
  unfold Cert.Pre_finite1.fn at h0
  obtain ⟨hx, hy⟩ := and_one h0
  haveI : Subsingleton Cert.Pre_finite1.S_.Idx := ⟨fun a b => funext fun k => k.elim0⟩
  refine ⟨fin_arr x fun j => ?_, fin_arr y fun j => ?_⟩
  · obtain ⟨h1, h2⟩ := and_one (Host.reduce_andi_all _ _ _ _ _ hx j)
    exact fin_of _ h1 h2
  · obtain ⟨h1, h2⟩ := and_one (Host.reduce_andi_all _ _ _ _ _ hy j)
    exact fin_of _ h1 h2

end Autocorr.One

end
-- ==== Proof.lean ====
module

public import proofs.«01_k».proof.Defs
public import proofs.«01_k».proof.Proof.Gen.Pre_finite
public import proofs.«01_k».proof.Proof.Gen.Pre_finite1
public import proofs.«01_k».proof.Proof.Gen.Spectrum.Frame
public import proofs.«01_k».proof.Proof.Gen.SpectrumIdeal.Value
public import proofs.«01_k».proof.Proof.Gen.SpectrumReferenceIdeal.Run
public import proofs.«01_k».proof.Proof.RunB
public import proofs.«01_k».proof.Proof.Finite
public import proofs.«01_k».proof.Proof.Ref
public import proofs.«01_k».proof.Proof.One
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's runs keep their arguments and end with every counter at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  (θ_run Cert.Kernel.defs _ _).mono (fun _ h => ⟨fun c => (h.1 c).2, h.2⟩) (Autocorr.AggB.run_result m g)

/-- So do its runs over the extended reals. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Autocorr.AggI.run_result m g)

/-- So do the reference's. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel's result is the reference's. -/
theorem value : Cert.algebraic_KernelIdeal_ReferenceIdeal_pre_finite := by
  intro m g m' g' hpre hagree
  refine ⟨fun c => Autocorr.AggI.W5 m c (Proc.devRef .tc Cert.KernelIdeal.main_v0),
    (θ_run Cert.KernelIdeal.defs _ _).mono (fun r h => h.1) (Autocorr.AggI.run_result m g), ?_⟩
  refine (θ_run Cert.ReferenceIdeal.defs _ _).mono ?_ (Cert.ReferenceIdeal.Value.run m' g')
  intro r h c
  refine ⟨(h c).1.trans ?_, (h c).2⟩
  obtain ⟨⟨Q, hQ⟩, K, hK⟩ := Autocorr.finite_args _ _ _ (hpre c)
  have hs := (Autocorr.AggI.spectrum_eq m c Q K hQ hK).trans (Autocorr.Ref.cross_spec Q K)
  exact (Autocorr.Ref.ref_eq Q K _ m' c ((hagree c).1.trans hQ) ((hagree c).2.1.trans hK) (hagree c).2.2).trans
    (Autocorr.AggI.result_eq m c _ hs _ rfl).symm

/-- The first call's reference keeps its arguments and ends with every counter at zero. -/
theorem spectrum_ref_frame (m : (ℓ : Loc Cert.SpectrumReferenceIdeal.nD Cert.SpectrumReferenceIdeal.τ Cert.SpectrumReferenceIdeal.sig) → Buf (Elt Ideal) ℓ)
    (g : Dev Cert.SpectrumReferenceIdeal.nD → PrngReg) :
    θ_run (Cert.SpectrumReferenceIdeal.defs (F := Ideal)) (onTc (τ := Cert.SpectrumReferenceIdeal.τ) (Cert.SpectrumReferenceIdeal.main (F := Ideal))) ⟨m, fun _ => 0, g⟩ (fun r =>
      (∀ c : Dev Cert.SpectrumReferenceIdeal.nD,
        r.2.mem ((c.tc : Thread Cert.SpectrumReferenceIdeal.nD Cert.SpectrumReferenceIdeal.τ).loc Cert.SpectrumReferenceIdeal.main_arg0) = m ((c.tc : Thread Cert.SpectrumReferenceIdeal.nD Cert.SpectrumReferenceIdeal.τ).loc Cert.SpectrumReferenceIdeal.main_arg0)
        ∧ r.2.mem ((c.tc : Thread Cert.SpectrumReferenceIdeal.nD Cert.SpectrumReferenceIdeal.τ).loc Cert.SpectrumReferenceIdeal.main_arg1) = m ((c.tc : Thread Cert.SpectrumReferenceIdeal.nD Cert.SpectrumReferenceIdeal.τ).loc Cert.SpectrumReferenceIdeal.main_arg1))
      ∧ r.2.sem = fun _ => 0) :=
  (θ_run Cert.SpectrumReferenceIdeal.defs _ _).mono (fun r h => ⟨fun c => (h c).2, sem_eq_zero_of_no_sems (by decide) r.2⟩)
    (Cert.SpectrumReferenceIdeal.Value.run m g)

/-- The first call's result is its reference's. -/
theorem spectrum_value : Cert.algebraic_SpectrumIdeal_SpectrumReferenceIdeal_pre_finite1 := by
  intro m g m' g' hpre hagree
  refine ⟨fun c => (Cert.SpectrumIdeal.Gen.dats m 0 c).arrAt 6 Cert.SpectrumIdeal.cfg0.N, Cert.SpectrumIdeal.Value.run_blocks m g, ?_⟩
  refine (θ_run Cert.SpectrumReferenceIdeal.defs _ _).mono ?_ (Cert.SpectrumReferenceIdeal.Value.run m' g')
  intro r h c
  refine ⟨(h c).1.trans ?_, (h c).2⟩
  obtain ⟨⟨Q, hQ⟩, K, hK⟩ := Autocorr.One.finite_args _ _ (hpre c)
  exact (Autocorr.One.ref_eq m' c Q K ((hagree c).1.trans hQ) ((hagree c).2.trans hK)).trans (Autocorr.One.final m c Q K hQ hK).symm

theorem claim : Cert.Claim :=
  ⟨Cert.Kernel.Gen.facts, Cert.KernelIdeal.Gen.facts, Cert.ReferenceIdeal.Gen.facts, Cert.Spectrum.Gen.facts, Cert.SpectrumIdeal.Gen.facts,
    Cert.SpectrumReferenceIdeal.Gen.facts, Cert.Pre_finite.Gen.facts, Cert.Pre_finite1.Gen.facts,
    fun m ρ _ => frame m ρ, fun m ρ _ => frame_ideal m ρ, fun m ρ _ => frame_ideal m ρ,
    fun m ρ _ => ref_frame m ρ, fun m ρ _ => ref_frame m ρ,
    fun m ρ _ => Cert.Spectrum.Gen.frame m ρ, fun m ρ _ => Cert.SpectrumIdeal.Gen.frame m ρ, fun m ρ _ => Cert.SpectrumIdeal.Gen.frame m ρ,
    fun m ρ _ => spectrum_ref_frame m ρ, fun m ρ _ => spectrum_ref_frame m ρ,
    IdealRules.named_const.statement _ _ _ _ _ rfl, value, trivial, spectrum_value⟩

end Cert.Proof

end
